-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)) (v5 : (c : Dev Cert.KernelIdeal.nD) → Buf (Elt Ideal) ((c.tc : Thread Cert.KernelIdeal.nD Cert.KernelIdeal.τ).loc Cert.KernelIdeal.main_v10_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_v10_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_v124) = v3 c
          ∧ r.2.mem ((c.tc : Thread Cert.ReferenceIdeal.nD Cert.ReferenceIdeal.τ).loc Cert.ReferenceIdeal.main_v125) = v4 c
          ∧ r.2.mem ((c.tc : Thread Cert.ReferenceIdeal.nD Cert.ReferenceIdeal.τ).loc Cert.ReferenceIdeal.main_v120) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_v59) = v2 c
          ∧ r.2.mem ((c.tc : Thread Cert.Reference4Ideal.nD Cert.Reference4Ideal.τ).loc Cert.Reference4Ideal.main_v64) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)) (v4 : (c : Dev Cert.Kernel5Ideal.nD) → Buf (Elt Ideal) ((c.tc : Thread Cert.Kernel5Ideal.nD Cert.Kernel5Ideal.τ).loc Cert.Kernel5Ideal.main_v3_4)) (v5 : (c : Dev Cert.Kernel5Ideal.nD) → Buf (Elt Ideal) ((c.tc : Thread Cert.Kernel5Ideal.nD Cert.Kernel5Ideal.τ).loc Cert.Kernel5Ideal.main_v3_5)) (v6 : (c : Dev Cert.Kernel5Ideal.nD) → Buf (Elt Ideal) ((c.tc : Thread Cert.Kernel5Ideal.nD Cert.Kernel5Ideal.τ).loc Cert.Kernel5Ideal.main_v3_6)) (v7 : (c : Dev Cert.Kernel5Ideal.nD) → Buf (Elt Ideal) ((c.tc : Thread Cert.Kernel5Ideal.nD Cert.Kernel5Ideal.τ).loc Cert.Kernel5Ideal.main_v3_7)) (v8 : (c : Dev Cert.Kernel5Ideal.nD) → Buf (Elt Ideal) ((c.tc : Thread Cert.Kernel5Ideal.nD Cert.Kernel5Ideal.τ).loc Cert.Kernel5Ideal.main_v3_8)) (v9 : (c : Dev Cert.Kernel5Ideal.nD) → Buf (Elt Ideal) ((c.tc : Thread Cert.Kernel5Ideal.nD Cert.Kernel5Ideal.τ).loc Cert.Kernel5Ideal.main_v3_9)) (v10 : (c : Dev Cert.Kernel5Ideal.nD) → Buf (Elt Ideal) ((c.tc : Thread Cert.Kernel5Ideal.nD Cert.Kernel5Ideal.τ).loc Cert.Kernel5Ideal.main_v3_10)) (v11 : (c : Dev Cert.Kernel5Ideal.nD) → Buf (Elt Ideal) ((c.tc : Thread Cert.Kernel5Ideal.nD Cert.Kernel5Ideal.τ).loc Cert.Kernel5Ideal.main_v3_11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_v3_4) = v4 c
          ∧ r.2.mem ((c.tc : Thread Cert.Kernel5Ideal.nD Cert.Kernel5Ideal.τ).loc Cert.Kernel5Ideal.main_v3_5) = v5 c
          ∧ r.2.mem ((c.tc : Thread Cert.Kernel5Ideal.nD Cert.Kernel5Ideal.τ).loc Cert.Kernel5Ideal.main_v3_6) = v6 c
          ∧ r.2.mem ((c.tc : Thread Cert.Kernel5Ideal.nD Cert.Kernel5Ideal.τ).loc Cert.Kernel5Ideal.main_v3_7) = v7 c
          ∧ r.2.mem ((c.tc : Thread Cert.Kernel5Ideal.nD Cert.Kernel5Ideal.τ).loc Cert.Kernel5Ideal.main_v3_8) = v8 c
          ∧ r.2.mem ((c.tc : Thread Cert.Kernel5Ideal.nD Cert.Kernel5Ideal.τ).loc Cert.Kernel5Ideal.main_v3_9) = v9 c
          ∧ r.2.mem ((c.tc : Thread Cert.Kernel5Ideal.nD Cert.Kernel5Ideal.τ).loc Cert.Kernel5Ideal.main_v3_10) = v10 c
          ∧ r.2.mem ((c.tc : Thread Cert.Kernel5Ideal.nD Cert.Kernel5Ideal.τ).loc Cert.Kernel5Ideal.main_v3_11) = v11 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v14) = v2 c
          ∧ r.2.mem ((c.tc : Thread Cert.Reference5Ideal.nD Cert.Reference5Ideal.τ).loc Cert.Reference5Ideal.main_v20) = v3 c
          ∧ r.2.mem ((c.tc : Thread Cert.Reference5Ideal.nD Cert.Reference5Ideal.τ).loc Cert.Reference5Ideal.main_v7) = v4 c
          ∧ r.2.mem ((c.tc : Thread Cert.Reference5Ideal.nD Cert.Reference5Ideal.τ).loc Cert.Reference5Ideal.main_v57) = v5 c
          ∧ r.2.mem ((c.tc : Thread Cert.Reference5Ideal.nD Cert.Reference5Ideal.τ).loc Cert.Reference5Ideal.main_v38) = v6 c
          ∧ r.2.mem ((c.tc : Thread Cert.Reference5Ideal.nD Cert.Reference5Ideal.τ).loc Cert.Reference5Ideal.main_v44) = v7 c
          ∧ r.2.mem ((c.tc : Thread Cert.Reference5Ideal.nD Cert.Reference5Ideal.τ).loc Cert.Reference5Ideal.main_v9) = v8 c
          ∧ r.2.mem ((c.tc : Thread Cert.Reference5Ideal.nD Cert.Reference5Ideal.τ).loc Cert.Reference5Ideal.main_v81) = v9 c
          ∧ r.2.mem ((c.tc : Thread Cert.Reference5Ideal.nD Cert.Reference5Ideal.τ).loc Cert.Reference5Ideal.main_v62) = v10 c
          ∧ r.2.mem ((c.tc : Thread Cert.Reference5Ideal.nD Cert.Reference5Ideal.τ).loc Cert.Reference5Ideal.main_v68) = v11 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_v12) = v2 c
          ∧ r.2.mem ((c.tc : Thread Cert.Reference6Ideal.nD Cert.Reference6Ideal.τ).loc Cert.Reference6Ideal.main_v18) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m ((c.tc : Thread Cert.Kernel7Ideal.nD Cert.Kernel7Ideal.τ).loc Cert.Kernel7Ideal.main_arg0) = m' (((0 : Dev Cert.Reference7Ideal.nD).tc : Thread Cert.Reference7Ideal.nD Cert.Reference7Ideal.τ).loc Cert.Reference7Ideal.main_arg0)
      ∧ m ((c.tc : Thread Cert.Kernel7Ideal.nD Cert.Kernel7Ideal.τ).loc Cert.Kernel7Ideal.main_arg1) = m' (((0 : Dev Cert.Reference7Ideal.nD).tc : Thread Cert.Reference7Ideal.nD Cert.Reference7Ideal.τ).loc Cert.Reference7Ideal.main_arg1)
      ∧ m ((c.tc : Thread Cert.Kernel7Ideal.nD Cert.Kernel7Ideal.τ).loc Cert.Kernel7Ideal.main_arg2) = Layout.block ⟨2, ![1024, 768]⟩ ⟨2, ![1024, 6144]⟩ 1 8 c (m' (((0 : Dev Cert.Reference7Ideal.nD).tc : Thread Cert.Reference7Ideal.nD Cert.Reference7Ideal.τ).loc Cert.Reference7Ideal.main_arg2))
      ∧ m ((c.tc : Thread Cert.Kernel7Ideal.nD Cert.Kernel7Ideal.τ).loc Cert.Kernel7Ideal.main_arg3) = Layout.block ⟨2, ![1024, 768]⟩ ⟨2, ![1024, 6144]⟩ 1 8 c (m' (((0 : Dev Cert.Reference7Ideal.nD).tc : Thread Cert.Reference7Ideal.nD Cert.Reference7Ideal.τ).loc Cert.Reference7Ideal.main_arg3))
      ∧ m ((c.tc : Thread Cert.Kernel7Ideal.nD Cert.Kernel7Ideal.τ).loc Cert.Kernel7Ideal.main_arg4) = Layout.block ⟨2, ![1024, 768]⟩ ⟨2, ![1024, 6144]⟩ 1 8 c (m' (((0 : Dev Cert.Reference7Ideal.nD).tc : Thread Cert.Reference7Ideal.nD Cert.Reference7Ideal.τ).loc Cert.Reference7Ideal.main_arg4))) →
    ∃ (v0 : Buf (Elt Ideal) (((0 : Dev Cert.Reference7Ideal.nD).tc : Thread Cert.Reference7Ideal.nD Cert.Reference7Ideal.τ).loc Cert.Reference7Ideal.main_v3)) (v1 : Buf (Elt Ideal) (((0 : Dev Cert.Reference7Ideal.nD).tc : Thread Cert.Reference7Ideal.nD Cert.Reference7Ideal.τ).loc Cert.Reference7Ideal.main_v27)) (v2 : Buf (Elt Ideal) (((0 : Dev Cert.Reference7Ideal.nD).tc : Thread Cert.Reference7Ideal.nD Cert.Reference7Ideal.τ).loc Cert.Reference7Ideal.main_v8)) (v3 : Buf (Elt Ideal) (((0 : Dev Cert.Reference7Ideal.nD).tc : Thread Cert.Reference7Ideal.nD Cert.Reference7Ideal.τ).loc Cert.Reference7Ideal.main_v14)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = Layout.block ⟨2, ![1024, 768]⟩ ⟨2, ![1024, 6144]⟩ 1 8 c v0
          ∧ r.2.mem ((c.tc : Thread Cert.Kernel7Ideal.nD Cert.Kernel7Ideal.τ).loc Cert.Kernel7Ideal.main_v1_1) = Layout.block ⟨2, ![1024, 768]⟩ ⟨2, ![1024, 6144]⟩ 1 8 c v1
          ∧ r.2.mem ((c.tc : Thread Cert.Kernel7Ideal.nD Cert.Kernel7Ideal.τ).loc Cert.Kernel7Ideal.main_v1_2) = Layout.block ⟨2, ![1024, 768]⟩ ⟨2, ![1024, 6144]⟩ 1 8 c v2
          ∧ r.2.mem ((c.tc : Thread Cert.Kernel7Ideal.nD Cert.Kernel7Ideal.τ).loc Cert.Kernel7Ideal.main_v1_3) = Layout.block ⟨2, ![1024, 768]⟩ ⟨2, ![1024, 6144]⟩ 1 8 c v3
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r =>
          r.2.mem (((0 : Dev Cert.Reference7Ideal.nD).tc : Thread Cert.Reference7Ideal.nD Cert.Reference7Ideal.τ).loc Cert.Reference7Ideal.main_v3) = v0
          ∧ r.2.mem (((0 : Dev Cert.Reference7Ideal.nD).tc : Thread Cert.Reference7Ideal.nD Cert.Reference7Ideal.τ).loc Cert.Reference7Ideal.main_v27) = v1
          ∧ r.2.mem (((0 : Dev Cert.Reference7Ideal.nD).tc : Thread Cert.Reference7Ideal.nD Cert.Reference7Ideal.τ).loc Cert.Reference7Ideal.main_v8) = v2
          ∧ r.2.mem (((0 : Dev Cert.Reference7Ideal.nD).tc : Thread Cert.Reference7Ideal.nD Cert.Reference7Ideal.τ).loc Cert.Reference7Ideal.main_v14) = v3
          ∧ r.2.mem (((0 : Dev Cert.Reference7Ideal.nD).tc : Thread Cert.Reference7Ideal.nD Cert.Reference7Ideal.τ).loc Cert.Reference7Ideal.main_arg0) = m' (((0 : Dev Cert.Reference7Ideal.nD).tc : Thread Cert.Reference7Ideal.nD Cert.Reference7Ideal.τ).loc Cert.Reference7Ideal.main_arg0)
          ∧ r.2.mem (((0 : Dev Cert.Reference7Ideal.nD).tc : Thread Cert.Reference7Ideal.nD Cert.Reference7Ideal.τ).loc Cert.Reference7Ideal.main_arg1) = m' (((0 : Dev Cert.Reference7Ideal.nD).tc : Thread Cert.Reference7Ideal.nD Cert.Reference7Ideal.τ).loc Cert.Reference7Ideal.main_arg1)
          ∧ r.2.mem (((0 : Dev Cert.Reference7Ideal.nD).tc : Thread Cert.Reference7Ideal.nD Cert.Reference7Ideal.τ).loc Cert.Reference7Ideal.main_arg2) = m' (((0 : Dev Cert.Reference7Ideal.nD).tc : Thread Cert.Reference7Ideal.nD Cert.Reference7Ideal.τ).loc Cert.Reference7Ideal.main_arg2)
          ∧ r.2.mem (((0 : Dev Cert.Reference7Ideal.nD).tc : Thread Cert.Reference7Ideal.nD Cert.Reference7Ideal.τ).loc Cert.Reference7Ideal.main_arg3) = m' (((0 : Dev Cert.Reference7Ideal.nD).tc : Thread Cert.Reference7Ideal.nD Cert.Reference7Ideal.τ).loc Cert.Reference7Ideal.main_arg3)
          ∧ r.2.mem (((0 : Dev Cert.Reference7Ideal.nD).tc : Thread Cert.Reference7Ideal.nD Cert.Reference7Ideal.τ).loc Cert.Reference7Ideal.main_arg4) = m' (((0 : Dev Cert.Reference7Ideal.nD).tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg8 : FVec F S2816x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2816x1024 .f32 := Host.absf main_arg8
  let main_cst_14 : FVec F S_ .f32 := constant S_ .f32 0x7F800000#32
  let main_v33 : FVec F S2816x1024 .f32 := broadcastInDim S2816x1024 ![] bcast_S_S2816x1024 main_cst_14
  let main_v34 : IVec S2816x1024 1 := cmpf .olt main_v32 main_v33
  let main_c_15 : IVec S_ 1 := constantI S_ 1 1#1
  let main_v35 : IVec S_ 1 := (fun x v => Host.reduce IntOp.andi x v reducesTo_S2816x1024_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x1024 .f32) (main_arg5 : FVec F S1x1024 .f32) (main_arg6 : FVec F S1x1024 .f32) (main_arg7 : FVec F S1024x5632 .f32) (main_arg8 : FVec F S2816x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S1024x5632 .f32 := Host.absf main_arg7
  let main_cst_12 : FVec F S_ .f32 := constant S_ .f32 0x7F800000#32
  let main_v29 : FVec F S1024x5632 .f32 := broadcastInDim S1024x5632 ![] bcast_S_S1024x5632 main_cst_12
  let main_v30 : IVec S1024x5632 1 := cmpf .olt main_v28 main_v29
  let main_c_13 : IVec S_ 1 := constantI S_ 1 1#1
  let main_v31 : IVec S_ 1 := (fun x v => Host.reduce IntOp.andi x v reducesTo_S1024x5632_S_d0_1 h_S_) main_v30 main_c_13
  fn_part2 (F := F) main_arg8 main_v3 main_v7 main_v11 main_v15 main_v19 main_v23 main_v27 main_v31

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1x1024 .f32) (main_arg5 : FVec F S1x1024 .f32) (main_arg6 : FVec F S1x1024 .f32) (main_arg7 : FVec F S1024x5632 .f32) (main_arg8 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_arg8 main_v3 main_v7 main_v11 main_v15
-- ==== Pre_finite4.lean ====
abbrev S8192x1024 : Shape := ⟨2, ![8192, 1024]⟩
abbrev S8192x512 : Shape := ⟨2, ![8192, 512]⟩
abbrev S8192x256 : Shape := ⟨2, ![8192, 256]⟩
abbrev S8192x128 : Shape := ⟨2, ![8192, 128]⟩
abbrev S1x1024 : Shape := ⟨2, ![1, 1024]⟩
abbrev S1024x2312 : Shape := ⟨2, ![1024, 2312]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  bcast_S_S8192x256 : S_.BroadcastsInDim S8192x256 (![] : Fin 0 → Fin S8192x256.rank)
  reducesTo_S8192x256_S_d0_1 : S8192x256.ReducesTo [0, 1] S_
  bcast_S_S8192x128 : S_.BroadcastsInDim S8192x128 (![] : Fin 0 → Fin S8192x128.rank)
  reducesTo_S8192x128_S_d0_1 : S8192x128.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2312 : S_.BroadcastsInDim S1024x2312 (![] : Fin 0 → Fin S1024x2312.rank)
  reducesTo_S1024x2312_S_d0_1 : S1024x2312.ReducesTo [0, 1] S_

variable [Facts]

def fn_part3 {F : FTy → Type} [FloatOps F] (main_v12 : IVec S_ 1) (main_v17 : IVec S_ 1) (main_v22 : IVec S_ 1) (main_v27 : IVec S_ 1) (main_v32 : IVec S_ 1) (main_v36 : IVec S_ 1) (main_v40 : IVec S_ 1) (main_v44 : IVec S_ 1) (main_v48 : IVec S_ 1) (main_v49 : IVec S_ 1) : IVec S_ 1 :=
  let main_v50 : IVec S_ 1 := andi main_v49 main_v12
  let main_v51 : IVec S_ 1 := andi main_v50 main_v17
  let main_v52 : IVec S_ 1 := andi main_v51 main_v22
  let main_v53 : IVec S_ 1 := andi main_v52 main_v27
  let main_v54 : IVec S_ 1 := andi main_v53 main_v32
  let main_v55 : IVec S_ 1 := andi main_v54 main_v36
  let main_v56 : IVec S_ 1 := andi main_v55 main_v40
  let main_v57 : IVec S_ 1 := andi main_v56 main_v44
  let main_v58 : IVec S_ 1 := andi main_v57 main_v48
  main_v58

def fn_part2 {F : FTy → Type} [FloatOps F] (main_arg8 : FVec F S1x1024 .f32) (main_arg9 : FVec F S1x1024 .f32) (main_arg10 : FVec F S1024x2312 .f32) (main_v3 : IVec S_ 1) (main_v7 : IVec S_ 1) (main_v12 : IVec S_ 1) (main_v17 : IVec S_ 1) (main_v22 : IVec S_ 1) (main_v27 : IVec S_ 1) (main_v32 : IVec S_ 1) (main_v33 : FVec F S1x1024 .f32) : IVec S_ 1 :=
  let main_cst_12 : FVec F S_ .f32 := constant S_ .f32 0x7F800000#32
  let main_v34 : FVec F S1x1024 .f32 := broadcastInDim S1x1024 ![] bcast_S_S1x1024 main_cst_12
  let main_v35 : IVec S1x1024 1 := cmpf .olt main_v33 main_v34
  let main_c_13 : IVec S_ 1 := constantI S_ 1 1#1
  let main_v36 : IVec S_ 1 := (fun x v => Host.reduce IntOp.andi x v reducesTo_S1x1024_S_d0_1 h_S_) main_v35 main_c_13
  let main_v37 : FVec F S1x1024 .f32 := Host.absf main_arg8
  let main_cst_14 : FVec F S_ .f32 := constant S_ .f32 0x7F800000#32
  let main_v38 : FVec F S1x1024 .f32 := broadcastInDim S1x1024 ![] bcast_S_S1x1024 main_cst_14
  let main_v39 : IVec S1x1024 1 := cmpf .olt main_v37 main_v38
  let main_c_15 : IVec S_ 1 := constantI S_ 1 1#1
  let main_v40 : IVec S_ 1 := (fun x v => Host.reduce IntOp.andi x v reducesTo_S1x1024_S_d0_1 h_S_) main_v39 main_c_15
  let main_v41 : FVec F S1x1024 .f32 := Host.absf main_arg9
  let main_cst_16 : FVec F S_ .f32 := constant S_ .f32 0x7F800000#32
  let main_v42 : FVec F S1x1024 .f32 := broadcastInDim S1x1024 ![] bcast_S_S1x1024 main_cst_16
  let main_v43 : IVec S1x1024 1 := cmpf .olt main_v41 main_v42
  let main_c_17 : IVec S_ 1 := constantI S_ 1 1#1
  let main_v44 : IVec S_ 1 := (fun x v => Host.reduce IntOp.andi x v reducesTo_S1x1024_S_d0_1 h_S_) main_v43 main_c_17
  let main_v45 : FVec F S1024x2312 .f32 := Host.absf main_arg10
  let main_cst_18 : FVec F S_ .f32 := constant S_ .f32 0x7F800000#32
  let main_v46 : FVec F S1024x2312 .f32 := broadcastInDim S1024x2312 ![] bcast_S_S1024x2312 main_cst_18
  let main_v47 : IVec S1024x2312 1 := cmpf .olt main_v45 main_v46
  let main_c_19 : IVec S_ 1 := constantI S_ 1 1#1
  let main_v48 : IVec S_ 1 := (fun x v => Host.reduce IntOp.andi x v reducesTo_S1024x2312_S_d0_1 h_S_) main_v47 main_c_19
  let main_v49 : IVec S_ 1 := andi main_v3 main_v7
  fn_part3 (F := F) main_v12 main_v17 main_v22 main_v27 main_v32 main_v36 main_v40 main_v44 main_v48 main_v49

def fn_part1 {F : FTy → Type} [FloatOps F] (main_arg4 : FVec F S8192x512 .bf16) (main_arg5 : FVec F S8192x1024 .bf16) (main_arg6 : FVec F S8192x128 .bf16) (main_arg7 : FVec F S1x1024 .f32) (main_arg8 : FVec F S1x1024 .f32) (main_arg9 : FVec F S1x1024 .f32) (main_arg10 : FVec F S1024x2312 .f32) (main_v3 : IVec S_ 1) (main_v7 : IVec S_ 1) (main_v12 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : FVec F S8192x512 .f32 := (extf .f32 · bitsLt_bf16_f32) main_arg4
  let main_v19 : FVec F S8192x512 .f32 := Host.absf main_v18
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : FVec F S8192x1024 .f32 := (extf .f32 · bitsLt_bf16_f32) main_arg5
  let main_v24 : FVec F S8192x1024 .f32 := Host.absf main_v23
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : FVec F S8192x128 .f32 := (extf .f32 · bitsLt_bf16_f32) main_arg6
  let main_v29 : FVec F S8192x128 .f32 := Host.absf main_v28
  let main_cst_10 : FVec F S_ .f32 := constant S_ .f32 0x7F800000#32
  let main_v30 : FVec F S8192x128 .f32 := broadcastInDim S8192x128 ![] bcast_S_S8192x128 main_cst_10
  let main_v31 : IVec S8192x128 1 := cmpf .olt main_v29 main_v30
  let main_c_11 : IVec S_ 1 := constantI S_ 1 1#1
  let main_v32 : IVec S_ 1 := (fun x v => Host.reduce IntOp.andi x v reducesTo_S8192x128_S_d0_1 h_S_) main_v31 main_c_11
  let main_v33 : FVec F S1x1024 .f32 := Host.absf main_arg7
  fn_part2 (F := F) main_arg8 main_arg9 main_arg10 main_v3 main_v7 main_v12 main_v17 main_v22 main_v27 main_v32 main_v33

def fn {F : FTy → Type} [FloatOps F] (main_arg0 : FVec F S8192x1024 .f32) (main_arg1 : FVec F S8192x1024 .f32) (main_arg2 : FVec F S8192x512 .bf16) (main_arg3 : FVec F S8192x256 .bf16) (main_arg4 : FVec F S8192x512 .bf16) (main_arg5 : FVec F S8192x1024 .bf16) (main_arg6 : FVec F S8192x128 .bf16) (main_arg7 : FVec F S1x1024 .f32) (main_arg8 : FVec F S1x1024 .f32) (main_arg9 : FVec F S1x1024 .f32) (main_arg10 : FVec F S1024x2312 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S8192x512 .f32 := (extf .f32 · bitsLt_bf16_f32) main_arg2
  let main_v9 : FVec F S8192x512 .f32 := Host.absf main_v8
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : FVec F S8192x256 .f32 := (extf .f32 · bitsLt_bf16_f32) main_arg3
  let main_v14 : FVec F S8192x256 .f32 := Host.absf main_v13
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_arg4 main_arg5 main_arg6 main_arg7 main_arg8 main_arg9 main_arg10 main_v3 main_v7 main_v12 main_v16
-- ==== Kernel.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S8x352x1024 : Shape := ⟨3, ![8, 352, 1024]⟩
abbrev S8x240x1024 : Shape := ⟨3, ![8, 240, 1024]⟩
abbrev S8x256x1024 : Shape := ⟨3, ![8, 256, 1024]⟩
abbrev S8x208x1024 : Shape := ⟨3, ![8, 208, 1024]⟩
abbrev S8x288x1024 : Shape := ⟨3, ![8, 288, 1024]⟩
abbrev S8x64x1024 : Shape := ⟨3, ![8, 64, 1024]⟩
abbrev S8192x5632 : Shape := ⟨2, ![8192, 5632]⟩
abbrev S8192x2816 : Shape := ⟨2, ![8192, 2816]⟩
abbrev S8x1024 : Shape := ⟨2, ![8, 1024]⟩
abbrev S256x1024 : Shape := ⟨2, ![256, 1024]⟩
abbrev S256x5632 : Shape := ⟨2, ![256, 5632]⟩
abbrev S256x2816 : Shape := ⟨2, ![256, 2816]⟩
abbrev S40 : Shape := ⟨1, ![40]⟩
abbrev S1 : Shape := ⟨1, ![1]⟩
abbrev S_ : Shape := ⟨0, ![]⟩
abbrev S240x1024 : Shape := ⟨2, ![240, 1024]⟩
abbrev S1x240x1024 : Shape := ⟨3, ![1, 240, 1024]⟩
abbrev S1x256x1024 : Shape := ⟨3, ![1, 256, 1024]⟩
abbrev S208x1024 : Shape := ⟨2, ![208, 1024]⟩
abbrev S1x208x1024 : Shape := ⟨3, ![1, 208, 1024]⟩
abbrev S288x1024 : Shape := ⟨2, ![288, 1024]⟩
abbrev S1x288x1024 : Shape := ⟨3, ![1, 288, 1024]⟩
abbrev S64x1024 : Shape := ⟨2, ![64, 1024]⟩
abbrev S1x64x1024 : Shape := ⟨3, ![1, 64, 1024]⟩
abbrev S256 : Shape := ⟨1, ![256]⟩
abbrev S256x1 : Shape := ⟨2, ![256, 1]⟩
abbrev S1x1 : Shape := ⟨2, ![1, 1]⟩
abbrev S1x1x1 : Shape := ⟨3, ![1, 1, 1]⟩
abbrev S1024 : Shape := ⟨1, ![1024]⟩

abbrev nBuf : Space → Nat
  | .hbm => 25
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S2816x1024, .f32⟩
  | .hbm, ⟨9, _⟩ => ⟨S5632x1024, .f32⟩
  | .hbm, ⟨10, _⟩ => ⟨S5632x1024, .bf16⟩
  | .hbm, ⟨11, _⟩ => ⟨S8x704x1024, .bf16⟩
  | .hbm, ⟨12, _⟩ => ⟨S2816x1024, .bf16⟩
  | .hbm, ⟨13, _⟩ => ⟨S8x352x1024, .bf16⟩
  | .hbm, ⟨14, _⟩ => ⟨S8x240x1024, .bf16⟩
  | .hbm, ⟨15, _⟩ => ⟨S8x256x1024, .bf16⟩
  | .hbm, ⟨16, _⟩ => ⟨S8x208x1024, .bf16⟩
  | .hbm, ⟨17, _⟩ => ⟨S8x288x1024, .bf16⟩
  | .hbm, ⟨18, _⟩ => ⟨S8x64x1024, .bf16⟩
  | .hbm, ⟨19, _⟩ => ⟨S8192x1024, .f32⟩
  | .hbm, ⟨20, _⟩ => ⟨S8192x1024, .bf16⟩
  | .hbm, ⟨21, _⟩ => ⟨S8192x5632, .bf16⟩
  | .hbm, ⟨22, _⟩ => ⟨S8192x2816, .bf16⟩
  | .hbm, ⟨23, _⟩ => ⟨S8192x1024, .bf16⟩
  | .hbm, ⟨24, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x5632, .bf16⟩
  | .local _ .vmem, ⟨14, _⟩ => ⟨S256x5632, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | .local _ .vmem, ⟨20, _⟩ => ⟨S5632x1024, .bf16⟩
  | .local _ .vmem, ⟨21, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩
abbrev S2x1024 : Shape := ⟨2, ![2, 1024]⟩
abbrev S8x1024 : Shape := ⟨2, ![8, 1024]⟩

abbrev nBuf : Space → Nat
  | .hbm => 181
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1024x5632, .f32⟩
  | 8 => ⟨S2816x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S8192x1024, .f32⟩
  | 28 => ⟨S_, .f32⟩
  | 29 => ⟨S1x1024, .f32⟩
  | 30 => ⟨S1x1024, .f32⟩
  | 31 => ⟨S8192x1024, .f32⟩
  | 32 => ⟨S8192x1024, .f32⟩
  | 33 => ⟨S8192x1024, .f32⟩
  | 34 => ⟨S8192x1024, .f32⟩
  | 35 => ⟨S8192x5632, .f32⟩
  | 36 => ⟨S8192x2816, .f32⟩
  | 37 => ⟨S8192x2816, .f32⟩
  | 38 => ⟨S8192x2816, .f32⟩
  | 39 => ⟨S_, .f32⟩
  | 40 => ⟨S8192x2816, .f32⟩
  | 41 => ⟨S8192x2816, .f32⟩
  | 42 => ⟨S_, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S8192x2816, .f32⟩
  | 49 => ⟨S8192x2816, .f32⟩
  | 50 => ⟨S8192x2816, .f32⟩
  | 51 => ⟨S8192x2816, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S_, .f32⟩
  | 58 => ⟨S8192, .f32⟩
  | 59 => ⟨S8192x1, .f32⟩
  | 60 => ⟨S_, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1, .f32⟩
  | 67 => ⟨S8192x1, .f32⟩
  | 68 => ⟨S_, .f32⟩
  | 69 => ⟨S8192x1, .f32⟩
  | 70 => ⟨S8192x1, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S_, .f32⟩
  | 81 => ⟨S8192, .f32⟩
  | 82 => ⟨S_, .f32⟩
  | 83 => ⟨S8192, .f32⟩
  | 84 => ⟨S8192, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S8192, .f32⟩
  | 93 => ⟨S_, .f32⟩
  | 94 => ⟨S8192, .f32⟩
  | 95 => ⟨S8192, .f32⟩
  | 96 => ⟨S8192x1024, .f32⟩
  | 97 => ⟨S8192x1024, .f32⟩
  | 98 => ⟨S8192x1024, .f32⟩
  | 99 => ⟨S_, .f32⟩
  | 100 => ⟨S1024, .f32⟩
  | 101 => ⟨S1x1024, .f32⟩
  | 102 => ⟨S8192x1024, .f32⟩
  | 103 => ⟨S8192x1024, .f32⟩
  | 104 => ⟨S8192x1024, .f32⟩
  | 105 => ⟨S_, .f32⟩
  | 106 => ⟨S8192, .f32⟩
  | 107 => ⟨S8192x1, .f32⟩
  | 108 => ⟨S8192x1024, .f32⟩
  | 109 => ⟨S8192x1024, .f32⟩
  | 110 => ⟨S8192x1, .f32⟩
  | 111 => ⟨S_, .f32⟩
  | 112 => ⟨S8192x1, .f32⟩
  | 113 => ⟨S8192x1, .f32⟩
  | 114 => ⟨S_, .f32⟩
  | 115 => ⟨S8192, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S_, .f32⟩
  | 125 => ⟨S1024, .f32⟩
  | 126 => ⟨S1x1024, .f32⟩
  | 127 => ⟨S8192x2816, .f32⟩
  | _ => ⟨S8192x1024, .f32⟩

abbrev hbmTy0_1 (i : Nat) : BufTy := match i % 128 with
  | 0 => ⟨S8192x2816, .f32⟩
  | 1 => ⟨S8192x2816, .f32⟩
  | 2 => ⟨S_, .f32⟩
  | 3 => ⟨S8192x5632, .f32⟩
  | 4 => ⟨S8192x2816, .f32⟩
  | 5 => ⟨S8192x2816, .f32⟩
  | 6 => ⟨S8192x2816, .f32⟩
  | 7 => ⟨S8192x2816, .f32⟩
  | 8 => ⟨S_, .f32⟩
  | 9 => ⟨S8192x5632, .f32⟩
  | 10 => ⟨S8192x5632, .f32⟩
  | 11 => ⟨S8192x1024, .f32⟩
  | 12 => ⟨S_, .f32⟩
  | 13 => ⟨S1024, .f32⟩
  | 14 => ⟨S1x1024, .f32⟩
  | 15 => ⟨S8192x1024, .f32⟩
  | 16 => ⟨S_, .f32⟩
  | 17 => ⟨S1024, .f32⟩
  | 18 => ⟨S1x1024, .f32⟩
  | 19 => ⟨S8192x1024, .f32⟩
  | 20 => ⟨S8192x1024, .f32⟩
  | 21 => ⟨S8192x1024, .f32⟩
  | 22 => ⟨S_, .f32⟩
  | 23 => ⟨S1024, .f32⟩
  | 24 => ⟨S1x1024, .f32⟩
  | 25 => ⟨S8192x1024, .f32⟩
  | 26 => ⟨S8192x1024, .f32⟩
  | 27 => ⟨S8192x1024, .f32⟩
  | 28 => ⟨S_, .f32⟩
  | 29 => ⟨S8192, .f32⟩
  | 30 => ⟨S8192x1, .f32⟩
  | 31 => ⟨S8192x1024, .f32⟩
  | 32 => ⟨S8192x1024, .f32⟩
  | 33 => ⟨S8192x1, .f32⟩
  | 34 => ⟨S_, .f32⟩
  | 35 => ⟨S8192x1, .f32⟩
  | 36 => ⟨S8192x1, .f32⟩
  | 37 => ⟨S_, .f32⟩
  | 38 => ⟨S8192, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S1x1024, .f32⟩
  | 45 => ⟨S_, .f32⟩
  | 46 => ⟨S2x1024, .f32⟩
  | 47 => ⟨S8x1024, .f32⟩
  | 48 => ⟨S8192x1024, .f32⟩
  | 49 => ⟨S8192x1024, .bf16⟩
  | 50 => ⟨S8192x5632, .bf16⟩
  | 51 => ⟨S8192x2816, .bf16⟩
  | 52 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v23_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v23_1 : Ref sig .tc := ⟨.hbm, 48, rfl⟩
abbrev main_v23_0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_cst_11 : Ref sig .tc := ⟨.hbm, 85, rfl⟩
abbrev main_v52 : Ref sig .tc := ⟨.hbm, 86, rfl⟩
abbrev main_cst_12 : Ref sig .tc := ⟨.hbm, 87, rfl⟩
abbrev main_v53 : Ref sig .tc := ⟨.hbm, 88, rfl⟩
abbrev main_cst_13 : Ref sig .tc := ⟨.hbm, 89, rfl⟩
abbrev main_cst_14 : Ref sig .tc := ⟨.hbm, 90, rfl⟩
abbrev main_v54 : Ref sig .tc := ⟨.hbm, 91, rfl⟩
abbrev main_v55 : Ref sig .tc := ⟨.hbm, 92, rfl⟩
abbrev main_cst_15 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_16 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_17 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_18 : Ref sig .tc := ⟨.hbm, 111, rfl⟩
abbrev main_v71 : Ref sig .tc := ⟨.hbm, 112, rfl⟩
abbrev main_v72 : Ref sig .tc := ⟨.hbm, 113, rfl⟩
abbrev main_cst_19 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_20 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_21 : Ref sig .tc := ⟨.hbm, 130, rfl⟩
abbrev main_v87 : Ref sig .tc := ⟨.hbm, 131, rfl⟩
abbrev main_call1_v0 : Ref sig .tc := ⟨.hbm, 132, rfl⟩
abbrev main_call1_v1 : Ref sig .tc := ⟨.hbm, 133, rfl⟩
abbrev main_call1_v2 : Ref sig .tc := ⟨.hbm, 134, rfl⟩
abbrev main_v88 : Ref sig .tc := ⟨.hbm, 135, rfl⟩
abbrev main_cst_22 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_23 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_24 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_25 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_26 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_cst_27 : Ref sig .tc := ⟨.hbm, 162, rfl⟩
abbrev main_v110 : Ref sig .tc := ⟨.hbm, 163, rfl⟩
abbrev main_v111 : Ref sig .tc := ⟨.hbm, 164, rfl⟩
abbrev main_cst_28 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_29 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩

abbrev nD : Nat := 1
abbrev τ : Topo := Topo.v7x

variable {F : FTy → Type} [FloatOps F]
-- ==== Kernel2.lean ====
abbrev S8192x5632 : Shape := ⟨2, ![8192, 5632]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S8192x512 : Shape := ⟨2, ![8192, 512]⟩
abbrev S8192x256 : Shape := ⟨2, ![8192, 256]⟩
abbrev S8192x128 : Shape := ⟨2, ![8192, 128]⟩
abbrev S1x1024 : Shape := ⟨2, ![1, 1024]⟩
abbrev S1024x2312 : Shape := ⟨2, ![1024, 2312]⟩
abbrev S2312x1024 : Shape := ⟨2, ![2312, 1024]⟩
abbrev S_ : Shape := ⟨0, ![]⟩
abbrev S2432x1024 : Shape := ⟨2, ![2432, 1024]⟩
abbrev S8x1024 : Shape := ⟨2, ![8, 1024]⟩
abbrev S2432x512 : Shape := ⟨2, ![2432, 512]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S256x512 : Shape := ⟨2, ![256, 512]⟩
abbrev S256x256 : Shape := ⟨2, ![256, 256]⟩
abbrev S256x1024 : Shape := ⟨2, ![256, 1024]⟩
abbrev S256x128 : Shape := ⟨2, ![256, 128]⟩
abbrev S256x2432 : Shape := ⟨2, ![256, 2432]⟩
abbrev S256 : Shape := ⟨1, ![256]⟩
abbrev S256x1 : Shape := ⟨2, ![256, 1]⟩
abbrev S1024 : Shape := ⟨1, ![1024]⟩

abbrev nBuf : Space → Nat
  | .hbm => 20
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .bf16⟩
  | .hbm, ⟨3, _⟩ => ⟨S8192x256, .bf16⟩
  | .hbm, ⟨4, _⟩ => ⟨S8192x512, .bf16⟩
  | .hbm, ⟨5, _⟩ => ⟨S8192x1024, .bf16⟩
  | .hbm, ⟨6, _⟩ => ⟨S8192x128, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024x2312, .f32⟩
  | .hbm, ⟨11, _⟩ => ⟨S2312x1024, .f32⟩
  | .hbm, ⟨12, _⟩ => ⟨S2312x1024, .bf16⟩
  | .hbm, ⟨13, _⟩ => ⟨S_, .i32⟩
  | .hbm, ⟨14, _⟩ => ⟨S_, .bf16⟩
  | .hbm, ⟨15, _⟩ => ⟨S2432x1024, .bf16⟩
  | .hbm, ⟨16, _⟩ => ⟨S8192x1024, .f32⟩
  | .hbm, ⟨17, _⟩ => ⟨S8192x1024, .bf16⟩
  | .hbm, ⟨18, _⟩ => ⟨S8x1024, .f32⟩
  | .hbm, ⟨19, _⟩ => ⟨S2432x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x128, .bf16⟩
  | .local _ .vmem, ⟨13, _⟩ => ⟨S512x128, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S2432x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S8x1024, .f32⟩
  | .local _ .vmem, ⟨23, _⟩ => ⟨S2432x512, .bf16⟩
  | .local _ .vmem, ⟨24, _⟩ => ⟨S2432x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v3_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v152 : BitVec 1 := Scalar.cmpi .eq arg0 c15_i32
  let v153 : BitVec 32 := Scalar.extui v152
  let c0_i32_96 : BitVec 32 := 0#32
  let v154 : BitVec 1 := Scalar.cmpi .ne v153 c0_i32_96
  v154

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2432x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2432x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference4Ideal.lean ====
abbrev S8192x1024 : Shape := ⟨2, ![8192, 1024]⟩
abbrev S8192x512 : Shape := ⟨2, ![8192, 512]⟩
abbrev S8192x256 : Shape := ⟨2, ![8192, 256]⟩
abbrev S8192x128 : Shape := ⟨2, ![8192, 128]⟩
abbrev S1x1024 : Shape := ⟨2, ![1, 1024]⟩
abbrev S1024x2312 : Shape := ⟨2, ![1024, 2312]⟩
abbrev S_ : Shape := ⟨0, ![]⟩
abbrev S1024x2432 : Shape := ⟨2, ![1024, 2432]⟩
abbrev S8192x2432 : Shape := ⟨2, ![8192, 2432]⟩
abbrev S8192 : Shape := ⟨1, ![8192]⟩
abbrev S8192x1 : Shape := ⟨2, ![8192, 1]⟩
abbrev S2432x1024 : Shape := ⟨2, ![2432, 1024]⟩
abbrev S1024 : Shape := ⟨1, ![1024]⟩
abbrev S5x1024 : Shape := ⟨2, ![5, 1024]⟩
abbrev S8x1024 : Shape := ⟨2, ![8, 1024]⟩
abbrev S512x2432 : Shape := ⟨2, ![512, 2432]⟩
abbrev S2432x512 : Shape := ⟨2, ![2432, 512]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .bf16⟩
  | .hbm, ⟨3, _⟩ => ⟨S8192x256, .bf16⟩
  | .hbm, ⟨4, _⟩ => ⟨S8192x512, .bf16⟩
  | .hbm, ⟨5, _⟩ => ⟨S8192x1024, .bf16⟩
  | .hbm, ⟨6, _⟩ => ⟨S8192x128, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024x2312, .f32⟩
  | .hbm, ⟨11, _⟩ => ⟨S_, .i32⟩
  | .hbm, ⟨12, _⟩ => ⟨S_, .f32⟩
  | .hbm, ⟨13, _⟩ => ⟨S1024x2432, .f32⟩
  | .hbm, ⟨14, _⟩ => ⟨S8192x512, .f32⟩
  | .hbm, ⟨15, _⟩ => ⟨S8192x256, .f32⟩
  | .hbm, ⟨16, _⟩ => ⟨S8192x512, .f32⟩
  | .hbm, ⟨17, _⟩ => ⟨S8192x1024, .f32⟩
  | .hbm, ⟨18, _⟩ => ⟨S8192x128, .f32⟩
  | .hbm, ⟨19, _⟩ => ⟨S8192x2432, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x2432, .f32⟩
  | .hbm, ⟨47, _⟩ => ⟨S2432x1024, .f32⟩
  | .hbm, ⟨48, _⟩ => ⟨S1024x2432, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S5x1024, .f32⟩
  | .hbm, ⟨84, _⟩ => ⟨S8x1024, .f32⟩
  | .hbm, ⟨85, _⟩ => ⟨S8192x1024, .f32⟩
  | .hbm, ⟨86, _⟩ => ⟨S8192x1024, .bf16⟩
  | .hbm, ⟨87, _⟩ => ⟨S512x2432, .f32⟩
  | .hbm, ⟨88, _⟩ => ⟨S2432x512, .f32⟩
  | .hbm, ⟨89, _⟩ => ⟨S2432x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]
-- ==== Kernel5.lean ====
abbrev S8x304x1024 : Shape := ⟨3, ![8, 304, 1024]⟩
abbrev S8x400x1024 : Shape := ⟨3, ![8, 400, 1024]⟩
abbrev S8x352x1024 : Shape := ⟨3, ![8, 352, 1024]⟩
abbrev S8x128x1024 : Shape := ⟨3, ![8, 128, 1024]⟩
abbrev S1024x704 : Shape := ⟨2, ![1024, 704]⟩
abbrev S352x1024 : Shape := ⟨2, ![352, 1024]⟩
abbrev S128x1024 : Shape := ⟨2, ![128, 1024]⟩
abbrev S704x1024 : Shape := ⟨2, ![704, 1024]⟩
abbrev S8x304x256 : Shape := ⟨3, ![8, 304, 256]⟩
abbrev S8x400x256 : Shape := ⟨3, ![8, 400, 256]⟩
abbrev S8x352x256 : Shape := ⟨3, ![8, 352, 256]⟩
abbrev S8x128x256 : Shape := ⟨3, ![8, 128, 256]⟩
abbrev S704x256 : Shape := ⟨2, ![704, 256]⟩
abbrev S352x256 : Shape := ⟨2, ![352, 256]⟩
abbrev S128x256 : Shape := ⟨2, ![128, 256]⟩
abbrev S1x304x256 : Shape := ⟨3, ![1, 304, 256]⟩
abbrev S304x256 : Shape := ⟨2, ![304, 256]⟩
abbrev S1x400x256 : Shape := ⟨3, ![1, 400, 256]⟩
abbrev S400x256 : Shape := ⟨2, ![400, 256]⟩
abbrev S1x352x256 : Shape := ⟨3, ![1, 352, 256]⟩
abbrev S1x128x256 : Shape := ⟨3, ![1, 128, 256]⟩

abbrev nBuf : Space → Nat
  | .hbm => 28
  | .vmem => 50
  | .smem => 0
  | _ => 0

abbrev bufTy : (tb : Table) → Fin (tcTables nBuf tb) → BufTy
  | .hbm, ⟨0, _⟩ => ⟨S8x304x1024, .bf16⟩
  | .hbm, ⟨1, _⟩ => ⟨S8x400x1024, .bf16⟩
  | .hbm, ⟨2, _⟩ => ⟨S8x352x1024, .bf16⟩
  | .hbm, ⟨3, _⟩ => ⟨S8x128x1024, .bf16⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S128x1024, .f32⟩
  | .local _ .vmem, ⟨0, _⟩ => ⟨S8x304x256, .bf16⟩
  | .local _ .vmem, ⟨1, _⟩ => ⟨S8x304x256, .bf16⟩
  | .local _ .vmem, ⟨2, _⟩ => ⟨S8x400x256, .bf16⟩
  | .local _ .vmem, ⟨3, _⟩ => ⟨S8x400x256, .bf16⟩
  | .local _ .vmem, ⟨4, _⟩ => ⟨S8x352x256, .bf16⟩
  | .local _ .vmem, ⟨5, _⟩ => ⟨S8x352x256, .bf16⟩
  | .local _ .vmem, ⟨6, _⟩ => ⟨S8x128x256, .bf16⟩
  | .local _ .vmem, ⟨7, _⟩ => ⟨S8x128x256, .bf16⟩
  | .local _ .vmem, ⟨8, _⟩ => ⟨S704x256, .f32⟩
  | .local _ .vmem, ⟨9, _⟩ => ⟨S704x256, .f32⟩
  | .local _ .vmem, ⟨10, _⟩ => ⟨S704x256, .f32⟩
  | .local _ .vmem, ⟨11, _⟩ => ⟨S704x256, .f32⟩
  | .local _ .vmem, ⟨12, _⟩ => ⟨S704x256, .f32⟩
  | .local _ .vmem, ⟨13, _⟩ => ⟨S704x256, .f32⟩
  | .local _ .vmem, ⟨14, _⟩ => ⟨S352x256, .f32⟩
  | .local _ .vmem, ⟨15, _⟩ => ⟨S352x256, .f32⟩
  | .local _ .vmem, ⟨16, _⟩ => ⟨S352x256, .f32⟩
  | .local _ .vmem, ⟨17, _⟩ => ⟨S352x256, .f32⟩
  | .local _ .vmem, ⟨18, _⟩ => ⟨S352x256, .f32⟩
  | .local _ .vmem, ⟨19, _⟩ => ⟨S352x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S704x256, .f32⟩
  | .local _ .vmem, ⟨27, _⟩ => ⟨S704x256, .f32⟩
  | .local _ .vmem, ⟨28, _⟩ => ⟨S704x256, .f32⟩
  | .local _ .vmem, ⟨29, _⟩ => ⟨S704x256, .f32⟩
  | .local _ .vmem, ⟨30, _⟩ => ⟨S704x256, .f32⟩
  | .local _ .vmem, ⟨31, _⟩ => ⟨S704x256, .f32⟩
  | .local _ .vmem, ⟨32, _⟩ => ⟨S704x256, .f32⟩
  | .local _ .vmem, ⟨33, _⟩ => ⟨S704x256, .f32⟩
  | .local _ .vmem, ⟨34, _⟩ => ⟨S352x256, .f32⟩
  | .local _ .vmem, ⟨35, _⟩ => ⟨S352x256, .f32⟩
  | .local _ .vmem, ⟨36, _⟩ => ⟨S352x256, .f32⟩
  | .local _ .vmem, ⟨37, _⟩ => ⟨S352x256, .f32⟩
  | .local _ .vmem, ⟨38, _⟩ => ⟨S352x256, .f32⟩
  | .local _ .vmem, ⟨39, _⟩ => ⟨S352x256, .f32⟩
  | .local _ .vmem, ⟨40, _⟩ => ⟨S352x256, .f32⟩
  | .local _ .vmem, ⟨41, _⟩ => ⟨S352x256, .f32⟩
  | .local _ .vmem, ⟨42, _⟩ => ⟨S128x256, .f32⟩
  | .local _ .vmem, ⟨43, _⟩ => ⟨S128x256, .f32⟩
  | .local _ .vmem, ⟨44, _⟩ => ⟨S128x256, .f32⟩
  | .local _ .vmem, ⟨45, _⟩ => ⟨S128x256, .f32⟩
  | .local _ .vmem, ⟨46, _⟩ => ⟨S128x256, .f32⟩
  | .local _ .vmem, ⟨47, _⟩ => ⟨S128x256, .f32⟩
  | .local _ .vmem, ⟨48, _⟩ => ⟨S128x256, .f32⟩
  | .local _ .vmem, ⟨49, _⟩ => ⟨S128x256, .f32⟩
  | _, _ => ⟨S8x304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v3_3 : Ref sig .tc := ⟨.hbm, 19, rfl⟩
abbrev main_v3_4 : Ref sig .tc := ⟨.hbm, 20, rfl⟩
abbrev main_v3_5 : Ref sig .tc := ⟨.hbm, 21, rfl⟩
abbrev main_v3_6 : Ref sig .tc := ⟨.hbm, 22, rfl⟩
abbrev main_v3_7 : Ref sig .tc := ⟨.hbm, 23, rfl⟩
abbrev main_v3_8 : Ref sig .tc := ⟨.hbm, 24, rfl⟩
abbrev main_v3_9 : Ref sig .tc := ⟨.hbm, 25, rfl⟩
abbrev main_v3_10 : Ref sig .tc := ⟨.hbm, 26, rfl⟩
abbrev main_v3_11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x400x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S704x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S704x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S352x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S704x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S704x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S704x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S704x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S352x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S352x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S352x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S352x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S128x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S128x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S128x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference5Ideal.lean ====
abbrev S8x304x1024 : Shape := ⟨3, ![8, 304, 1024]⟩
abbrev S8x400x1024 : Shape := ⟨3, ![8, 400, 1024]⟩
abbrev S8x352x1024 : Shape := ⟨3, ![8, 352, 1024]⟩
abbrev S8x128x1024 : Shape := ⟨3, ![8, 128, 1024]⟩
abbrev S1024x704 : Shape := ⟨2, ![1024, 704]⟩
abbrev S352x1024 : Shape := ⟨2, ![352, 1024]⟩
abbrev S128x1024 : Shape := ⟨2, ![128, 1024]⟩
abbrev S8x704x1024 : Shape := ⟨3, ![8, 704, 1024]⟩
abbrev S_ : Shape := ⟨0, ![]⟩
abbrev S704x1024 : Shape := ⟨2, ![704, 1024]⟩

abbrev nBuf : Space → Nat
  | .hbm => 125
  | .vmem => 0
  | .smem => 0
  | _ => 0

abbrev bufTy : (tb : Table) → Fin (tcTables nBuf tb) → BufTy
  | .hbm, ⟨0, _⟩ => ⟨S8x304x1024, .bf16⟩
  | .hbm, ⟨1, _⟩ => ⟨S8x400x1024, .bf16⟩
  | .hbm, ⟨2, _⟩ => ⟨S8x352x1024, .bf16⟩
  | .hbm, ⟨3, _⟩ => ⟨S8x128x1024, .bf16⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S8x704x1024, .bf16⟩
  | .hbm, ⟨14, _⟩ => ⟨S8x704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S8x352x1024, .f32⟩
  | .hbm, ⟨21, _⟩ => ⟨S_, .f32⟩
  | .hbm, ⟨22, _⟩ => ⟨S352x1024, .f32⟩
  | .hbm, ⟨23, _⟩ => ⟨S8x128x1024, .f32⟩
  | .hbm, ⟨24, _⟩ => ⟨S_, .f32⟩
  | .hbm, ⟨25, _⟩ => ⟨S128x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | .hbm, ⟨40, _⟩ => ⟨S704x1024, .f32⟩
  | .hbm, ⟨41, _⟩ => ⟨S_, .f32⟩
  | .hbm, ⟨42, _⟩ => ⟨S704x1024, .f32⟩
  | .hbm, ⟨43, _⟩ => ⟨S704x1024, .f32⟩
  | .hbm, ⟨44, _⟩ => ⟨S_, .f32⟩
  | .hbm, ⟨45, _⟩ => ⟨S704x1024, .f32⟩
  | .hbm, ⟨46, _⟩ => ⟨S704x1024, .f32⟩
  | .hbm, ⟨47, _⟩ => ⟨S704x1024, .f32⟩
  | .hbm, ⟨48, _⟩ => ⟨S_, .f32⟩
  | .hbm, ⟨49, _⟩ => ⟨S704x1024, .f32⟩
  | .hbm, ⟨50, _⟩ => ⟨S704x1024, .f32⟩
  | .hbm, ⟨51, _⟩ => ⟨S704x1024, .f32⟩
  | .hbm, ⟨52, _⟩ => ⟨S_, .f32⟩
  | .hbm, ⟨53, _⟩ => ⟨S704x1024, .f32⟩
  | .hbm, ⟨54, _⟩ => ⟨S704x1024, .f32⟩
  | .hbm, ⟨55, _⟩ => ⟨S704x1024, .f32⟩
  | .hbm, ⟨56, _⟩ => ⟨S_, .f32⟩
  | .hbm, ⟨57, _⟩ => ⟨S704x1024, .f32⟩
  | .hbm, ⟨58, _⟩ => ⟨S704x1024, .f32⟩
  | .hbm, ⟨59, _⟩ => ⟨S_, .f32⟩
  | .hbm, ⟨60, _⟩ => ⟨S352x1024, .f32⟩
  | .hbm, ⟨61, _⟩ => ⟨S352x1024, .f32⟩
  | .hbm, ⟨62, _⟩ => ⟨S_, .f32⟩
  | .hbm, ⟨63, _⟩ => ⟨S352x1024, .f32⟩
  | .hbm, ⟨64, _⟩ => ⟨S352x1024, .f32⟩
  | .hbm, ⟨65, _⟩ => ⟨S352x1024, .f32⟩
  | .hbm, ⟨66, _⟩ => ⟨S_, .f32⟩
  | .hbm, ⟨67, _⟩ => ⟨S352x1024, .f32⟩
  | .hbm, ⟨68, _⟩ => ⟨S352x1024, .f32⟩
  | .hbm, ⟨69, _⟩ => ⟨S352x1024, .f32⟩
  | .hbm, ⟨70, _⟩ => ⟨S_, .f32⟩
  | .hbm, ⟨71, _⟩ => ⟨S352x1024, .f32⟩
  | .hbm, ⟨72, _⟩ => ⟨S352x1024, .f32⟩
  | .hbm, ⟨73, _⟩ => ⟨S352x1024, .f32⟩
  | .hbm, ⟨74, _⟩ => ⟨S_, .f32⟩
  | .hbm, ⟨75, _⟩ => ⟨S352x1024, .f32⟩
  | .hbm, ⟨76, _⟩ => ⟨S352x1024, .f32⟩
  | .hbm, ⟨77, _⟩ => ⟨S_, .f32⟩
  | .hbm, ⟨78, _⟩ => ⟨S352x1024, .f32⟩
  | .hbm, ⟨79, _⟩ => ⟨S352x1024, .f32⟩
  | .hbm, ⟨80, _⟩ => ⟨S352x1024, .f32⟩
  | .hbm, ⟨81, _⟩ => ⟨S_, .f32⟩
  | .hbm, ⟨82, _⟩ => ⟨S352x1024, .f32⟩
  | .hbm, ⟨83, _⟩ => ⟨S352x1024, .f32⟩
  | .hbm, ⟨84, _⟩ => ⟨S352x1024, .f32⟩
  | .hbm, ⟨85, _⟩ => ⟨S_, .f32⟩
  | .hbm, ⟨86, _⟩ => ⟨S352x1024, .f32⟩
  | .hbm, ⟨87, _⟩ => ⟨S352x1024, .f32⟩
  | .hbm, ⟨88, _⟩ => ⟨S352x1024, .f32⟩
  | .hbm, ⟨89, _⟩ => ⟨S_, .f32⟩
  | .hbm, ⟨90, _⟩ => ⟨S352x1024, .f32⟩
  | .hbm, ⟨91, _⟩ => ⟨S352x1024, .f32⟩
  | .hbm, ⟨92, _⟩ => ⟨S_, .f32⟩
  | .hbm, ⟨93, _⟩ => ⟨S128x1024, .f32⟩
  | .hbm, ⟨94, _⟩ => ⟨S128x1024, .f32⟩
  | .hbm, ⟨95, _⟩ => ⟨S_, .f32⟩
  | .hbm, ⟨96, _⟩ => ⟨S128x1024, .f32⟩
  | .hbm, ⟨97, _⟩ => ⟨S128x1024, .f32⟩
  | .hbm, ⟨98, _⟩ => ⟨S128x1024, .f32⟩
  | .hbm, ⟨99, _⟩ => ⟨S_, .f32⟩
  | .hbm, ⟨100, _⟩ => ⟨S128x1024, .f32⟩
  | .hbm, ⟨101, _⟩ => ⟨S128x1024, .f32⟩
  | .hbm, ⟨102, _⟩ => ⟨S128x1024, .f32⟩
  | .hbm, ⟨103, _⟩ => ⟨S_, .f32⟩
  | .hbm, ⟨104, _⟩ => ⟨S128x1024, .f32⟩
  | .hbm, ⟨105, _⟩ => ⟨S128x1024, .f32⟩
  | .hbm, ⟨106, _⟩ => ⟨S128x1024, .f32⟩
  | .hbm, ⟨107, _⟩ => ⟨S_, .f32⟩
  | .hbm, ⟨108, _⟩ => ⟨S128x1024, .f32⟩
  | .hbm, ⟨109, _⟩ => ⟨S128x1024, .f32⟩
  | .hbm, ⟨110, _⟩ => ⟨S_, .f32⟩
  | .hbm, ⟨111, _⟩ => ⟨S128x1024, .f32⟩
  | .hbm, ⟨112, _⟩ => ⟨S128x1024, .f32⟩
  | .hbm, ⟨113, _⟩ => ⟨S128x1024, .f32⟩
  | .hbm, ⟨114, _⟩ => ⟨S_, .f32⟩
  | .hbm, ⟨115, _⟩ => ⟨S128x1024, .f32⟩
  | .hbm, ⟨116, _⟩ => ⟨S128x1024, .f32⟩
  | .hbm, ⟨117, _⟩ => ⟨S128x1024, .f32⟩
  | .hbm, ⟨118, _⟩ => ⟨S_, .f32⟩
  | .hbm, ⟨119, _⟩ => ⟨S128x1024, .f32⟩
  | .hbm, ⟨120, _⟩ => ⟨S128x1024, .f32⟩
  | .hbm, ⟨121, _⟩ => ⟨S128x1024, .f32⟩
  | .hbm, ⟨122, _⟩ => ⟨S_, .f32⟩
  | .hbm, ⟨123, _⟩ => ⟨S128x1024, .f32⟩
  | .hbm, ⟨124, _⟩ => ⟨S128x1024, .f32⟩
  | _, _ => ⟨S8x304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_6 : Ref sig .tc := ⟨.hbm, 41, rfl⟩
abbrev main_v21 : Ref sig .tc := ⟨.hbm, 42, rfl⟩
abbrev main_v22 : Ref sig .tc := ⟨.hbm, 43, rfl⟩
abbrev main_cst_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_8 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_9 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_10 : Ref sig .tc := ⟨.hbm, 56, rfl⟩
abbrev main_v32 : Ref sig .tc := ⟨.hbm, 57, rfl⟩
abbrev main_v33 : Ref sig .tc := ⟨.hbm, 58, rfl⟩
abbrev main_cst_11 : Ref sig .tc := ⟨.hbm, 59, rfl⟩
abbrev main_v34 : Ref sig .tc := ⟨.hbm, 60, rfl⟩
abbrev main_v35 : Ref sig .tc := ⟨.hbm, 61, rfl⟩
abbrev main_cst_12 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_13 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_14 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_15 : Ref sig .tc := ⟨.hbm, 74, rfl⟩
abbrev main_v45 : Ref sig .tc := ⟨.hbm, 75, rfl⟩
abbrev main_v46 : Ref sig .tc := ⟨.hbm, 76, rfl⟩
abbrev main_cst_16 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_17 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_18 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_19 : Ref sig .tc := ⟨.hbm, 89, rfl⟩
abbrev main_v56 : Ref sig .tc := ⟨.hbm, 90, rfl⟩
abbrev main_v57 : Ref sig .tc := ⟨.hbm, 91, rfl⟩
abbrev main_cst_20 : Ref sig .tc := ⟨.hbm, 92, rfl⟩
abbrev main_v58 : Ref sig .tc := ⟨.hbm, 93, rfl⟩
abbrev main_v59 : Ref sig .tc := ⟨.hbm, 94, rfl⟩
abbrev main_cst_21 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_22 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_23 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_24 : Ref sig .tc := ⟨.hbm, 107, rfl⟩
abbrev main_v69 : Ref sig .tc := ⟨.hbm, 108, rfl⟩
abbrev main_v70 : Ref sig .tc := ⟨.hbm, 109, rfl⟩
abbrev main_cst_25 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_26 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_27 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_28 : Ref sig .tc := ⟨.hbm, 122, rfl⟩
abbrev main_v80 : Ref sig .tc := ⟨.hbm, 123, rfl⟩
abbrev main_v81 : Ref sig .tc := ⟨.hbm, 124, rfl⟩

abbrev nD : Nat := 1
abbrev τ : Topo := Topo.v7x

variable {F : FTy → Type} [FloatOps F]
-- ==== Kernel6.lean ====
abbrev S5x289x512 : Shape := ⟨3, ![5, 289, 512]⟩
abbrev S1024x289 : Shape := ⟨2, ![1024, 289]⟩
abbrev S289x1024 : Shape := ⟨2, ![289, 1024]⟩
abbrev S5x289x256 : Shape := ⟨3, ![5, 289, 256]⟩
abbrev S289x256 : Shape := ⟨2, ![289, 256]⟩
abbrev S1x289x256 : Shape := ⟨3, ![1, 289, 256]⟩

abbrev nBuf : Space → Nat
  | .hbm => 12
  | .vmem => 18
  | .smem => 0
  | _ => 0

abbrev bufTy : (tb : Table) → Fin (tcTables nBuf tb) → BufTy
  | .hbm, ⟨0, _⟩ => ⟨S5x289x512, .bf16⟩
  | .hbm, ⟨1, _⟩ => ⟨S5x289x512, .bf16⟩
  | .hbm, ⟨2, _⟩ => ⟨S1024x289, .f32⟩
  | .hbm, ⟨3, _⟩ => ⟨S1024x289, .f32⟩
  | .hbm, ⟨4, _⟩ => ⟨S1024x289, .f32⟩
  | .hbm, ⟨5, _⟩ => ⟨S289x1024, .f32⟩
  | .hbm, ⟨6, _⟩ => ⟨S289x1024, .f32⟩
  | .hbm, ⟨7, _⟩ => ⟨S289x1024, .f32⟩
  | .hbm, ⟨8, _⟩ => ⟨S289x1024, .f32⟩
  | .hbm, ⟨9, _⟩ => ⟨S289x1024, .f32⟩
  | .hbm, ⟨10, _⟩ => ⟨S289x1024, .f32⟩
  | .hbm, ⟨11, _⟩ => ⟨S289x1024, .f32⟩
  | .local _ .vmem, ⟨0, _⟩ => ⟨S5x289x256, .bf16⟩
  | .local _ .vmem, ⟨1, _⟩ => ⟨S5x289x256, .bf16⟩
  | .local _ .vmem, ⟨2, _⟩ => ⟨S5x289x256, .bf16⟩
  | .local _ .vmem, ⟨3, _⟩ => ⟨S5x289x256, .bf16⟩
  | .local _ .vmem, ⟨4, _⟩ => ⟨S289x256, .f32⟩
  | .local _ .vmem, ⟨5, _⟩ => ⟨S289x256, .f32⟩
  | .local _ .vmem, ⟨6, _⟩ => ⟨S289x256, .f32⟩
  | .local _ .vmem, ⟨7, _⟩ => ⟨S289x256, .f32⟩
  | .local _ .vmem, ⟨8, _⟩ => ⟨S289x256, .f32⟩
  | .local _ .vmem, ⟨9, _⟩ => ⟨S289x256, .f32⟩
  | .local _ .vmem, ⟨10, _⟩ => ⟨S289x256, .f32⟩
  | .local _ .vmem, ⟨11, _⟩ => ⟨S289x256, .f32⟩
  | .local _ .vmem, ⟨12, _⟩ => ⟨S289x256, .f32⟩
  | .local _ .vmem, ⟨13, _⟩ => ⟨S289x256, .f32⟩
  | .local _ .vmem, ⟨14, _⟩ => ⟨S289x256, .f32⟩
  | .local _ .vmem, ⟨15, _⟩ => ⟨S289x256, .f32⟩
  | .local _ .vmem, ⟨16, _⟩ => ⟨S289x256, .f32⟩
  | .local _ .vmem, ⟨17, _⟩ => ⟨S289x256, .f32⟩
  | _, _ => ⟨S5x289x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x289x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x289x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S289x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S289x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S289x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S289x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S289x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S289x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S289x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S5x289x512 : Shape := ⟨3, ![5, 289, 512]⟩
abbrev S1024x289 : Shape := ⟨2, ![1024, 289]⟩
abbrev S_ : Shape := ⟨0, ![]⟩
abbrev S289x512 : Shape := ⟨2, ![289, 512]⟩
abbrev S289x1024 : Shape := ⟨2, ![289, 1024]⟩

abbrev nBuf : Space → Nat
  | .hbm => 48
  | .vmem => 0
  | .smem => 0
  | _ => 0

abbrev bufTy : (tb : Table) → Fin (tcTables nBuf tb) → BufTy
  | .hbm, ⟨0, _⟩ => ⟨S5x289x512, .bf16⟩
  | .hbm, ⟨1, _⟩ => ⟨S5x289x512, .bf16⟩
  | .hbm, ⟨2, _⟩ => ⟨S1024x289, .f32⟩
  | .hbm, ⟨3, _⟩ => ⟨S1024x289, .f32⟩
  | .hbm, ⟨4, _⟩ => ⟨S1024x289, .f32⟩
  | .hbm, ⟨5, _⟩ => ⟨S5x289x512, .f32⟩
  | .hbm, ⟨6, _⟩ => ⟨S_, .f32⟩
  | .hbm, ⟨7, _⟩ => ⟨S289x512, .f32⟩
  | .hbm, ⟨8, _⟩ => ⟨S5x289x512, .f32⟩
  | .hbm, ⟨9, _⟩ => ⟨S_, .f32⟩
  | .hbm, ⟨10, _⟩ => ⟨S289x512, .f32⟩
  | .hbm, ⟨11, _⟩ => ⟨S289x1024, .f32⟩
  | .hbm, ⟨12, _⟩ => ⟨S289x1024, .f32⟩
  | .hbm, ⟨13, _⟩ => ⟨S289x1024, .f32⟩
  | .hbm, ⟨14, _⟩ => ⟨S289x1024, .f32⟩
  | .hbm, ⟨15, _⟩ => ⟨S_, .f32⟩
  | .hbm, ⟨16, _⟩ => ⟨S289x1024, .f32⟩
  | .hbm, ⟨17, _⟩ => ⟨S289x1024, .f32⟩
  | .hbm, ⟨18, _⟩ => ⟨S_, .f32⟩
  | .hbm, ⟨19, _⟩ => ⟨S289x1024, .f32⟩
  | .hbm, ⟨20, _⟩ => ⟨S289x1024, .f32⟩
  | .hbm, ⟨21, _⟩ => ⟨S289x1024, .f32⟩
  | .hbm, ⟨22, _⟩ => ⟨S_, .f32⟩
  | .hbm, ⟨23, _⟩ => ⟨S289x1024, .f32⟩
  | .hbm, ⟨24, _⟩ => ⟨S289x1024, .f32⟩
  | .hbm, ⟨25, _⟩ => ⟨S289x1024, .f32⟩
  | .hbm, ⟨26, _⟩ => ⟨S_, .f32⟩
  | .hbm, ⟨27, _⟩ => ⟨S289x1024, .f32⟩
  | .hbm, ⟨28, _⟩ => ⟨S289x1024, .f32⟩
  | .hbm, ⟨29, _⟩ => ⟨S289x1024, .f32⟩
  | .hbm, ⟨30, _⟩ => ⟨S_, .f32⟩
  | .hbm, ⟨31, _⟩ => ⟨S289x1024, .f32⟩
  | .hbm, ⟨32, _⟩ => ⟨S289x1024, .f32⟩
  | .hbm, ⟨33, _⟩ => ⟨S_, .f32⟩
  | .hbm, ⟨34, _⟩ => ⟨S289x1024, .f32⟩
  | .hbm, ⟨35, _⟩ => ⟨S289x1024, .f32⟩
  | .hbm, ⟨36, _⟩ => ⟨S289x1024, .f32⟩
  | .hbm, ⟨37, _⟩ => ⟨S_, .f32⟩
  | .hbm, ⟨38, _⟩ => ⟨S289x1024, .f32⟩
  | .hbm, ⟨39, _⟩ => ⟨S289x1024, .f32⟩
  | .hbm, ⟨40, _⟩ => ⟨S289x1024, .f32⟩
  | .hbm, ⟨41, _⟩ => ⟨S_, .f32⟩
  | .hbm, ⟨42, _⟩ => ⟨S289x1024, .f32⟩
  | .hbm, ⟨43, _⟩ => ⟨S289x1024, .f32⟩
  | .hbm, ⟨44, _⟩ => ⟨S289x1024, .f32⟩
  | .hbm, ⟨45, _⟩ => ⟨S_, .f32⟩
  | .hbm, ⟨46, _⟩ => ⟨S289x1024, .f32⟩
  | .hbm, ⟨47, _⟩ => ⟨S289x1024, .f32⟩
  | _, _ => ⟨S5x289x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Kernel7.lean ====
abbrev S8x1024 : Shape := ⟨2, ![8, 1024]⟩
abbrev S8x6144 : Shape := ⟨2, ![8, 6144]⟩
abbrev S1024x768 : Shape := ⟨2, ![1024, 768]⟩
abbrev S8x256 : Shape := ⟨2, ![8, 256]⟩
abbrev S256x768 : Shape := ⟨2, ![256, 768]⟩
abbrev S8x768 : Shape := ⟨2, ![8, 768]⟩

abbrev nBuf : Space → Nat
  | .hbm => 9
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x6144, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .local _ .vmem, ⟨0, _⟩ => ⟨S8x256, .f32⟩
  | .local _ .vmem, ⟨1, _⟩ => ⟨S8x256, .f32⟩
  | .local _ .vmem, ⟨2, _⟩ => ⟨S8x6144, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 8
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8x1024 : Shape := ⟨2, ![8, 1024]⟩
abbrev S8x6144 : Shape := ⟨2, ![8, 6144]⟩
abbrev S1024x6144 : Shape := ⟨2, ![1024, 6144]⟩
abbrev S_ : Shape := ⟨0, ![]⟩
abbrev S6144x1024 : Shape := ⟨2, ![6144, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x6144, .f32⟩
  | .hbm, ⟨2, _⟩ => ⟨S1024x6144, .f32⟩
  | .hbm, ⟨3, _⟩ => ⟨S1024x6144, .f32⟩
  | .hbm, ⟨4, _⟩ => ⟨S1024x6144, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x6144, .f32⟩
  | .hbm, ⟨15, _⟩ => ⟨S6144x1024, .f32⟩
  | .hbm, ⟨16, _⟩ => ⟨S1024x6144, .f32⟩
  | .hbm, ⟨17, _⟩ => ⟨S_, .f32⟩
  | .hbm, ⟨18, _⟩ => ⟨S1024x6144, .f32⟩
  | .hbm, ⟨19, _⟩ => ⟨S1024x6144, .f32⟩
  | .hbm, ⟨20, _⟩ => ⟨S_, .f32⟩
  | .hbm, ⟨21, _⟩ => ⟨S1024x6144, .f32⟩
  | .hbm, ⟨22, _⟩ => ⟨S1024x6144, .f32⟩
  | .hbm, ⟨23, _⟩ => ⟨S1024x6144, .f32⟩
  | .hbm, ⟨24, _⟩ => ⟨S_, .f32⟩
  | .hbm, ⟨25, _⟩ => ⟨S1024x6144, .f32⟩
  | .hbm, ⟨26, _⟩ => ⟨S1024x6144, .f32⟩
  | .hbm, ⟨27, _⟩ => ⟨S1024x6144, .f32⟩
  | .hbm, ⟨28, _⟩ => ⟨S_, .f32⟩
  | .hbm, ⟨29, _⟩ => ⟨S1024x6144, .f32⟩
  | .hbm, ⟨30, _⟩ => ⟨S1024x6144, .f32⟩
  | .hbm, ⟨31, _⟩ => ⟨S1024x6144, .f32⟩
  | .hbm, ⟨32, _⟩ => ⟨S_, .f32⟩
  | .hbm, ⟨33, _⟩ => ⟨S1024x6144, .f32⟩
  | .hbm, ⟨34, _⟩ => ⟨S1024x6144, .f32⟩
  | .hbm, ⟨35, _⟩ => ⟨S_, .f32⟩
  | .hbm, ⟨36, _⟩ => ⟨S1024x6144, .f32⟩
  | .hbm, ⟨37, _⟩ => ⟨S1024x6144, .f32⟩
  | .hbm, ⟨38, _⟩ => ⟨S1024x6144, .f32⟩
  | .hbm, ⟨39, _⟩ => ⟨S_, .f32⟩
  | .hbm, ⟨40, _⟩ => ⟨S1024x6144, .f32⟩
  | .hbm, ⟨41, _⟩ => ⟨S1024x6144, .f32⟩
  | .hbm, ⟨42, _⟩ => ⟨S1024x6144, .f32⟩
  | .hbm, ⟨43, _⟩ => ⟨S_, .f32⟩
  | .hbm, ⟨44, _⟩ => ⟨S1024x6144, .f32⟩
  | .hbm, ⟨45, _⟩ => ⟨S1024x6144, .f32⟩
  | .hbm, ⟨46, _⟩ => ⟨S1024x6144, .f32⟩
  | .hbm, ⟨47, _⟩ => ⟨S_, .f32⟩
  | .hbm, ⟨48, _⟩ => ⟨S1024x6144, .f32⟩
  | .hbm, ⟨49, _⟩ => ⟨S1024x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Proof.MlpBody.lean ====
/- What one grid point of the feed-forward kernel computes, as functions of the blocks it is handed: `x` the rows of
   the residual stream, `tgt` the rows of the target, the five vectors (`n` the norm's weight, `sc` and `sh` the scale
   and the shift, `ga` the gate, `fn` the final norm's weight), and the two weight matrices `U` (gate and up, one row
   per column of the product) and `D` (down) as they lie in the scratch after the first point's copies.  Nothing here
   depends on the floating-point instance; the arithmetic is read in MlpMath. -/
module

public import proofs.«01_k».proof.Proof.Gen.KernelIdeal.Frame.Runs
public import Idealize.ShloMosaic.Lib.Pipeline.ValueKit
public import Idealize.ShloMosaic.Lib.Pipeline.ReadBack

@[expose] public section

set_option maxRecDepth 16384

noncomputable section

namespace Cert.KernelIdeal.Mlp

open Idealize.ShloMosaic Idealize.ShloMosaic.TcCoe
open Cert.KernelIdeal.Gen

variable {F : FTy → Type} [FloatOps F]

section Point

variable (x tgt : Vec F S256x1024 .f32) (n sc sh ga fn : Vec F S1x1024 .f32)
  (U : Vec F S5632x1024 .bf16) (D : Vec F S2816x1024 .bf16)

/-- The normed and modulated rows, the product's left operand. -/
def hidB : FVec F S256x1024 .bf16 := k0_pay13 x n sc sh

/-- The gated unit's output. -/
def actB : FVec F S256x2816 .bf16 := k0_pay19 x n sc sh U

/-- The residual stream after the feed-forward half. -/
def resB : FVec F S256x1024 .f32 := k0_pay21 x ga (actB x n sc sh U) D

/-- The final norm's reciprocal root, row by row. -/
def rootB : FVec F S256x1 .f32 := k0_pay23 x ga (actB x n sc sh U) D

/-- The derivative of that reciprocal root by the mean square. -/
def slopeB : FVec F S256x1 .f32 := k0_pay24 x ga (actB x n sc sh U) D

/-- Twice the error against the target. -/
def errB : FVec F S256x1024 .f32 := k0_pay27 x ga (actB x n sc sh U) D fn tgt

/-- The gradient of the residual stream behind the feed-forward half. -/
def dresB : FVec F S256x1024 .f32 :=
  k0_pay32 (resB x n sc sh ga U D) fn (rootB x n sc sh ga U D) (slopeB x n sc sh ga U D)
    (errB x tgt n sc sh ga fn U D) k0_pay29

/-- The gradient of the down projection's output. -/
def dmlpB : FVec F S256x1024 .bf16 :=
  k0_pay33 ga (resB x n sc sh ga U D) fn (rootB x n sc sh ga U D) (slopeB x n sc sh ga U D)
    (errB x tgt n sc sh ga fn U D) k0_pay29

/-- The gradient of the gate and up projections' outputs, side by side. -/
def dguB : FVec F S256x5632 .bf16 :=
  k0_pay34 ga (k0_pay15 x n sc sh U) (k0_pay16 x n sc sh U) (k0_pay17 x n sc sh U) (k0_pay18 x n sc sh U)
    (resB x n sc sh ga U D) fn (rootB x n sc sh ga U D) (slopeB x n sc sh ga U D)
    (errB x tgt n sc sh ga fn U D) k0_pay29 D

/-- The gradient of the normed and modulated rows. -/
def dhidB : FVec F S256x1024 .f32 :=
  k0_pay35 ga (k0_pay15 x n sc sh U) (k0_pay16 x n sc sh U) (k0_pay17 x n sc sh U) (k0_pay18 x n sc sh U)
    (resB x n sc sh ga U D) fn (rootB x n sc sh ga U D) (slopeB x n sc sh ga U D)
    (errB x tgt n sc sh ga fn U D) k0_pay29 D U

/-- The gradient of the residual stream the kernel was handed. -/
def gradB : FVec F S256x1024 .f32 :=
  k0_pay40 x n (k0_pay8 x) (k0_pay9 x) (k0_pay12 sc) (dresB x tgt n sc sh ga fn U D)
    (dhidB x tgt n sc sh ga fn U D)

/-- The six rows a point adds into the accumulated block: the gradients of the norm's weight, of the scale, of the
    shift, of the gate and of the final norm's weight, and the loss. -/
def rowsB (old : Vec F S8x1024 .f32) : List (View.Piece (Elt F) S8x1024 .f32) :=
  [⟨Rect.unit ![5, 0] ![1, 1024] inb_S8x1024_S1x1024_5_0,
      k0_pay5 (k0_pay28 x ga (actB x n sc sh U) D fn tgt)
        (View.ld old (Rect.unit ![5, 0] ![1, 1024] inb_S8x1024_S1x1024_5_0))⟩,
    ⟨Rect.unit ![4, 0] ![1, 1024] inb_S8x1024_S1x1024_4_0,
      k0_pay4 (k0_pay31 (k0_pay25 x ga (actB x n sc sh U) D) (errB x tgt n sc sh ga fn U D) k0_pay29)
        (View.ld old (Rect.unit ![4, 0] ![1, 1024] inb_S8x1024_S1x1024_4_0))⟩,
    ⟨Rect.unit ![3, 0] ![1, 1024] inb_S8x1024_S1x1024_3_0,
      k0_pay3 (k0_pay20 (actB x n sc sh U) D) (dresB x tgt n sc sh ga fn U D)
        (View.ld old (Rect.unit ![3, 0] ![1, 1024] inb_S8x1024_S1x1024_3_0))⟩,
    ⟨Rect.unit ![2, 0] ![1, 1024] inb_S8x1024_S1x1024_2_0,
      k0_pay2
        (k0_pay36 ga (k0_pay15 x n sc sh U) (k0_pay16 x n sc sh U) (k0_pay17 x n sc sh U) (k0_pay18 x n sc sh U)
          (resB x n sc sh ga U D) fn (rootB x n sc sh ga U D) (slopeB x n sc sh ga U D)
          (errB x tgt n sc sh ga fn U D) k0_pay29 D U)
        (View.ld old (Rect.unit ![2, 0] ![1, 1024] inb_S8x1024_S1x1024_2_0))⟩,
    ⟨Rect.unit ![1, 0] ![1, 1024] inb_S8x1024_S1x1024_1_0,
      k0_pay1
        (k0_pay38
          (k0_pay37 ga (k0_pay11 x n) (k0_pay15 x n sc sh U) (k0_pay16 x n sc sh U) (k0_pay17 x n sc sh U)
            (k0_pay18 x n sc sh U) (resB x n sc sh ga U D) fn (rootB x n sc sh ga U D) (slopeB x n sc sh ga U D)
            (errB x tgt n sc sh ga fn U D) k0_pay29 D U))
        (View.ld old (Rect.unit ![1, 0] ![1, 1024] inb_S8x1024_S1x1024_1_0))⟩,
    ⟨Rect.unit ![0, 0] S1x1024.size inb_S8x1024_S1x1024_0_0,
      k0_pay41 (k0_pay10 x) (k0_pay12 sc) (dhidB x tgt n sc sh ga fn U D)
        (View.ld old (Rect.unit ![0, 0] S1x1024.size inb_S8x1024_S1x1024_0_0))⟩]

/-- The whole block as one piece, under the rows. -/
def baseB (old : Vec F S8x1024 .f32) : List (View.Piece (Elt F) S8x1024 .f32) :=
  [⟨Rect.unit ![0, 0] S8x1024.size inb_S8x1024_S8x1024_0_0, old⟩]

/-- The accumulated block after a point that found it at `old`. -/
def accB (old : Vec F S8x1024 .f32) : Vec F S8x1024 .f32 :=
  View.canon (rowsB x tgt n sc sh ga fn U D old ++ baseB old)

end Point

/-- A whole block stored reads back as what was stored. -/
theorem read_whole {sig' : RefSig} {κ : Kind} {sp : Space} {s : Shape} {e : EltTy} {v : View sig' κ sp s e}
    (f : v.ty.Contents (Elt F)) {off : Fin s.rank → Nat} (inb : ∀ a, off a + s.size a ≤ s.size a) (w : Vec F s e)
    (h : ∀ a, off a = 0) : v.read (Elt F) (v.writes (Elt F) f [⟨Rect.unit off s.size inb, w⟩]) = w := by
  obtain rfl : off = fun _ => 0 := funext h
  funext y
  have hy : (Rect.unit (fun _ => 0) s.size inb).emb y = y :=
    funext fun a => Fin.ext (show 0 + 1 * (y a : Nat) = y a by omega)
  have := View.read_writes_cons_emb (v := v) (f := f) (Rect.unit (fun _ => 0) s.size inb) w [] y
  rwa [hy] at this

/-- A load of what stores left is the load of their canon. -/
theorem readCov_eq_ld {sig' : RefSig} {κ : Kind} {sp : Space} {s : Shape} {e : EltTy} (v : View sig' κ sp s e)
    (L : List (View.Piece (Elt F) s e)) (r : Rect s) : v.readCov L r.toLoadRect = View.ld (View.canon L) r :=
  View.readCov_eq_canon' v L r.toLoadRect

/-- Pieces over a whole block cover it. -/
theorem whole_cover (L : List (View.Piece (Elt F) S8x1024 .f32)) (old : Vec F S8x1024 .f32) (y : S8x1024.Idx) :
    ∃ p ∈ L ++ baseB old, y ∈ p.1.set :=
  ⟨_, List.mem_append_right _ List.mem_cons_self, View.cover_of_tiledL (baseB old) S8x1024.size (by sl_kernel_rfl) y
    |>.elim fun p hp => by
      obtain rfl := List.mem_singleton.mp hp.1
      exact hp.2⟩

/-- Pieces written over contents that read as `X` are the canon of the pieces over `X` itself. -/
theorem read_writes_over {sig' : RefSig} {κ : Kind} {sp : Space} {v : View sig' κ sp S8x1024 .f32}
    (f : v.ty.Contents (Elt F)) (X : Vec F S8x1024 .f32) (hf : v.read (Elt F) f = X) :
    ∀ L : List (View.Piece (Elt F) S8x1024 .f32), v.read (Elt F) (v.writes (Elt F) f L) = View.canon (L ++ baseB X)
  | [] => by
    rw [View.writes_nil, hf]
    exact (View.canon_cons_unit_lit' inb_S8x1024_S8x1024_0_0 X [] (by decide)).symm
  | p :: L => by
    funext y
    by_cases hy : y ∈ p.1.set
    · obtain ⟨r, w⟩ := p
      obtain ⟨j, rfl⟩ : ∃ j, r.emb j = y := r.exists_idx_of_mem hy
      rw [View.read_writes_cons_emb, List.cons_append, View.canon_cons_emb]
    · rw [View.read_writes_cons_miss _ _ p L y hy, List.cons_append, View.canon_cons_of_not_mem p _ hy,
        read_writes_over f X hf L]

end Cert.KernelIdeal.Mlp

end
-- ==== Proof.MlpLater.lean ====
/- The run of the feed-forward kernel's body at every grid point but the first: the weights are in the scratch, the
   accumulated block holds what the points before left, and the body copies nothing. -/
module

public import proofs.«01_k».proof.Proof.MlpBody

@[expose] public section

-- a membership in a rectangle of these extents is looked at once per coordinate of its long axis
set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 4000000 in
/-- At a point where nothing is copied, the body leaves its operands as they were, each output's block at the value of
    MlpBody, and the accumulated block with this point's six rows added. -/
theorem later (c : Dev nD) (i : grid0.Coords)
    (arg1 : Memref sig .tc .vmem S256x1024 .f32) (harg1 : arg1.IsWhole) (arg2 : Memref sig .tc .vmem S256x1024 .f32)
      (harg2 : arg2.IsWhole) (arg3 : Memref sig .tc .vmem S1x1024 .f32) (harg3 : arg3.IsWhole) (arg4 : Memref sig .tc
      .vmem S1x1024 .f32) (harg4 : arg4.IsWhole) (arg5 : Memref sig .tc .vmem S1x1024 .f32) (harg5 : arg5.IsWhole)
      (arg6 : Memref sig .tc .vmem S1x1024 .f32) (harg6 : arg6.IsWhole) (arg7 : Memref sig .tc .vmem S1x1024 .f32)
      (harg7 : arg7.IsWhole) (arg13 : Memref sig .tc .vmem S256x1024 .f32) (harg13 : arg13.IsWhole) (arg14 : Memref
      sig .tc .vmem S256x1024 .bf16) (harg14 : arg14.IsWhole) (arg15 : Memref sig .tc .vmem S256x5632 .bf16) (harg15
      : arg15.IsWhole) (arg16 : Memref sig .tc .vmem S256x2816 .bf16) (harg16 : arg16.IsWhole) (arg17 : Memref sig
      .tc .vmem S256x1024 .bf16) (harg17 : arg17.IsWhole) (arg18 : Memref sig .tc .vmem S8x1024 .f32) (harg18 :
      arg18.IsWhole) (arg19 : Memref sig .tc .vmem S5632x1024 .bf16) (harg19 : arg19.IsWhole) (arg20 : Memref sig .tc
      .vmem S2816x1024 .bf16) (harg20 : arg20.IsWhole)
    (hc0 : ¬cond0_0 i)
    (x tgt : Vec F S256x1024 .f32) (n sc sh ga fn : Vec F S1x1024 .f32)
    (old : Vec F S8x1024 .f32) (U : Vec F S5632x1024 .bf16) (D : Vec F S2816x1024 .bf16)
    (K : PUnit → sProp 𝕄) :
    iprop(owns (c : Thread nD τ) arg1 fullShare x ∗ owns (c : Thread nD τ) arg2 fullShare tgt ∗ owns (c : Thread nD
      τ) arg3 fullShare n ∗ owns (c : Thread nD τ) arg4 fullShare sc ∗ owns (c : Thread nD τ) arg5 fullShare sh ∗
      owns (c : Thread nD τ) arg6 fullShare ga ∗ owns (c : Thread nD τ) arg7 fullShare fn ∗ (∃ d, owns (c : Thread nD
      τ) arg13 fullShare d) ∗ (∃ d, owns (c : Thread nD τ) arg14 fullShare d) ∗ (∃ d, owns (c : Thread nD τ) arg15
      fullShare d) ∗ (∃ d, owns (c : Thread nD τ) arg16 fullShare d) ∗ (∃ d, owns (c : Thread nD τ) arg17 fullShare
      d) ∗ owns (c : Thread nD τ) arg18 fullShare old ∗ owns (c : Thread nD τ) arg19 fullShare U ∗ owns (c : Thread
      nD τ) arg20 fullShare D
        ∗ (iprop(owns (c : Thread nD τ) arg1 fullShare x ∗ owns (c : Thread nD τ) arg2 fullShare tgt ∗ owns (c :
          Thread nD τ) arg3 fullShare n ∗ owns (c : Thread nD τ) arg4 fullShare sc ∗ owns (c : Thread nD τ) arg5
          fullShare sh ∗ owns (c : Thread nD τ) arg6 fullShare ga ∗ owns (c : Thread nD τ) arg7 fullShare fn ∗ owns
          (c : Thread nD τ) arg13 fullShare (gradB x tgt n sc sh ga fn U D) ∗ owns (c : Thread nD τ) arg14 fullShare
          (hidB x n sc sh) ∗ owns (c : Thread nD τ) arg15 fullShare (dguB x tgt n sc sh ga fn U D) ∗ owns (c : Thread
          nD τ) arg16 fullShare (actB x n sc sh U) ∗ owns (c : Thread nD τ) arg17 fullShare (dmlpB x tgt n sc sh ga
          fn U D) ∗ owns (c : Thread nD τ) arg18 fullShare (accB x tgt n sc sh ga fn U D old) ∗ owns (c : Thread nD
          τ) arg19 fullShare U ∗ owns (c : Thread nD τ) arg20 fullShare D) -∗ K ⟨⟩))
      ⊢ wp frame (wpE (defs₀ (F := F)) Variants.none c none) Set.univ
          (cc0_mlp_loss i arg1 harg1 arg2 harg2 arg3 harg3 arg4 harg4 arg5 harg5 arg6 harg6 arg7 harg7 (Memref.whole
            main_v5) (Memref.isWhole_whole _) (Memref.whole main_v6) (Memref.isWhole_whole _) (Memref.whole main_v7)
            (Memref.isWhole_whole _) (Memref.whole main_v8) (Memref.isWhole_whole _) (Memref.whole main_v9)
            (Memref.isWhole_whole _) arg13 harg13 arg14 harg14 arg15 harg15 arg16 harg16 arg17 harg17 arg18 harg18
            arg19 harg19 arg20 harg20 cc0_scratch2) K := by
  simp only [cc0_mlp_loss_eq_skeleton]; unfold cc0_mlp_loss_skel
  simp only [k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
    %hf6, H6⟩, ⟨%d7, %f7, -, H7⟩, ⟨%d8, %f8, -, H8⟩, ⟨%d9, %f9, -, H9⟩, ⟨%d10, %f10, -, H10⟩, ⟨%d11, %f11, -, H11⟩,
    ⟨%f12, %hf12, H12⟩, ⟨%g0, %hg0, HS0⟩, ⟨%g1, %hg1, HS1⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg18.eq_unread hf12
  obtain rfl := harg19.eq_unread hg0
  obtain rfl := harg20.eq_unread hg1
  sl_exec (disch := first | sl_exact hc0)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; frame_open
    refine (read_whole _ _ _ (by decide)).trans ?_
    simp (disch := decide) only [View.readAt_eq_ld, Memref.IsWhole.read_unread, View.ld_unit_lit']
    rfl
  isplitl [H8]
  · iexists _; isplitr; swap; · iexact H8
    ipureintro; frame_open
    refine (read_whole _ _ _ (by decide)).trans ?_
    simp (disch := decide) only [View.readAt_eq_ld, Memref.IsWhole.read_unread, View.ld_unit_lit']
    rfl
  isplitl [H9]
  · iexists _; isplitr; swap; · iexact H9
    ipureintro; frame_open
    refine (read_whole _ _ _ (by decide)).trans ?_
    simp (disch := decide) only [View.readAt_eq_ld, Memref.IsWhole.read_unread, View.ld_unit_lit']
    rfl
  isplitl [H10]
  · iexists _; isplitr; swap; · iexact H10
    ipureintro; frame_open
    refine (read_whole _ _ _ (by decide)).trans ?_
    simp (disch := decide) only [View.readAt_eq_ld, Memref.IsWhole.read_unread, View.ld_unit_lit']
    rfl
  isplitl [H11]
  · iexists _; isplitr; swap; · iexact H11
    ipureintro; frame_open
    refine (read_whole _ _ _ (by decide)).trans ?_
    simp (disch := decide) only [View.readAt_eq_ld, Memref.IsWhole.read_unread, View.ld_unit_lit']
    rfl
  isplitl [H12]
  · iexists _; isplitr; swap; · iexact H12
    ipureintro; frame_open
    refine (read_writes_over _ old (harg18.read_unread _) _).trans ?_
    simp (disch := decide) only [View.readAt_eq_ld, Memref.IsWhole.read_unread, View.ld_unit_lit']
    rfl
  isplitl [HS0]
  · iexists _; isplitr; swap; · iexact HS0
    ipureintro; exact harg19.read_unread _
  iexists _; isplitr; swap; · iexact HS1
  ipureintro; exact harg20.read_unread _

end Cert.KernelIdeal.Mlp

end
-- ==== Proof.MlpFirst.lean ====
/- The run of the feed-forward kernel's body at the first grid point, where the forty copies bring the two weight
   matrices into the scratch piece by piece.  The pieces are found by the run; MlpPieces says which matrices they make. -/
module

public import proofs.«01_k».proof.Proof.MlpBody

@[expose] public section

-- a membership in a rectangle of these extents is looked at once per coordinate of its long axis
set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- The forty cells of the copies, at zero. -/
def cellsZero (c : Dev nD) : sProp 𝕄 :=
  iprop(semVal ((c : Thread nD τ), SemLoc.dma 20) 0 ∗ semVal ((c : Thread nD τ), SemLoc.dma 21) 0 ∗ semVal ((c :
    Thread nD τ), SemLoc.dma 22) 0 ∗ semVal ((c : Thread nD τ), SemLoc.dma 23) 0 ∗ semVal ((c : Thread nD τ),
    SemLoc.dma 24) 0 ∗ semVal ((c : Thread nD τ), SemLoc.dma 25) 0 ∗ semVal ((c : Thread nD τ), SemLoc.dma 26) 0 ∗
    semVal ((c : Thread nD τ), SemLoc.dma 27) 0 ∗ semVal ((c : Thread nD τ), SemLoc.dma 28) 0 ∗ semVal ((c : Thread
    nD τ), SemLoc.dma 29) 0 ∗ semVal ((c : Thread nD τ), SemLoc.dma 30) 0 ∗ semVal ((c : Thread nD τ), SemLoc.dma 31)
    0 ∗ semVal ((c : Thread nD τ), SemLoc.dma 32) 0 ∗ semVal ((c : Thread nD τ), SemLoc.dma 33) 0 ∗ semVal ((c :
    Thread nD τ), SemLoc.dma 34) 0 ∗ semVal ((c : Thread nD τ), SemLoc.dma 35) 0 ∗ semVal ((c : Thread nD τ),
    SemLoc.dma 36) 0 ∗ semVal ((c : Thread nD τ), SemLoc.dma 37) 0 ∗ semVal ((c : Thread nD τ), SemLoc.dma 38) 0 ∗
    semVal ((c : Thread nD τ), SemLoc.dma 39) 0 ∗ semVal ((c : Thread nD τ), SemLoc.dma 40) 0 ∗ semVal ((c : Thread
    nD τ), SemLoc.dma 41) 0 ∗ semVal ((c : Thread nD τ), SemLoc.dma 42) 0 ∗ semVal ((c : Thread nD τ), SemLoc.dma 43)
    0 ∗ semVal ((c : Thread nD τ), SemLoc.dma 44) 0 ∗ semVal ((c : Thread nD τ), SemLoc.dma 45) 0 ∗ semVal ((c :
    Thread nD τ), SemLoc.dma 46) 0 ∗ semVal ((c : Thread nD τ), SemLoc.dma 47) 0 ∗ semVal ((c : Thread nD τ),
    SemLoc.dma 48) 0 ∗ semVal ((c : Thread nD τ), SemLoc.dma 49) 0 ∗ semVal ((c : Thread nD τ), SemLoc.dma 50) 0 ∗
    semVal ((c : Thread nD τ), SemLoc.dma 51) 0 ∗ semVal ((c : Thread nD τ), SemLoc.dma 52) 0 ∗ semVal ((c : Thread
    nD τ), SemLoc.dma 53) 0 ∗ semVal ((c : Thread nD τ), SemLoc.dma 54) 0 ∗ semVal ((c : Thread nD τ), SemLoc.dma 55)
    0 ∗ semVal ((c : Thread nD τ), SemLoc.dma 56) 0 ∗ semVal ((c : Thread nD τ), SemLoc.dma 57) 0 ∗ semVal ((c :
    Thread nD τ), SemLoc.dma 58) 0 ∗ semVal ((c : Thread nD τ), SemLoc.dma 59) 0)

/-- The five operands the copies read, at their contents. -/
def homesAt (c : Dev nD) (fh0 : HbBuf0 (F := F) c hbM0_0) (fh1 : HbBuf0 (F := F) c hbM0_1) (fh2 : HbBuf0 (F := F) c hbM0_2)
    (fh3 : HbBuf0 (F := F) c hbM0_3) (fh4 : HbBuf0 (F := F) c hbM0_4) : sProp 𝕄 :=
  iprop(hbPt0 c hbM0_0 fh0 ∗ hbPt0 c hbM0_1 fh1 ∗ hbPt0 c hbM0_2 fh2 ∗ hbPt0 c hbM0_3 fh3 ∗ hbPt0 c hbM0_4 fh4)

-- the copies are waited for long after they were started; what a wait hands back is joined to what is held then
set_option sl_exec.rejoinHeartbeats 400000 in
set_option sl_exec.rejoinFuel 200 in
set_option sl_exec.dmaWindow true in
set_option sl_exec.dmaWindowSet true in
set_option maxHeartbeats 20000000 in
/-- At the first point the body leaves its operands, the cells and the copied operands as they were, the two scratch
    buffers with the copied pieces written, each output's block at the value of MlpBody over the matrices those pieces
    make, and the accumulated block with six rows over zeros, each a piece the run finds too. -/
noncomputable def first (c : Dev nD) (i : grid0.Coords)
    (arg1 : Memref sig .tc .vmem S256x1024 .f32) (harg1 : arg1.IsWhole) (arg2 : Memref sig .tc .vmem S256x1024 .f32)
      (harg2 : arg2.IsWhole) (arg3 : Memref sig .tc .vmem S1x1024 .f32) (harg3 : arg3.IsWhole) (arg4 : Memref sig .tc
      .vmem S1x1024 .f32) (harg4 : arg4.IsWhole) (arg5 : Memref sig .tc .vmem S1x1024 .f32) (harg5 : arg5.IsWhole)
      (arg6 : Memref sig .tc .vmem S1x1024 .f32) (harg6 : arg6.IsWhole) (arg7 : Memref sig .tc .vmem S1x1024 .f32)
      (harg7 : arg7.IsWhole) (arg13 : Memref sig .tc .vmem S256x1024 .f32) (harg13 : arg13.IsWhole) (arg14 : Memref
      sig .tc .vmem S256x1024 .bf16) (harg14 : arg14.IsWhole) (arg15 : Memref sig .tc .vmem S256x5632 .bf16) (harg15
      : arg15.IsWhole) (arg16 : Memref sig .tc .vmem S256x2816 .bf16) (harg16 : arg16.IsWhole) (arg17 : Memref sig
      .tc .vmem S256x1024 .bf16) (harg17 : arg17.IsWhole) (arg18 : Memref sig .tc .vmem S8x1024 .f32) (harg18 :
      arg18.IsWhole) (arg19 : Memref sig .tc .vmem S5632x1024 .bf16) (harg19 : arg19.IsWhole) (arg20 : Memref sig .tc
      .vmem S2816x1024 .bf16) (harg20 : arg20.IsWhole)
    (hc0 : cond0_0 i)
    (x tgt : Vec F S256x1024 .f32) (n sc sh ga fn : Vec F S1x1024 .f32)
    (fh0 : HbBuf0 (F := F) c hbM0_0) (fh1 : HbBuf0 (F := F) c hbM0_1) (fh2 : HbBuf0 (F := F) c hbM0_2) (fh3 : HbBuf0
      (F := F) c hbM0_3) (fh4 : HbBuf0 (F := F) c hbM0_4) :
    Σ' (PU : List (View.Piece (Elt F) S5632x1024 .bf16)), Σ' (PD : List (View.Piece (Elt F) S2816x1024 .bf16)),
      { PA : List (View.Piece (Elt F) S8x1024 .f32) //
      ∀ (W : Waits sig Unit) (K : PUnit → sProp 𝕄),
        iprop(owns (c : Thread nD τ) arg1 fullShare x ∗ owns (c : Thread nD τ) arg2 fullShare tgt ∗ owns (c : Thread
          nD τ) arg3 fullShare n ∗ owns (c : Thread nD τ) arg4 fullShare sc ∗ owns (c : Thread nD τ) arg5 fullShare
          sh ∗ owns (c : Thread nD τ) arg6 fullShare ga ∗ owns (c : Thread nD τ) arg7 fullShare fn ∗ (∃ d, owns (c :
          Thread nD τ) arg13 fullShare d) ∗ (∃ d, owns (c : Thread nD τ) arg14 fullShare d) ∗ (∃ d, owns (c : Thread
          nD τ) arg15 fullShare d) ∗ (∃ d, owns (c : Thread nD τ) arg16 fullShare d) ∗ (∃ d, owns (c : Thread nD τ)
          arg17 fullShare d) ∗ (∃ d, owns (c : Thread nD τ) arg18 fullShare d) ∗ (∃ d, owns (c : Thread nD τ) arg19
          fullShare d) ∗ (∃ d, owns (c : Thread nD τ) arg20 fullShare d) ∗ cellsZero c ∗ homesAt c fh0 fh1 fh2 fh3
          fh4 ∗ owes (c : Thread nD τ) 0 W
            ∗ (iprop((∃ f, arg19.view.loc (c : Thread nD τ) ↦[arg19.view.set]{fullShare} arg19.view.writes (Elt F) f
              PU) ∗ (∃ f, arg20.view.loc (c : Thread nD τ) ↦[arg20.view.set]{fullShare} arg20.view.writes (Elt F) f
              PD) ∗ (∃ f, arg18.view.loc (c : Thread nD τ) ↦[arg18.view.set]{fullShare} arg18.view.writes (Elt F) f
              PA) ∗ owns (c : Thread nD τ) arg1 fullShare x ∗ owns (c : Thread nD τ) arg2 fullShare tgt ∗ owns (c :
              Thread nD τ) arg3 fullShare n ∗ owns (c : Thread nD τ) arg4 fullShare sc ∗ owns (c : Thread nD τ) arg5
              fullShare sh ∗ owns (c : Thread nD τ) arg6 fullShare ga ∗ owns (c : Thread nD τ) arg7 fullShare fn ∗
              owns (c : Thread nD τ) arg13 fullShare (gradB x tgt n sc sh ga fn (View.canon PU) (View.canon PD)) ∗
              owns (c : Thread nD τ) arg14 fullShare (hidB x n sc sh) ∗ owns (c : Thread nD τ) arg15 fullShare (dguB
              x tgt n sc sh ga fn (View.canon PU) (View.canon PD)) ∗ owns (c : Thread nD τ) arg16 fullShare (actB x n
              sc sh (View.canon PU)) ∗ owns (c : Thread nD τ) arg17 fullShare (dmlpB x tgt n sc sh ga fn (View.canon
              PU) (View.canon PD)) ∗ cellsZero c ∗ homesAt c fh0 fh1 fh2 fh3 fh4 ∗ (∃ W', owes (c : Thread nD τ) 0
              W')) -∗ K ⟨⟩))
          ⊢ wp frame (wpE (defs₀ (F := F)) Variants.none c none) Set.univ
              (cc0_mlp_loss i arg1 harg1 arg2 harg2 arg3 harg3 arg4 harg4 arg5 harg5 arg6 harg6 arg7 harg7
                (Memref.whole main_v5) (Memref.isWhole_whole _) (Memref.whole main_v6) (Memref.isWhole_whole _)
                (Memref.whole main_v7) (Memref.isWhole_whole _) (Memref.whole main_v8) (Memref.isWhole_whole _)
                (Memref.whole main_v9) (Memref.isWhole_whole _) arg13 harg13 arg14 harg14 arg15 harg15 arg16 harg16
                arg17 harg17 arg18 harg18 arg19 harg19 arg20 harg20 cc0_scratch2) K } := by
  refine ⟨?_, ?_, ?_, fun W K => ?run⟩
  rotate_left 3
  simp only [cc0_mlp_loss_eq_skeleton]; unfold cc0_mlp_loss_skel
  simp only [k0_part17_eq_skeleton, k0_part1_eq_skeleton, k0_part2_eq_skeleton, k0_part3_eq_skeleton,
    k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton,
    k0_part14_eq_skeleton, k0_part15_eq_skeleton, k0_part16_eq_skeleton, k0_part18_eq_skeleton,
    k0_part19_eq_skeleton, k0_part20_eq_skeleton]
  unfold owns cellsZero homesAt
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
    %hf6, H6⟩, ⟨%d7, %f7, -, H7⟩, ⟨%d8, %f8, -, H8⟩, ⟨%d9, %f9, -, H9⟩, ⟨%d10, %f10, -, H10⟩, ⟨%d11, %f11, -, H11⟩,
    ⟨%d12, %f12, -, H12⟩, ⟨%e0, %g0, -, HS0⟩, ⟨%e1, %g1, -, HS1⟩, ⟨Hq0, Hq1, Hq2, Hq3, Hq4, Hq5, Hq6, Hq7, Hq8, Hq9,
    Hq10, Hq11, Hq12, Hq13, Hq14, Hq15, Hq16, Hq17, Hq18, Hq19, Hq20, Hq21, Hq22, Hq23, Hq24, Hq25, Hq26, Hq27, Hq28,
    Hq29, Hq30, Hq31, Hq32, Hq33, Hq34, Hq35, Hq36, Hq37, Hq38, Hq39⟩, ⟨Hh0, Hh1, Hh2, Hh3, Hh4⟩, HW, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  sl_exec (disch := first | sl_exact hc0)
  sl_step
  iapply Hk
  isplitl [HS0]; · iexists _; iexact HS0
  isplitl [HS1]; · iexists _; iexact HS1
  isplitl [H12]; · iexists _; iexact H12
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro
    frame_open
    refine (read_whole _ _ _ (by decide)).trans ?_
    simp (disch := decide) only [View.readAt_eq_ld, Memref.IsWhole.read_unread, View.ld_unit_lit', readCov_eq_ld,
      View.canon_cons_unit_lit']
    rfl
  isplitl [H8]
  · iexists _; isplitr; swap; · iexact H8
    ipureintro
    frame_open
    refine (read_whole _ _ _ (by decide)).trans ?_
    simp (disch := decide) only [View.readAt_eq_ld, Memref.IsWhole.read_unread, View.ld_unit_lit', readCov_eq_ld,
      View.canon_cons_unit_lit']
    rfl
  isplitl [H9]
  · iexists _; isplitr; swap; · iexact H9
    ipureintro
    frame_open
    refine (read_whole _ _ _ (by decide)).trans ?_
    simp (disch := decide) only [View.readAt_eq_ld, Memref.IsWhole.read_unread, View.ld_unit_lit', readCov_eq_ld,
      View.canon_cons_unit_lit']
    rfl
  isplitl [H10]
  · iexists _; isplitr; swap; · iexact H10
    ipureintro
    frame_open
    refine (read_whole _ _ _ (by decide)).trans ?_
    simp (disch := decide) only [View.readAt_eq_ld, Memref.IsWhole.read_unread, View.ld_unit_lit', readCov_eq_ld,
      View.canon_cons_unit_lit']
    rfl
  isplitl [H11]
  · iexists _; isplitr; swap; · iexact H11
    ipureintro
    frame_open
    refine (read_whole _ _ _ (by decide)).trans ?_
    simp (disch := decide) only [View.readAt_eq_ld, Memref.IsWhole.read_unread, View.ld_unit_lit', readCov_eq_ld,
      View.canon_cons_unit_lit']
    rfl
  isplitl [Hq0 Hq1 Hq2 Hq3 Hq4 Hq5 Hq6 Hq7 Hq8 Hq9 Hq10 Hq11 Hq12 Hq13 Hq14 Hq15 Hq16 Hq17 Hq18 Hq19 Hq20 Hq21 Hq22
    Hq23 Hq24 Hq25 Hq26 Hq27 Hq28 Hq29 Hq30 Hq31 Hq32 Hq33 Hq34 Hq35 Hq36 Hq37 Hq38 Hq39]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    iexact Hq39
  isplitl [Hh0 Hh1 Hh2 Hh3 Hh4]
  · isplitl [Hh0]; · iexact Hh0
    isplitl [Hh1]; · iexact Hh1
    isplitl [Hh2]; · iexact Hh2
    isplitl [Hh3]; · iexact Hh3
    iexact Hh4
  iexists _; iexact HW

end Cert.KernelIdeal.Mlp

end
-- ==== Proof.MlpWeights.lean ====
/- The two weight matrices as the first point's copies lay them into the scratch: each matrix is the union of eight
   equal ranges of rows, one per device the host cut it over, and each range is filled from two or three host arrays. -/
module

public import proofs.«01_k».proof.Proof.MlpBody
public import Idealize.ShloMosaic.Lib.ValueLayout

@[expose] public section

set_option maxRecDepth 16384

noncomputable section

namespace Cert.KernelIdeal.Mlp

open Idealize.ShloMosaic Idealize.ShloMosaic.TcCoe
open Cert.KernelIdeal.Gen

variable {F : FTy → Type} [FloatOps F]

/-- The gate and up weights: range `b` holds 240 rows of `p`, then 256 of `q`, then 208 of `r`. -/
def upW (p : Vec F S8x240x1024 .bf16) (q : Vec F S8x256x1024 .bf16) (r : Vec F S8x208x1024 .bf16) :
    Vec F S5632x1024 .bf16 := fun y =>
  have hb : (y 0).val < 5632 := (y 0).isLt
  if h : (y 0).val % 704 < 240 then p (ix3 ⟨(y 0).val / 704, by omega⟩ ⟨(y 0).val % 704, h⟩ (y 1))
  else if h' : (y 0).val % 704 < 496 then q (ix3 ⟨(y 0).val / 704, by omega⟩ ⟨(y 0).val % 704 - 240, by omega⟩ (y 1))
  else r (ix3 ⟨(y 0).val / 704, by omega⟩ ⟨(y 0).val % 704 - 496, by omega⟩ (y 1))

/-- The down weights: range `b` holds 288 rows of `p`, then 64 of `q`. -/
def downW (p : Vec F S8x288x1024 .bf16) (q : Vec F S8x64x1024 .bf16) : Vec F S2816x1024 .bf16 := fun y =>
  have hb : (y 0).val < 2816 := (y 0).isLt
  if h : (y 0).val % 352 < 288 then p (ix3 ⟨(y 0).val / 352, by omega⟩ ⟨(y 0).val % 352, h⟩ (y 1))
  else q (ix3 ⟨(y 0).val / 352, by omega⟩ ⟨(y 0).val % 352 - 288, by omega⟩ (y 1))

/-- One slab of an array of eight, its leading axis dropped, at a row and a column. -/
theorem slab {a : ℕ} (f : Vec F ⟨3, ![8, a, 1024]⟩ .bf16) (k : ℕ) (hk : k < 8)
    (inb : ∀ i : Fin 3, (![k, 0, 0] : Fin 3 → ℕ) i + (![1, a, 1024] : Fin 3 → ℕ) i ≤ (![8, a, 1024] : Fin 3 → ℕ) i)
    (h : (⟨2, ![a, 1024]⟩ : Shape).numel = (⟨3, ![1, a, 1024]⟩ : Shape).numel) (x : (⟨2, ![a, 1024]⟩ : Shape).Idx) :
    f ((Rect.unit (s := ⟨3, ![8, a, 1024]⟩) ![k, 0, 0] ![1, a, 1024] inb).emb (Shape.reshapeEquiv h x))
      = f (ix3 ⟨k, hk⟩ (x 0) (x 1)) := by
  have e : Shape.reshapeEquiv h x = ValueIdx.ix3 (⟨0, Nat.one_pos⟩ : Fin 1) (x 0) (x 1) := by
    refine Eq.trans ?_ (ValueIdx.reshapeEquiv_ix2_1ab h (x 0) (x 1))
    congr 1; funext i; match i with | 0 => rfl | 1 => rfl
  refine congrArg f ?_
  refine (congrArg _ e).trans ?_
  funext i
  match i with
  | 0 => exact Fin.ext (show k + 1 * 0 = k by omega)
  | 1 => exact Fin.ext (show 0 + 1 * (x 0).val = (x 0).val by omega)
  | 2 => exact Fin.ext (show 0 + 1 * (x 1).val = (x 1).val by omega)

/-- The copy of operand 0 of the up weights into range `k` is that range's rows from 0. -/
theorem up_piece0 (k o : ℕ) (hk : k < 8) (ho : o = 704 * k + 0) (inb h inb') (p : Vec F S8x240x1024 .bf16) (q : Vec F S8x256x1024 .bf16) (r : Vec F S8x208x1024 .bf16)
    (x : S240x1024.Idx) :
    ReadAs.same.apply (View.read (Elt F)
        (((View.whole main_v5).slice (Rect.unit ![k, 0, 0] ![1, 240, 1024] inb)).reshape S240x1024 h) p) x
      = upW p q r ((Rect.unit (s := S5632x1024) ![o, 0] ![240, 1024] inb').emb x) := by
  refine (slab (a := 240) p k hk inb h x).trans ?_
  have hx : (x 0).val < 240 := (x 0).isLt
  have e0 : (((Rect.unit (s := S5632x1024) ![o, 0] ![240, 1024] inb').emb x) 0).val = 704 * k + 0 + (x 0).val :=
    show o + 1 * (x 0).val = _ by omega
  have e1 : ((Rect.unit (s := S5632x1024) ![o, 0] ![240, 1024] inb').emb x) 1 = x 1 :=
    Fin.ext (show 0 + 1 * (x 1).val = (x 1).val by omega)
  have hd : (704 * k + 0 + (x 0).val) / 704 = k := by omega
  have hm : (704 * k + 0 + (x 0).val) % 704 = 0 + (x 0).val := by omega
  simp only [upW, e0, e1, hd, hm]
  rw [dif_pos (show 0 + (x 0).val < 240 by omega)]
  congr 2; exact Fin.ext (show (x 0).val = _ by dsimp only; omega)

/-- The copy of operand 1 of the up weights into range `k` is that range's rows from 240. -/
theorem up_piece1 (k o : ℕ) (hk : k < 8) (ho : o = 704 * k + 240) (inb h inb') (p : Vec F S8x240x1024 .bf16) (q : Vec F S8x256x1024 .bf16) (r : Vec F S8x208x1024 .bf16)
    (x : S256x1024.Idx) :
    ReadAs.same.apply (View.read (Elt F)
        (((View.whole main_v6).slice (Rect.unit ![k, 0, 0] ![1, 256, 1024] inb)).reshape S256x1024 h) q) x
      = upW p q r ((Rect.unit (s := S5632x1024) ![o, 0] ![256, 1024] inb').emb x) := by
  refine (slab (a := 256) q k hk inb h x).trans ?_
  have hx : (x 0).val < 256 := (x 0).isLt
  have e0 : (((Rect.unit (s := S5632x1024) ![o, 0] ![256, 1024] inb').emb x) 0).val = 704 * k + 240 + (x 0).val :=
    show o + 1 * (x 0).val = _ by omega
  have e1 : ((Rect.unit (s := S5632x1024) ![o, 0] ![256, 1024] inb').emb x) 1 = x 1 :=
    Fin.ext (show 0 + 1 * (x 1).val = (x 1).val by omega)
  have hd : (704 * k + 240 + (x 0).val) / 704 = k := by omega
  have hm : (704 * k + 240 + (x 0).val) % 704 = 240 + (x 0).val := by omega
  simp only [upW, e0, e1, hd, hm]
  rw [dif_neg (show ¬240 + (x 0).val < 240 by omega)]
  rw [dif_pos (show 240 + (x 0).val < 496 by omega)]
  congr 2; exact Fin.ext (show (x 0).val = _ by dsimp only; omega)

/-- The copy of operand 2 of the up weights into range `k` is that range's rows from 496. -/
theorem up_piece2 (k o : ℕ) (hk : k < 8) (ho : o = 704 * k + 496) (inb h inb') (p : Vec F S8x240x1024 .bf16) (q : Vec F S8x256x1024 .bf16) (r : Vec F S8x208x1024 .bf16)
    (x : S208x1024.Idx) :
    ReadAs.same.apply (View.read (Elt F)
        (((View.whole main_v7).slice (Rect.unit ![k, 0, 0] ![1, 208, 1024] inb)).reshape S208x1024 h) r) x
      = upW p q r ((Rect.unit (s := S5632x1024) ![o, 0] ![208, 1024] inb').emb x) := by
  refine (slab (a := 208) r k hk inb h x).trans ?_
  have hx : (x 0).val < 208 := (x 0).isLt
  have e0 : (((Rect.unit (s := S5632x1024) ![o, 0] ![208, 1024] inb').emb x) 0).val = 704 * k + 496 + (x 0).val :=
    show o + 1 * (x 0).val = _ by omega
  have e1 : ((Rect.unit (s := S5632x1024) ![o, 0] ![208, 1024] inb').emb x) 1 = x 1 :=
    Fin.ext (show 0 + 1 * (x 1).val = (x 1).val by omega)
  have hd : (704 * k + 496 + (x 0).val) / 704 = k := by omega
  have hm : (704 * k + 496 + (x 0).val) % 704 = 496 + (x 0).val := by omega
  simp only [upW, e0, e1, hd, hm]
  rw [dif_neg (show ¬496 + (x 0).val < 240 by omega)]
  rw [dif_neg (show ¬496 + (x 0).val < 496 by omega)]
  congr 2; exact Fin.ext (show (x 0).val = _ by dsimp only; omega)

/-- The copy of operand 0 of the down weights into range `k` is that range's rows from 0. -/
theorem down_piece0 (k o : ℕ) (hk : k < 8) (ho : o = 352 * k + 0) (inb h inb') (p : Vec F S8x288x1024 .bf16) (q : Vec F S8x64x1024 .bf16)
    (x : S288x1024.Idx) :
    ReadAs.same.apply (View.read (Elt F)
        (((View.whole main_v8).slice (Rect.unit ![k, 0, 0] ![1, 288, 1024] inb)).reshape S288x1024 h) p) x
      = downW p q ((Rect.unit (s := S2816x1024) ![o, 0] ![288, 1024] inb').emb x) := by
  refine (slab (a := 288) p k hk inb h x).trans ?_
  have hx : (x 0).val < 288 := (x 0).isLt
  have e0 : (((Rect.unit (s := S2816x1024) ![o, 0] ![288, 1024] inb').emb x) 0).val = 352 * k + 0 + (x 0).val :=
    show o + 1 * (x 0).val = _ by omega
  have e1 : ((Rect.unit (s := S2816x1024) ![o, 0] ![288, 1024] inb').emb x) 1 = x 1 :=
    Fin.ext (show 0 + 1 * (x 1).val = (x 1).val by omega)
  have hd : (352 * k + 0 + (x 0).val) / 352 = k := by omega
  have hm : (352 * k + 0 + (x 0).val) % 352 = 0 + (x 0).val := by omega
  simp only [downW, e0, e1, hd, hm]
  rw [dif_pos (show 0 + (x 0).val < 288 by omega)]
  congr 2; exact Fin.ext (show (x 0).val = _ by dsimp only; omega)

/-- The copy of operand 1 of the down weights into range `k` is that range's rows from 288. -/
theorem down_piece1 (k o : ℕ) (hk : k < 8) (ho : o = 352 * k + 288) (inb h inb') (p : Vec F S8x288x1024 .bf16) (q : Vec F S8x64x1024 .bf16)
    (x : S64x1024.Idx) :
    ReadAs.same.apply (View.read (Elt F)
        (((View.whole main_v9).slice (Rect.unit ![k, 0, 0] ![1, 64, 1024] inb)).reshape S64x1024 h) q) x
      = downW p q ((Rect.unit (s := S2816x1024) ![o, 0] ![64, 1024] inb').emb x) := by
  refine (slab (a := 64) q k hk inb h x).trans ?_
  have hx : (x 0).val < 64 := (x 0).isLt
  have e0 : (((Rect.unit (s := S2816x1024) ![o, 0] ![64, 1024] inb').emb x) 0).val = 352 * k + 288 + (x 0).val :=
    show o + 1 * (x 0).val = _ by omega
  have e1 : ((Rect.unit (s := S2816x1024) ![o, 0] ![64, 1024] inb').emb x) 1 = x 1 :=
    Fin.ext (show 0 + 1 * (x 1).val = (x 1).val by omega)
  have hd : (352 * k + 288 + (x 0).val) / 352 = k := by omega
  have hm : (352 * k + 288 + (x 0).val) % 352 = 288 + (x 0).val := by omega
  simp only [downW, e0, e1, hd, hm]
  rw [dif_neg (show ¬288 + (x 0).val < 288 by omega)]
  congr 2; exact Fin.ext (show (x 0).val = _ by dsimp only; omega)

/-- The same of the copy as the body states it. -/
theorem up_copy0 (k o : ℕ) (hk : k < 8) (ho : o = 704 * k + 0) (inb hs hq inb') (p : Vec F S8x240x1024 .bf16) (q : Vec F S8x256x1024 .bf16) (r : Vec F S8x208x1024 .bf16)
    (x : S240x1024.Idx) :
    ReadAs.same.apply (View.read (Elt F)
        (((Memref.whole main_v5).slice (Rect.unit (s := S8x240x1024) ![k, 0, 0] S1x240x1024.size inb) hs).squeeze
          S240x1024 hq).view p) x
      = upW p q r ((Rect.unit (s := S5632x1024) ![o, 0] S240x1024.size inb').emb x) :=
  up_piece0 k o hk ho inb _ inb' p q r x

/-- The same of the copy as the body states it. -/
theorem up_copy1 (k o : ℕ) (hk : k < 8) (ho : o = 704 * k + 240) (inb hs hq inb') (p : Vec F S8x240x1024 .bf16) (q : Vec F S8x256x1024 .bf16) (r : Vec F S8x208x1024 .bf16)
    (x : S256x1024.Idx) :
    ReadAs.same.apply (View.read (Elt F)
        (((Memref.whole main_v6).slice (Rect.unit (s := S8x256x1024) ![k, 0, 0] S1x256x1024.size inb) hs).squeeze
          S256x1024 hq).view q) x
      = upW p q r ((Rect.unit (s := S5632x1024) ![o, 0] S256x1024.size inb').emb x) :=
  up_piece1 k o hk ho inb _ inb' p q r x

/-- The same of the copy as the body states it. -/
theorem up_copy2 (k o : ℕ) (hk : k < 8) (ho : o = 704 * k + 496) (inb hs hq inb') (p : Vec F S8x240x1024 .bf16) (q : Vec F S8x256x1024 .bf16) (r : Vec F S8x208x1024 .bf16)
    (x : S208x1024.Idx) :
    ReadAs.same.apply (View.read (Elt F)
        (((Memref.whole main_v7).slice (Rect.unit (s := S8x208x1024) ![k, 0, 0] S1x208x1024.size inb) hs).squeeze
          S208x1024 hq).view r) x
      = upW p q r ((Rect.unit (s := S5632x1024) ![o, 0] S208x1024.size inb').emb x) :=
  up_piece2 k o hk ho inb _ inb' p q r x

/-- The same of the copy as the body states it. -/
theorem down_copy0 (k o : ℕ) (hk : k < 8) (ho : o = 352 * k + 0) (inb hs hq inb') (p : Vec F S8x288x1024 .bf16) (q : Vec F S8x64x1024 .bf16)
    (x : S288x1024.Idx) :
    ReadAs.same.apply (View.read (Elt F)
        (((Memref.whole main_v8).slice (Rect.unit (s := S8x288x1024) ![k, 0, 0] S1x288x1024.size inb) hs).squeeze
          S288x1024 hq).view p) x
      = downW p q ((Rect.unit (s := S2816x1024) ![o, 0] S288x1024.size inb').emb x) :=
  down_piece0 k o hk ho inb _ inb' p q x

/-- The same of the copy as the body states it. -/
theorem down_copy1 (k o : ℕ) (hk : k < 8) (ho : o = 352 * k + 288) (inb hs hq inb') (p : Vec F S8x288x1024 .bf16) (q : Vec F S8x64x1024 .bf16)
    (x : S64x1024.Idx) :
    ReadAs.same.apply (View.read (Elt F)
        (((Memref.whole main_v9).slice (Rect.unit (s := S8x64x1024) ![k, 0, 0] S1x64x1024.size inb) hs).squeeze
          S64x1024 hq).view q) x
      = downW p q ((Rect.unit (s := S2816x1024) ![o, 0] S64x1024.size inb').emb x) :=
  down_piece1 k o hk ho inb _ inb' p q x

end Cert.KernelIdeal.Mlp

end
-- ==== Proof.MlpPieces.lean ====
/- What the pieces of the first point's run make: the two weight matrices, and the first rows of the accumulated block. -/
module

public import proofs.«01_k».proof.Proof.MlpFirst
public import proofs.«01_k».proof.Proof.MlpWeights

@[expose] public section

-- a membership in a rectangle of these extents is looked at once per coordinate of its long axis
set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- A row of the small block, loaded through a store to another row. -/
theorem ld_row {a b : Nat} {sz sz' : Fin 2 → Nat} {inb : ∀ d, (![a, 0] : Fin 2 → Nat) d + sz d ≤ S8x1024.size d}
    {inb' : ∀ d, (![b, 0] : Fin 2 → Nat) d + sz' d ≤ S8x1024.size d} (h : a + sz 0 ≤ b ∨ b + sz' 0 ≤ a)
    (w : (Rect.unit (s := S8x1024) ![a, 0] sz inb).shape.Idx → Elt F .f32) (L : List (View.Piece (Elt F) S8x1024 .f32)) :
    View.ld (View.canon (⟨Rect.unit (s := S8x1024) ![a, 0] sz inb, w⟩ :: L)) (Rect.unit (s := S8x1024) ![b, 0] sz' inb') =
      View.ld (View.canon L) (Rect.unit (s := S8x1024) ![b, 0] sz' inb') := by
  funext x
  refine View.canon_cons_of_not_mem _ L fun hm => ?_
  have h0 := Rect.mem_set_unit (s := S8x1024) (off := ![a, 0]) (size := sz) (inb := inb) |>.mp hm (0 : Fin 2)
  have hx : (x (0 : Fin 2) : Nat) < sz' 0 := (x (0 : Fin 2)).isLt
  have e : ((Rect.unit (s := S8x1024) ![b, 0] sz' inb').idx x (0 : Fin 2) : Nat) = b + 1 * (x (0 : Fin 2) : Nat) := rfl
  rw [e] at h0
  simp only [Matrix.cons_val_zero] at h0
  omega

section Pieces

variable (c : Dev nD) (i : grid0.Coords)
  (arg1 : Memref sig .tc .vmem S256x1024 .f32) (harg1 : arg1.IsWhole) (arg2 : Memref sig .tc .vmem S256x1024 .f32)
    (harg2 : arg2.IsWhole) (arg3 : Memref sig .tc .vmem S1x1024 .f32) (harg3 : arg3.IsWhole) (arg4 : Memref sig .tc
    .vmem S1x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1x1024 .f32)
    (harg7 : arg7.IsWhole) (arg13 : Memref sig .tc .vmem S256x1024 .f32) (harg13 : arg13.IsWhole) (arg14 : Memref sig
    .tc .vmem S256x1024 .bf16) (harg14 : arg14.IsWhole) (arg15 : Memref sig .tc .vmem S256x5632 .bf16) (harg15 :
    arg15.IsWhole) (arg16 : Memref sig .tc .vmem S256x2816 .bf16) (harg16 : arg16.IsWhole) (arg17 : Memref sig .tc
    .vmem S256x1024 .bf16) (harg17 : arg17.IsWhole) (arg18 : Memref sig .tc .vmem S8x1024 .f32) (harg18 :
    arg18.IsWhole) (arg19 : Memref sig .tc .vmem S5632x1024 .bf16) (harg19 : arg19.IsWhole) (arg20 : Memref sig .tc
    .vmem S2816x1024 .bf16) (harg20 : arg20.IsWhole)
  (hc0 : cond0_0 i)
  (x tgt : Vec F S256x1024 .f32) (n sc sh ga fn : Vec F S1x1024 .f32)
  (fh0 : HbBuf0 (F := F) c hbM0_0) (fh1 : HbBuf0 (F := F) c hbM0_1) (fh2 : HbBuf0 (F := F) c hbM0_2) (fh3 : HbBuf0 (F
    := F) c hbM0_3) (fh4 : HbBuf0 (F := F) c hbM0_4)

/-- The pieces copied at the first point cover the up weights' scratch, -/
theorem first_up_cover (y) :
    ∃ p ∈ (first c i arg1 harg1 arg2 harg2 arg3 harg3 arg4 harg4 arg5 harg5 arg6 harg6 arg7 harg7 arg13 harg13 arg14
          harg14 arg15 harg15 arg16 harg16 arg17 harg17 arg18 harg18 arg19 harg19 arg20 harg20 hc0 x tgt n sc sh ga
          fn fh0 fh1 fh2 fh3 fh4).1, y ∈ p.1.set :=
  View.cover_of_tiledBy _ ![16, 1024] (by sl_kernel_rfl) y

/-- and make them. -/
theorem first_up : View.canon (first c i arg1 harg1 arg2 harg2 arg3 harg3 arg4 harg4 arg5 harg5 arg6 harg6 arg7 harg7 arg13 harg13 arg14
          harg14 arg15 harg15 arg16 harg16 arg17 harg17 arg18 harg18 arg19 harg19 arg20 harg20 hc0 x tgt n sc sh ga
          fn fh0 fh1 fh2 fh3 fh4).1 = upW fh0 fh1 fh2 := by
  funext y
  have h : View.PiecesOf (upW fh0 fh1 fh2) (first c i arg1 harg1 arg2 harg2 arg3 harg3 arg4 harg4 arg5 harg5 arg6 harg6 arg7 harg7 arg13 harg13 arg14
          harg14 arg15 harg15 arg16 harg16 arg17 harg17 arg18 harg18 arg19 harg19 arg20 harg20 hc0 x tgt n sc sh ga
          fn fh0 fh1 fh2 fh3 fh4).1 := by
    unfold first; frame_open
    exact ⟨fun x => by dsimp only; exact up_copy2 7 5424 (by decide) (by decide) (fun a => by revert a; decide) (by first | trivial | (intro a; rfl) | (intro a; revert a; decide)) (by decide) (fun a => by revert a; decide) fh0 fh1 fh2 x,
       fun x => by dsimp only; exact up_copy2 6 4720 (by decide) (by decide) (fun a => by revert a; decide) (by first | trivial | (intro a; rfl) | (intro a; revert a; decide)) (by decide) (fun a => by revert a; decide) fh0 fh1 fh2 x,
       fun x => by dsimp only; exact up_copy2 5 4016 (by decide) (by decide) (fun a => by revert a; decide) (by first | trivial | (intro a; rfl) | (intro a; revert a; decide)) (by decide) (fun a => by revert a; decide) fh0 fh1 fh2 x,
       fun x => by dsimp only; exact up_copy2 4 3312 (by decide) (by decide) (fun a => by revert a; decide) (by first | trivial | (intro a; rfl) | (intro a; revert a; decide)) (by decide) (fun a => by revert a; decide) fh0 fh1 fh2 x,
       fun x => by dsimp only; exact up_copy2 3 2608 (by decide) (by decide) (fun a => by revert a; decide) (by first | trivial | (intro a; rfl) | (intro a; revert a; decide)) (by decide) (fun a => by revert a; decide) fh0 fh1 fh2 x,
       fun x => by dsimp only; exact up_copy2 2 1904 (by decide) (by decide) (fun a => by revert a; decide) (by first | trivial | (intro a; rfl) | (intro a; revert a; decide)) (by decide) (fun a => by revert a; decide) fh0 fh1 fh2 x,
       fun x => by dsimp only; exact up_copy2 1 1200 (by decide) (by decide) (fun a => by revert a; decide) (by first | trivial | (intro a; rfl) | (intro a; revert a; decide)) (by decide) (fun a => by revert a; decide) fh0 fh1 fh2 x,
       fun x => by dsimp only; exact up_copy2 0 496 (by decide) (by decide) (fun a => by revert a; decide) (by first | trivial | (intro a; rfl) | (intro a; revert a; decide)) (by decide) (fun a => by revert a; decide) fh0 fh1 fh2 x,
       fun x => by dsimp only; exact up_copy1 7 5168 (by decide) (by decide) (fun a => by revert a; decide) (by first | trivial | (intro a; rfl) | (intro a; revert a; decide)) (by decide) (fun a => by revert a; decide) fh0 fh1 fh2 x,
       fun x => by dsimp only; exact up_copy1 6 4464 (by decide) (by decide) (fun a => by revert a; decide) (by first | trivial | (intro a; rfl) | (intro a; revert a; decide)) (by decide) (fun a => by revert a; decide) fh0 fh1 fh2 x,
       fun x => by dsimp only; exact up_copy1 5 3760 (by decide) (by decide) (fun a => by revert a; decide) (by first | trivial | (intro a; rfl) | (intro a; revert a; decide)) (by decide) (fun a => by revert a; decide) fh0 fh1 fh2 x,
       fun x => by dsimp only; exact up_copy1 4 3056 (by decide) (by decide) (fun a => by revert a; decide) (by first | trivial | (intro a; rfl) | (intro a; revert a; decide)) (by decide) (fun a => by revert a; decide) fh0 fh1 fh2 x,
       fun x => by dsimp only; exact up_copy1 3 2352 (by decide) (by decide) (fun a => by revert a; decide) (by first | trivial | (intro a; rfl) | (intro a; revert a; decide)) (by decide) (fun a => by revert a; decide) fh0 fh1 fh2 x,
       fun x => by dsimp only; exact up_copy1 2 1648 (by decide) (by decide) (fun a => by revert a; decide) (by first | trivial | (intro a; rfl) | (intro a; revert a; decide)) (by decide) (fun a => by revert a; decide) fh0 fh1 fh2 x,
       fun x => by dsimp only; exact up_copy1 1 944 (by decide) (by decide) (fun a => by revert a; decide) (by first | trivial | (intro a; rfl) | (intro a; revert a; decide)) (by decide) (fun a => by revert a; decide) fh0 fh1 fh2 x,
       fun x => by dsimp only; exact up_copy1 0 240 (by decide) (by decide) (fun a => by revert a; decide) (by first | trivial | (intro a; rfl) | (intro a; revert a; decide)) (by decide) (fun a => by revert a; decide) fh0 fh1 fh2 x,
       fun x => by dsimp only; exact up_copy0 7 4928 (by decide) (by decide) (fun a => by revert a; decide) (by first | trivial | (intro a; rfl) | (intro a; revert a; decide)) (by decide) (fun a => by revert a; decide) fh0 fh1 fh2 x,
       fun x => by dsimp only; exact up_copy0 6 4224 (by decide) (by decide) (fun a => by revert a; decide) (by first | trivial | (intro a; rfl) | (intro a; revert a; decide)) (by decide) (fun a => by revert a; decide) fh0 fh1 fh2 x,
       fun x => by dsimp only; exact up_copy0 5 3520 (by decide) (by decide) (fun a => by revert a; decide) (by first | trivial | (intro a; rfl) | (intro a; revert a; decide)) (by decide) (fun a => by revert a; decide) fh0 fh1 fh2 x,
       fun x => by dsimp only; exact up_copy0 4 2816 (by decide) (by decide) (fun a => by revert a; decide) (by first | trivial | (intro a; rfl) | (intro a; revert a; decide)) (by decide) (fun a => by revert a; decide) fh0 fh1 fh2 x,
       fun x => by dsimp only; exact up_copy0 3 2112 (by decide) (by decide) (fun a => by revert a; decide) (by first | trivial | (intro a; rfl) | (intro a; revert a; decide)) (by decide) (fun a => by revert a; decide) fh0 fh1 fh2 x,
       fun x => by dsimp only; exact up_copy0 2 1408 (by decide) (by decide) (fun a => by revert a; decide) (by first | trivial | (intro a; rfl) | (intro a; revert a; decide)) (by decide) (fun a => by revert a; decide) fh0 fh1 fh2 x,
       fun x => by dsimp only; exact up_copy0 1 704 (by decide) (by decide) (fun a => by revert a; decide) (by first | trivial | (intro a; rfl) | (intro a; revert a; decide)) (by decide) (fun a => by revert a; decide) fh0 fh1 fh2 x,
       fun x => by dsimp only; exact up_copy0 0 0 (by decide) (by decide) (fun a => by revert a; decide) (by first | trivial | (intro a; rfl) | (intro a; revert a; decide)) (by decide) (fun a => by revert a; decide) fh0 fh1 fh2 x,
       trivial⟩
  have := View.canon_append_of_piecesOf _ [] _ h y (first_up_cover c i arg1 harg1 arg2 harg2 arg3 harg3 arg4 harg4 arg5 harg5 arg6 harg6 arg7 harg7 arg13 harg13 arg14 harg14
        arg15 harg15 arg16 harg16 arg17 harg17 arg18 harg18 arg19 harg19 arg20 harg20 hc0 x tgt n sc sh ga fn fh0 fh1
        fh2 fh3 fh4 y)
  rwa [List.append_nil] at this

/-- The pieces copied at the first point cover the down weights' scratch, -/
theorem first_down_cover (y) :
    ∃ p ∈ (first c i arg1 harg1 arg2 harg2 arg3 harg3 arg4 harg4 arg5 harg5 arg6 harg6 arg7 harg7 arg13 harg13 arg14
          harg14 arg15 harg15 arg16 harg16 arg17 harg17 arg18 harg18 arg19 harg19 arg20 harg20 hc0 x tgt n sc sh ga
          fn fh0 fh1 fh2 fh3 fh4).2.1, y ∈ p.1.set :=
  View.cover_of_tiledBy _ ![32, 1024] (by sl_kernel_rfl) y

/-- and make them. -/
theorem first_down : View.canon (first c i arg1 harg1 arg2 harg2 arg3 harg3 arg4 harg4 arg5 harg5 arg6 harg6 arg7 harg7 arg13 harg13 arg14
          harg14 arg15 harg15 arg16 harg16 arg17 harg17 arg18 harg18 arg19 harg19 arg20 harg20 hc0 x tgt n sc sh ga
          fn fh0 fh1 fh2 fh3 fh4).2.1 = downW fh3 fh4 := by
  funext y
  have h : View.PiecesOf (downW fh3 fh4) (first c i arg1 harg1 arg2 harg2 arg3 harg3 arg4 harg4 arg5 harg5 arg6 harg6 arg7 harg7 arg13 harg13 arg14
          harg14 arg15 harg15 arg16 harg16 arg17 harg17 arg18 harg18 arg19 harg19 arg20 harg20 hc0 x tgt n sc sh ga
          fn fh0 fh1 fh2 fh3 fh4).2.1 := by
    unfold first; frame_open
    exact ⟨fun x => by dsimp only; exact down_copy1 7 2752 (by decide) (by decide) (fun a => by revert a; decide) (by first | trivial | (intro a; rfl) | (intro a; revert a; decide)) (by decide) (fun a => by revert a; decide) fh3 fh4 x,
       fun x => by dsimp only; exact down_copy1 6 2400 (by decide) (by decide) (fun a => by revert a; decide) (by first | trivial | (intro a; rfl) | (intro a; revert a; decide)) (by decide) (fun a => by revert a; decide) fh3 fh4 x,
       fun x => by dsimp only; exact down_copy1 5 2048 (by decide) (by decide) (fun a => by revert a; decide) (by first | trivial | (intro a; rfl) | (intro a; revert a; decide)) (by decide) (fun a => by revert a; decide) fh3 fh4 x,
       fun x => by dsimp only; exact down_copy1 4 1696 (by decide) (by decide) (fun a => by revert a; decide) (by first | trivial | (intro a; rfl) | (intro a; revert a; decide)) (by decide) (fun a => by revert a; decide) fh3 fh4 x,
       fun x => by dsimp only; exact down_copy1 3 1344 (by decide) (by decide) (fun a => by revert a; decide) (by first | trivial | (intro a; rfl) | (intro a; revert a; decide)) (by decide) (fun a => by revert a; decide) fh3 fh4 x,
       fun x => by dsimp only; exact down_copy1 2 992 (by decide) (by decide) (fun a => by revert a; decide) (by first | trivial | (intro a; rfl) | (intro a; revert a; decide)) (by decide) (fun a => by revert a; decide) fh3 fh4 x,
       fun x => by dsimp only; exact down_copy1 1 640 (by decide) (by decide) (fun a => by revert a; decide) (by first | trivial | (intro a; rfl) | (intro a; revert a; decide)) (by decide) (fun a => by revert a; decide) fh3 fh4 x,
       fun x => by dsimp only; exact down_copy1 0 288 (by decide) (by decide) (fun a => by revert a; decide) (by first | trivial | (intro a; rfl) | (intro a; revert a; decide)) (by decide) (fun a => by revert a; decide) fh3 fh4 x,
       fun x => by dsimp only; exact down_copy0 7 2464 (by decide) (by decide) (fun a => by revert a; decide) (by first | trivial | (intro a; rfl) | (intro a; revert a; decide)) (by decide) (fun a => by revert a; decide) fh3 fh4 x,
       fun x => by dsimp only; exact down_copy0 6 2112 (by decide) (by decide) (fun a => by revert a; decide) (by first | trivial | (intro a; rfl) | (intro a; revert a; decide)) (by decide) (fun a => by revert a; decide) fh3 fh4 x,
       fun x => by dsimp only; exact down_copy0 5 1760 (by decide) (by decide) (fun a => by revert a; decide) (by first | trivial | (intro a; rfl) | (intro a; revert a; decide)) (by decide) (fun a => by revert a; decide) fh3 fh4 x,
       fun x => by dsimp only; exact down_copy0 4 1408 (by decide) (by decide) (fun a => by revert a; decide) (by first | trivial | (intro a; rfl) | (intro a; revert a; decide)) (by decide) (fun a => by revert a; decide) fh3 fh4 x,
       fun x => by dsimp only; exact down_copy0 3 1056 (by decide) (by decide) (fun a => by revert a; decide) (by first | trivial | (intro a; rfl) | (intro a; revert a; decide)) (by decide) (fun a => by revert a; decide) fh3 fh4 x,
       fun x => by dsimp only; exact down_copy0 2 704 (by decide) (by decide) (fun a => by revert a; decide) (by first | trivial | (intro a; rfl) | (intro a; revert a; decide)) (by decide) (fun a => by revert a; decide) fh3 fh4 x,
       fun x => by dsimp only; exact down_copy0 1 352 (by decide) (by decide) (fun a => by revert a; decide) (by first | trivial | (intro a; rfl) | (intro a; revert a; decide)) (by decide) (fun a => by revert a; decide) fh3 fh4 x,
       fun x => by dsimp only; exact down_copy0 0 0 (by decide) (by decide) (fun a => by revert a; decide) (by first | trivial | (intro a; rfl) | (intro a; revert a; decide)) (by decide) (fun a => by revert a; decide) fh3 fh4 x,
       trivial⟩
  have := View.canon_append_of_piecesOf _ [] _ h y (first_down_cover c i arg1 harg1 arg2 harg2 arg3 harg3 arg4 harg4 arg5 harg5 arg6 harg6 arg7 harg7 arg13 harg13 arg14 harg14
        arg15 harg15 arg16 harg16 arg17 harg17 arg18 harg18 arg19 harg19 arg20 harg20 hc0 x tgt n sc sh ga fn fh0 fh1
        fh2 fh3 fh4 y)
  rwa [List.append_nil] at this

/-- The accumulated block's pieces cover it, -/
theorem first_acc_cover (y) :
    ∃ p ∈ (first c i arg1 harg1 arg2 harg2 arg3 harg3 arg4 harg4 arg5 harg5 arg6 harg6 arg7 harg7 arg13 harg13 arg14
          harg14 arg15 harg15 arg16 harg16 arg17 harg17 arg18 harg18 arg19 harg19 arg20 harg20 hc0 x tgt n sc sh ga
          fn fh0 fh1 fh2 fh3 fh4).2.2.1, y ∈ p.1.set :=
  View.cover_of_tiledBy _ ![1, 1024] (by sl_kernel_rfl) y

/-- and make the first point's rows over zeros. -/
theorem first_acc : View.canon (first c i arg1 harg1 arg2 harg2 arg3 harg3 arg4 harg4 arg5 harg5 arg6 harg6 arg7 harg7 arg13 harg13 arg14
          harg14 arg15 harg15 arg16 harg16 arg17 harg17 arg18 harg18 arg19 harg19 arg20 harg20 hc0 x tgt n sc sh ga
          fn fh0 fh1 fh2 fh3 fh4).2.2.1 = accB x tgt n sc sh ga fn (upW fh0 fh1 fh2) (downW fh3 fh4) k0_pay6 := by
  have e1 := first_up c i arg1 harg1 arg2 harg2 arg3 harg3 arg4 harg4 arg5 harg5 arg6 harg6 arg7 harg7 arg13 harg13 arg14 harg14 arg15 harg15 arg16 harg16 arg17 harg17 arg18 harg18 arg19 harg19 arg20 harg20 hc0 x tgt n sc sh ga fn fh0 fh1 fh2 fh3 fh4
  have e2 := first_down c i arg1 harg1 arg2 harg2 arg3 harg3 arg4 harg4 arg5 harg5 arg6 harg6 arg7 harg7 arg13 harg13 arg14 harg14 arg15 harg15 arg16 harg16 arg17 harg17 arg18 harg18 arg19 harg19 arg20 harg20 hc0 x tgt n sc sh ga fn fh0 fh1 fh2 fh3 fh4
  refine Eq.trans ?_ (congrArg₂ (fun U D => accB x tgt n sc sh ga fn U D k0_pay6) e1 e2)
  dsimp only
  clear e1 e2
  unfold first; frame_open
  simp (disch := decide) only [View.readAt_eq_ld, Memref.IsWhole.read_unread, View.ld_unit_lit', readCov_eq_ld,
    View.canon_cons_unit_lit', ld_row]
  rfl

include hc0 in
set_option maxHeartbeats 4000000 in
/-- The body's run at the first point, with the matrices and the rows in place of the pieces. -/
theorem firstly (W : Waits sig Unit) (K : PUnit → sProp 𝕄) :
    iprop(owns (c : Thread nD τ) arg1 fullShare x ∗ owns (c : Thread nD τ) arg2 fullShare tgt ∗ owns (c : Thread nD
      τ) arg3 fullShare n ∗ owns (c : Thread nD τ) arg4 fullShare sc ∗ owns (c : Thread nD τ) arg5 fullShare sh ∗
      owns (c : Thread nD τ) arg6 fullShare ga ∗ owns (c : Thread nD τ) arg7 fullShare fn ∗ (∃ d, owns (c : Thread nD
      τ) arg13 fullShare d) ∗ (∃ d, owns (c : Thread nD τ) arg14 fullShare d) ∗ (∃ d, owns (c : Thread nD τ) arg15
      fullShare d) ∗ (∃ d, owns (c : Thread nD τ) arg16 fullShare d) ∗ (∃ d, owns (c : Thread nD τ) arg17 fullShare
      d) ∗ (∃ d, owns (c : Thread nD τ) arg18 fullShare d) ∗ (∃ d, owns (c : Thread nD τ) arg19 fullShare d) ∗ (∃ d,
      owns (c : Thread nD τ) arg20 fullShare d) ∗ cellsZero c ∗ homesAt c fh0 fh1 fh2 fh3 fh4 ∗ owes (c : Thread nD
      τ) 0 W
        ∗ (iprop(owns (c : Thread nD τ) arg1 fullShare x ∗ owns (c : Thread nD τ) arg2 fullShare tgt ∗ owns (c :
          Thread nD τ) arg3 fullShare n ∗ owns (c : Thread nD τ) arg4 fullShare sc ∗ owns (c : Thread nD τ) arg5
          fullShare sh ∗ owns (c : Thread nD τ) arg6 fullShare ga ∗ owns (c : Thread nD τ) arg7 fullShare fn ∗ owns
          (c : Thread nD τ) arg13 fullShare (gradB x tgt n sc sh ga fn (upW fh0 fh1 fh2) (downW fh3 fh4)) ∗ owns (c :
          Thread nD τ) arg14 fullShare (hidB x n sc sh) ∗ owns (c : Thread nD τ) arg15 fullShare (dguB x tgt n sc sh
          ga fn (upW fh0 fh1 fh2) (downW fh3 fh4)) ∗ owns (c : Thread nD τ) arg16 fullShare (actB x n sc sh (upW fh0
          fh1 fh2)) ∗ owns (c : Thread nD τ) arg17 fullShare (dmlpB x tgt n sc sh ga fn (upW fh0 fh1 fh2) (downW fh3
          fh4)) ∗ owns (c : Thread nD τ) arg18 fullShare (accB x tgt n sc sh ga fn (upW fh0 fh1 fh2) (downW fh3 fh4)
          k0_pay6) ∗ owns (c : Thread nD τ) arg19 fullShare (upW fh0 fh1 fh2) ∗ owns (c : Thread nD τ) arg20
          fullShare (downW fh3 fh4) ∗ cellsZero c ∗ homesAt c fh0 fh1 fh2 fh3 fh4 ∗ (∃ W', owes (c : Thread nD τ) 0
          W')) -∗ K ⟨⟩))
      ⊢ wp frame (wpE (defs₀ (F := F)) Variants.none c none) Set.univ
          (cc0_mlp_loss i arg1 harg1 arg2 harg2 arg3 harg3 arg4 harg4 arg5 harg5 arg6 harg6 arg7 harg7 (Memref.whole
            main_v5) (Memref.isWhole_whole _) (Memref.whole main_v6) (Memref.isWhole_whole _) (Memref.whole main_v7)
            (Memref.isWhole_whole _) (Memref.whole main_v8) (Memref.isWhole_whole _) (Memref.whole main_v9)
            (Memref.isWhole_whole _) arg13 harg13 arg14 harg14 arg15 harg15 arg16 harg16 arg17 harg17 arg18 harg18
            arg19 harg19 arg20 harg20 cc0_scratch2) K := by
  have h1 := first_up c i arg1 harg1 arg2 harg2 arg3 harg3 arg4 harg4 arg5 harg5 arg6 harg6 arg7 harg7 arg13 harg13 arg14 harg14 arg15 harg15 arg16 harg16 arg17 harg17 arg18 harg18 arg19 harg19 arg20 harg20 hc0 x tgt n sc sh ga fn fh0 fh1 fh2 fh3 fh4
  have h2 := first_down c i arg1 harg1 arg2 harg2 arg3 harg3 arg4 harg4 arg5 harg5 arg6 harg6 arg7 harg7 arg13 harg13 arg14 harg14 arg15 harg15 arg16 harg16 arg17 harg17 arg18 harg18 arg19 harg19 arg20 harg20 hc0 x tgt n sc sh ga fn fh0 fh1 fh2 fh3 fh4
  have h3 := first_acc c i arg1 harg1 arg2 harg2 arg3 harg3 arg4 harg4 arg5 harg5 arg6 harg6 arg7 harg7 arg13 harg13 arg14 harg14 arg15 harg15 arg16 harg16 arg17 harg17 arg18 harg18 arg19 harg19 arg20 harg20 hc0 x tgt n sc sh ga fn fh0 fh1 fh2 fh3 fh4
  have c1 := first_up_cover c i arg1 harg1 arg2 harg2 arg3 harg3 arg4 harg4 arg5 harg5 arg6 harg6 arg7 harg7 arg13 harg13 arg14 harg14 arg15 harg15 arg16 harg16 arg17 harg17 arg18 harg18 arg19 harg19 arg20 harg20 hc0 x tgt n sc sh ga fn fh0 fh1 fh2 fh3 fh4
  have c2 := first_down_cover c i arg1 harg1 arg2 harg2 arg3 harg3 arg4 harg4 arg5 harg5 arg6 harg6 arg7 harg7 arg13 harg13 arg14 harg14 arg15 harg15 arg16 harg16 arg17 harg17 arg18 harg18 arg19 harg19 arg20 harg20 hc0 x tgt n sc sh ga fn fh0 fh1 fh2 fh3 fh4
  have c3 := first_acc_cover c i arg1 harg1 arg2 harg2 arg3 harg3 arg4 harg4 arg5 harg5 arg6 harg6 arg7 harg7 arg13 harg13 arg14 harg14 arg15 harg15 arg16 harg16 arg17 harg17 arg18 harg18 arg19 harg19 arg20 harg20 hc0 x tgt n sc sh ga fn fh0 fh1 fh2 fh3 fh4
  generalize first c i arg1 harg1 arg2 harg2 arg3 harg3 arg4 harg4 arg5 harg5 arg6 harg6 arg7 harg7 arg13 harg13 arg14 harg14 arg15 harg15 arg16 harg16 arg17 harg17 arg18 harg18 arg19 harg19 arg20 harg20 hc0 x tgt n sc sh ga fn fh0 fh1 fh2 fh3 fh4 = Q at h1 h2 h3 c1 c2 c3
  obtain ⟨PU, PD, PA, run⟩ := Q
  dsimp only at h1 h2 h3 c1 c2 c3
  rw [← h3, ← h1, ← h2]
  iintro ⟨H0, H1, H2, H3, H4, H5, H6, H7, H8, H9, H10, H11, H12, HS0, HS1, Hq, Hh, HW, Hk⟩
  iapply (run W K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [Hq]; · iexact Hq
  isplitl [Hh]; · iexact Hh
  isplitl [HW]; · iexact HW
  iintro ⟨⟨%e0, HS0⟩, ⟨%e1, HS1⟩, ⟨%e2, H12⟩, H0, H1, H2, H3, H4, H5, H6, H7, H8, H9, H10, H11, Hq, Hh, HW⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_eq_canon _ _ _ c3
  isplitl [HS0]
  · unfold owns; iexists _; isplitr
    swap; · iexact HS0
    ipureintro; exact View.read_writes_eq_canon _ _ _ c1
  isplitl [HS1]
  · unfold owns; iexists _; isplitr
    swap; · iexact HS1
    ipureintro; exact View.read_writes_eq_canon _ _ _ c2
  isplitl [Hq]; · iexact Hq
  isplitl [Hh]; · iexact Hh
  iexact HW

end Pieces

end Cert.KernelIdeal.Mlp

end
-- ==== Proof.MlpFrame.lean ====
/- The frame of the feed-forward kernel with explicit values: the first point brings the weights into the scratch, every
   point computes its blocks from them, and the small block accumulates over the points. -/
module

public import proofs.«01_k».proof.Proof.MlpLater
public import proofs.«01_k».proof.Proof.MlpPieces

@[expose] public section

-- a membership in a rectangle of these extents is looked at once per coordinate of its long axis
set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

section Region

variable (m : (ℓ : Loc nD τ sig) → Buf (Elt F) ℓ) (ρ : Dev nD → PrngReg)

/-- The gate and up weights the scratch holds after the first point, -/
def upM (c : Dev nD) : Vec F S5632x1024 .bf16 := upW (V m c main_v5) (V m c main_v6) (V m c main_v7)

/-- and the down weights. -/
def downM (c : Dev nD) : Vec F S2816x1024 .bf16 := downW (V m c main_v8) (V m c main_v9)

/-- The accumulated block after a point that found it at `old`. -/
def accPt (c : Dev nD) (t : Fin cfg0.N) (old : Vec F S8x1024 .f32) : Vec F S8x1024 .f32 :=
  accB (iblk m c 0 t) (iblk m c 1 t) (iblk m c 2 t) (iblk m c 3 t) (iblk m c 4 t) (iblk m c 5 t) (iblk m c 6 t) (upM m c)
    (downM m c) old

/-- The accumulated block after each point. -/
def accAt (c : Dev nD) : (n : ℕ) → n < cfg0.N → Vec F S8x1024 .f32
  | 0, hn => accPt m c ⟨0, hn⟩ k0_pay6
  | n + 1, hn => accPt m c ⟨n + 1, hn⟩ (accAt c n (Nat.lt_of_succ_lt hn))

theorem accAt_first (c : Dev nD) (t : Fin cfg0.N) (h0 : t.val % 32 = 0) :
    accAt m c t.val t.isLt = accPt m c t k0_pay6 := by
  obtain ⟨n, hn⟩ := t
  have hN : n < 32 := lt_of_lt_of_eq hn (show cfg0.N = 32 from N_0)
  obtain rfl : n = 0 := by dsimp only at h0; omega
  rfl

theorem accAt_later (c : Dev nD) (t : Fin cfg0.N) (h0 : ¬t.val % 32 = 0) :
    accAt m c t.val t.isLt = accPt m c t (accAt m c (t.val - 1) (Nat.lt_of_le_of_lt (Nat.sub_le _ _) t.isLt)) := by
  obtain ⟨n, hn⟩ := t
  cases n with
  | zero => exact absurd (Nat.zero_mod _) h0
  | succ n => rfl

/-- What lies outside the windows before each point: before the first the launch's own, afterwards the same with the
    scratch at the weights. -/
def inv (c : Dev nD) : (n : ℕ) → n ≤ cfg0.N → sProp 𝕄
  | 0, _ => Pipeline.ΦD osem0 spec0 H0 (V m) c
  | _ + 1, _ =>
    iprop(iprop(owns (c : Thread nD τ) scM0_0 fullShare (upM m c) ∗ owns (c : Thread nD τ) scM0_1 fullShare (downM m c))
      ∗ (∃ r, prngReg c r) ∗ cellsZero c
      ∗ homesAt c (V m c main_v5) (V m c main_v6) (V m c main_v7) (V m c main_v8) (V m c main_v9))

theorem inv_zero (c : Dev nD) (n : ℕ) (h : n ≤ cfg0.N) (hz : n = 0) :
    inv m c n h
      = iprop(iprop((∃ d, owns (c : Thread nD τ) scM0_0 fullShare d) ∗ (∃ d, owns (c : Thread nD τ) scM0_1 fullShare d))
        ∗ (∃ r, prngReg c r) ∗ cellsZero c
        ∗ homesAt c (V m c main_v5) (V m c main_v6) (V m c main_v7) (V m c main_v8) (V m c main_v9)) := by
  subst hz; exact PhiD0_eq m c

theorem inv_pos (c : Dev nD) (n : ℕ) (h : n ≤ cfg0.N) (hz : n ≠ 0) :
    inv m c n h
      = iprop(iprop(owns (c : Thread nD τ) scM0_0 fullShare (upM m c) ∗ owns (c : Thread nD τ) scM0_1 fullShare (downM m c))
        ∗ (∃ r, prngReg c r) ∗ cellsZero c
        ∗ homesAt c (V m c main_v5) (V m c main_v6) (V m c main_v7) (V m c main_v8) (V m c main_v9)) := by
  cases n with
  | zero => exact absurd rfl hz
  | succ n => rfl

/-- What each window's buffer holds after the body at each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => gradB (iblk m c 0 t) (iblk m c 1 t) (iblk m c 2 t) (iblk m c 3 t) (iblk m c 4 t) (iblk m c 5 t) (iblk m c 6
          t) (upM m c) (downM m c)
    | ⟨8, _⟩ => hidB (iblk m c 0 t) (iblk m c 2 t) (iblk m c 3 t) (iblk m c 4 t)
    | ⟨9, _⟩ => dguB (iblk m c 0 t) (iblk m c 1 t) (iblk m c 2 t) (iblk m c 3 t) (iblk m c 4 t) (iblk m c 5 t) (iblk m c 6 t)
          (upM m c) (downM m c)
    | ⟨10, _⟩ => actB (iblk m c 0 t) (iblk m c 2 t) (iblk m c 3 t) (iblk m c 4 t) (upM m c)
    | ⟨11, _⟩ => dmlpB (iblk m c 0 t) (iblk m c 1 t) (iblk m c 2 t) (iblk m c 3 t) (iblk m c 4 t) (iblk m c 5 t) (iblk m c 6
          t) (upM m c) (downM m c)
    | ⟨12, _⟩ => accAt m c t.val t.isLt
  Φ t := inv m c t.val (Nat.le_of_lt_succ t.isLt)
  q _ := fullShare
  owed _ := 0

theorem arrays_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) :
    (dats m 0 c).after 0 t = iblk m c 0 t := by dsimp only [dats]
theorem after_1 (c : Dev nD) (t : Fin cfg0.N) :
    (dats m 0 c).after 1 t = iblk m c 1 t := by dsimp only [dats]
theorem after_2 (c : Dev nD) (t : Fin cfg0.N) :
    (dats m 0 c).after 2 t = iblk m c 2 t := by dsimp only [dats]
theorem after_3 (c : Dev nD) (t : Fin cfg0.N) :
    (dats m 0 c).after 3 t = iblk m c 3 t := by dsimp only [dats]
theorem after_4 (c : Dev nD) (t : Fin cfg0.N) :
    (dats m 0 c).after 4 t = iblk m c 4 t := by dsimp only [dats]
theorem after_5 (c : Dev nD) (t : Fin cfg0.N) :
    (dats m 0 c).after 5 t = iblk m c 5 t := by dsimp only [dats]
theorem after_6 (c : Dev nD) (t : Fin cfg0.N) :
    (dats m 0 c).after 6 t = iblk m c 6 t := by dsimp only [dats]
theorem after_7 (c : Dev nD) (t : Fin cfg0.N) :
    (dats m 0 c).after 7 t = gradB (iblk m c 0 t) (iblk m c 1 t) (iblk m c 2 t) (iblk m c 3 t) (iblk m c 4 t) (iblk m c 5 t) (iblk m c 6 t)
        (upM m c) (downM m c) := by dsimp only [dats]
theorem after_8 (c : Dev nD) (t : Fin cfg0.N) :
    (dats m 0 c).after 8 t = hidB (iblk m c 0 t) (iblk m c 2 t) (iblk m c 3 t) (iblk m c 4 t) := by dsimp only [dats]
theorem after_9 (c : Dev nD) (t : Fin cfg0.N) :
    (dats m 0 c).after 9 t = dguB (iblk m c 0 t) (iblk m c 1 t) (iblk m c 2 t) (iblk m c 3 t) (iblk m c 4 t) (iblk m c 5 t) (iblk m c 6 t)
        (upM m c) (downM m c) := by dsimp only [dats]
theorem after_10 (c : Dev nD) (t : Fin cfg0.N) :
    (dats m 0 c).after 10 t = actB (iblk m c 0 t) (iblk m c 2 t) (iblk m c 3 t) (iblk m c 4 t) (upM m c) := by dsimp only [dats]
theorem after_11 (c : Dev nD) (t : Fin cfg0.N) :
    (dats m 0 c).after 11 t = dmlpB (iblk m c 0 t) (iblk m c 1 t) (iblk m c 2 t) (iblk m c 3 t) (iblk m c 4 t) (iblk m c 5 t) (iblk m c 6 t)
        (upM m c) (downM m c) := by dsimp only [dats]
theorem after_12 (c : Dev nD) (t : Fin cfg0.N) :
    (dats m 0 c).after 12 t = accAt m c t.val t.isLt := by dsimp only [dats]

theorem before_0 (c : Dev nD) (t : Fin cfg0.N) (d) : (dats m 0 c).before 0 t d = iblk m c 0 t :=
  before0_0_of m (dats m 0 c) (arrays_eq m c 0) (after_0 m c) t d
theorem before_1 (c : Dev nD) (t : Fin cfg0.N) (d) : (dats m 0 c).before 1 t d = iblk m c 1 t :=
  before0_1_of m (dats m 0 c) (arrays_eq m c 1) (after_1 m c) t d
theorem before_2 (c : Dev nD) (t : Fin cfg0.N) (d) : (dats m 0 c).before 2 t d = iblk m c 2 t :=
  before0_2_of m (dats m 0 c) (arrays_eq m c 2) (after_2 m c) t d
theorem before_3 (c : Dev nD) (t : Fin cfg0.N) (d) : (dats m 0 c).before 3 t d = iblk m c 3 t :=
  before0_3_of m (dats m 0 c) (arrays_eq m c 3) (after_3 m c) t d
theorem before_4 (c : Dev nD) (t : Fin cfg0.N) (d) : (dats m 0 c).before 4 t d = iblk m c 4 t :=
  before0_4_of m (dats m 0 c) (arrays_eq m c 4) (after_4 m c) t d
theorem before_5 (c : Dev nD) (t : Fin cfg0.N) (d) : (dats m 0 c).before 5 t d = iblk m c 5 t :=
  before0_5_of m (dats m 0 c) (arrays_eq m c 5) (after_5 m c) t d
theorem before_6 (c : Dev nD) (t : Fin cfg0.N) (d) : (dats m 0 c).before 6 t d = iblk m c 6 t :=
  before0_6_of m (dats m 0 c) (arrays_eq m c 6) (after_6 m c) t d

/-- At every point but the first the accumulated block is found as the point before left it. -/
theorem before_12 (c : Dev nD) (t : Fin cfg0.N) (h0 : ¬t.val % 32 = 0) (d) :
    (dats m 0 c).before 12 t d = accAt m c (t.val - 1) (Nat.lt_of_le_of_lt (Nat.sub_le _ _) t.isLt) := by
  have hN : t.val < 32 := lt_of_lt_of_eq t.isLt (show cfg0.N = 32 from N_0)
  rw [Dat.before_out_kept _ 12 rfl t (by omega)
    (Bool.eq_false_iff.mpr fun h => by have := (flush0_12 _).mp h; dsimp only at this; omega) (fun _ => rfl) (fun _ _ => rfl)]
  dsimp only [dats]

/-- What the body is handed at a point, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it hands back. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 4000000 in
/-- The body meets them. -/
theorem body_ok (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6]
  rw [show (dats m 0 c).Φ t.succ = inv m c (t.val + 1) t.isLt from rfl, inv_pos m c _ _ (Nat.succ_ne_zero _), after_0,
    after_1, after_2, after_3, after_4, after_5, after_6, after_7, after_8, after_9, after_10, after_11, after_12]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · rw [inv_castSucc m c t, inv_zero m c _ _ (by omega), accAt_first m c t h0]
    iintro ⟨⟨⟨HS0, HS1⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (firstly c (grid0.coords t) (ms0_0 t) (hs0_0 t) (ms0_1 t) (hs0_1 t) (ms0_2 t) (hs0_2 t) (ms0_3 t) (hs0_3 t) (ms0_4 t)
        (hs0_4 t) (ms0_5 t) (hs0_5 t) (ms0_6 t) (hs0_6 t) (ms0_7 t) (hs0_7 t) (ms0_8 t) (hs0_8 t) (ms0_9 t) (hs0_9 t)
        (ms0_10 t) (hs0_10 t) (ms0_11 t) (hs0_11 t) (ms0_12 t) (hs0_12 t) scM0_0 (Memref.isWhole_whole _) scM0_1
        (Memref.isWhole_whole _) ((hcond0_0 t).mpr h0)
      (iblk m c 0 t) (iblk m c 1 t) (iblk m c 2 t) (iblk m c 3 t) (iblk m c 4 t) (iblk m c 5 t) (iblk m c 6 t) (V m c
        main_v5) (V m c main_v6) (V m c main_v7) (V m c main_v8) (V m c main_v9) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [Hq]; · iexact Hq
    isplitl [Hh]; · iexact Hh
    isplitl [HW]; · iexact HW
    iintro ⟨H0, H1, H2, H3, H4, H5, H6, H7, H8, H9, H10, H11, H12, HS0, HS1, Hq, Hh, ⟨%W', HW⟩⟩
    isplitl [HS0 HS1 Hg Hq Hh]
    · isplitl [HS0 HS1]
      · isplitl [HS0]; · iexact HS0
        iexact HS1
      isplitl [Hg]; · iexact Hg
      isplitl [Hq]; · iexact Hq
      iexact Hh
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [inv_castSucc m c t, inv_pos m c _ _ (by omega), accAt_later m c t h0]
    simp only [before_12 m c t h0]
    iintro ⟨⟨⟨HS0, HS1⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (later c (grid0.coords t) (ms0_0 t) (hs0_0 t) (ms0_1 t) (hs0_1 t) (ms0_2 t) (hs0_2 t) (ms0_3 t) (hs0_3 t) (ms0_4 t) (hs0_4 t) (ms0_5 t)
        (hs0_5 t) (ms0_6 t) (hs0_6 t) (ms0_7 t) (hs0_7 t) (ms0_8 t) (hs0_8 t) (ms0_9 t) (hs0_9 t) (ms0_10 t) (hs0_10
        t) (ms0_11 t) (hs0_11 t) (ms0_12 t) (hs0_12 t) scM0_0 (Memref.isWhole_whole _) scM0_1 (Memref.isWhole_whole
        _) (fun h => h0 ((hcond0_0 t).mp h)) (iblk m c 0 t) (iblk m c 1 t) (iblk m c 2 t) (iblk m c 3 t) (iblk m c 4
        t) (iblk m c 5 t) (iblk m c 6 t) (accAt m c (t.val - 1) (Nat.lt_of_le_of_lt (Nat.sub_le _ _) t.isLt)) (upM m
        c) (downM m c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexact H12
    isplitl [HS0]; · iexact HS0
    isplitl [HS1]; · iexact HS1
    iintro ⟨H0, H1, H2, H3, H4, H5, H6, H7, H8, H9, H10, H11, H12, HS0, HS1⟩
    isplitl [HS0 HS1 Hg Hq Hh]
    · isplitl [HS0 HS1]
      · isplitl [HS0]; · iexact HS0
        iexact HS1
      isplitl [Hg]; · iexact Hg
      isplitl [Hq]; · iexact Hq
      iexact Hh
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ :=
  fun t => by
    rw [bigSep_W0, bigSep_W0, body_row]
    exact triple_restated (body_ok m c t) rfl .rfl fun _ => .rfl

theorem enter (c : Dev nD) : Pipeline.ΦD osem0 spec0 H0 (V m) c ⊢ (dats m 0 c).Φ 0 :=
  Idealize.SL.BI.Entails.refl _

theorem leave (c : Dev nD) : (dats m 0 c).Φ (Fin.last cfg0.N) ⊢ Pipeline.ΦD osem0 spec0 H0 (V m) c := by
  rw [show (dats m 0 c).Φ (Fin.last cfg0.N) = inv m c cfg0.N (le_refl _) from rfl,
    show Pipeline.ΦD osem0 spec0 H0 (V m) c = inv m c 0 (Nat.zero_le _) from rfl, inv_zero m c 0 _ rfl,
    inv_pos m c _ _ (show cfg0.N ≠ 0 by have : cfg0.N = 32 := N_0; omega)]
  iintro ⟨⟨HS0, HS1⟩, Hg, Hq, Hh⟩
  isplitl [HS0 HS1]
  · isplitl [HS0]
    · iexists _; iexact HS0
    iexists _; iexact HS1
  isplitl [Hg]; · iexact Hg
  isplitl [Hq]; · iexact Hq
  iexact Hh

-- the launch theorem's implicit arguments are found by unifying its conclusion with this one
set_option backward.isDefEq.respectTransparency.types false in
/-- The launch: every array of the region at what the points leave, every counter at zero. -/
theorem launched : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ
    main (hbody := fun c => (obligation m c).loose) (hshare := fun c => (dats m 0 c).share_full fun _ => rfl)
    (howed := fun _ _ => rfl) (V := V m) (hmain := hmain m Variants.none) (hA := arrays_eq m) (hin := enter m)
    (hout := leave m)

/-- The same without the counters. -/
theorem ran : θ_run defs (onTc (τ := τ) (main (F := F))) (s₀ m ρ) (Pipeline.FramePost cfgs (dats m) 0 (V m)) :=
  (θ_run defs _ _).mono (fun _ h => h.1) (launched m ρ)

/-- The frame: every argument ends as it began, and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (arrays_eq m) (ran m ρ))
    ((θ_run defs _ _).mono (fun _ h => h.2) (launched m ρ))

end Region

end Cert.KernelIdeal.Mlp

end
-- ==== Proof.MlpMath.lean ====
/- The mathematics of the feed-forward half with its loss, row by row: one row of the residual stream is normed,
   modulated, sent through the gated unit and back, gated onto the stream, normed again and compared with its target;
   then the gradient of half the mean squared error is carried back to the row.  Stated on functions, of no program. -/
module

public import Idealize.ShloMosaic.PureOps.Ideal.Laws
public import Idealize.ShloMosaic.Lib.ValueIdx

@[expose] public section

noncomputable section

namespace Cert.Ffn

open Idealize.ShloMosaic

/-- One row's data: the row and its target, the five vectors, and the weights — `U` the gate and up projections (one
    function of the input lane per output lane), `D` the down projection. -/
structure Row where
  x : Fin 1024 → EReal
  t : Fin 1024 → EReal
  n : Fin 1024 → EReal
  sc : Fin 1024 → EReal
  sh : Fin 1024 → EReal
  ga : Fin 1024 → EReal
  fn : Fin 1024 → EReal
  U : Fin 5632 → Fin 1024 → EReal
  D : Fin 2816 → Fin 1024 → EReal

/-- The word of 1/1024. -/
def inv1024 : EReal := Ideal.ofBits .f32 0x3A800000#32
/-- The word of 1/2048. -/
def inv2048 : EReal := Ideal.ofBits .f32 0x3A000000#32
/-- The word the norms add under the root. -/
def eps : EReal := Ideal.ofBits .f32 0x358637BD#32
/-- The word of −1/2. -/
def negHalf : EReal := Ideal.ofBits .f32 0xBF000000#32
/-- The word of 2. -/
def two : EReal := Ideal.ofBits .f32 0x40000000#32

/-- A row's mean square, and the word under the root; -/
def msq (v : Fin 1024 → EReal) : EReal := (∑ k, v k * v k) * inv1024 + eps
/-- its reciprocal root; -/
def root (v : Fin 1024 → EReal) : EReal := Ideal.rsqrt (msq v)
/-- the root's derivative by the mean square; -/
def slope (v : Fin 1024 → EReal) : EReal := negHalf * Ideal.div (root v) (msq v)
/-- and the part of the norm's gradient that comes through the root. -/
def through (v g : Fin 1024 → EReal) : EReal := (∑ k, v k * g k) * slope v * inv1024
/-- The gradient of `v ↦ v · root v` along `g`. -/
def back (v g : Fin 1024 → EReal) (d : Fin 1024) : EReal := g d * root v + v d * through v g + through v g * v d

/-- A lane of the gate half, and of the up half. -/
def lo (j : Fin 2816) : Fin 5632 := ⟨j.val, by omega⟩
def hi (j : Fin 2816) : Fin 5632 := ⟨2816 + j.val, by omega⟩

namespace Row

variable (R : Row)

def normed (d : Fin 1024) : EReal := R.x d * root R.x
def weighted (d : Fin 1024) : EReal := R.normed d * R.n d
def scale (d : Fin 1024) : EReal := 1 + R.sc d
def hid (d : Fin 1024) : EReal := R.weighted d * R.scale d + R.sh d
def gu (j : Fin 5632) : EReal := ∑ k, R.hid k * R.U j k
def sg (j : Fin 2816) : EReal := Ideal.logistic (R.gu (lo j))
def silu (j : Fin 2816) : EReal := R.gu (lo j) * R.sg j
def act (j : Fin 2816) : EReal := R.silu j * R.gu (hi j)
def mlp (d : Fin 1024) : EReal := ∑ j, R.act j * R.D j d
def res (d : Fin 1024) : EReal := R.x d + R.ga d * R.mlp d
def resNormed (d : Fin 1024) : EReal := R.res d * root R.res
def err (d : Fin 1024) : EReal := R.resNormed d * R.fn d - R.t d
/-- The gradient of the last norm's output. -/
def dout (d : Fin 1024) : EReal := inv2048 * (two * R.err d)
def dfin (d : Fin 1024) : EReal := R.dout d * R.fn d
def dres (d : Fin 1024) : EReal := back R.res R.dfin d
def dmlp (d : Fin 1024) : EReal := R.dres d * R.ga d
def dact (j : Fin 2816) : EReal := ∑ k, R.dmlp k * R.D j k
def dgate (j : Fin 2816) : EReal := R.dact j * R.gu (hi j) * (R.sg j * (1 + R.gu (lo j) * (1 - R.sg j)))
def dup (j : Fin 2816) : EReal := R.dact j * R.silu j
def dgu (j : Fin 5632) : EReal :=
  if h : j.val < 2816 then R.dgate ⟨j.val, h⟩ else R.dup ⟨j.val - 2816, by omega⟩
def dhid (d : Fin 1024) : EReal := ∑ j, R.dgu j * R.U j d
def dscaled (d : Fin 1024) : EReal := R.dhid d * R.scale d
def dnormed (d : Fin 1024) : EReal := R.dscaled d * R.n d
def grad (d : Fin 1024) : EReal := R.dres d + back R.x R.dnormed d
/-- The row's sum of squared errors. -/
def sqerr : EReal := ∑ k, R.err k * R.err k

/-- What the row adds to each row of the small block of sums: the gradients of the norm's weight, of the scale, of the
    shift, of the gate and of the final norm's weight, and its part of the loss. -/
def part (q : Fin 8) (d : Fin 1024) : EReal :=
  if q.val = 0 then R.normed d * R.dscaled d
  else if q.val = 1 then R.weighted d * R.dhid d
  else if q.val = 2 then R.dhid d
  else if q.val = 3 then R.dres d * R.mlp d
  else if q.val = 4 then R.resNormed d * R.dout d
  else if q.val = 5 then R.sqerr * inv2048
  else 0

end Row

end Cert.Ffn

end
-- ==== Proof.MlpReal.lean ====
/- Rows whose data are real numbers: every value of the row's mathematics is a real number too, and then the gated
   unit's derivative is the one written by the product rule. -/
module

public import proofs.«01_k».proof.Proof.MlpMath

@[expose] public section

noncomputable section

namespace Cert.Ffn

open Idealize.ShloMosaic

/-- An extended real that is a real number. -/
def IsReal (a : EReal) : Prop := ∃ r : ℝ, a = r

namespace IsReal

theorem add {a b : EReal} : IsReal a → IsReal b → IsReal (a + b)
  | ⟨r, hr⟩, ⟨s, hs⟩ => ⟨r + s, by rw [hr, hs, EReal.coe_add]⟩

theorem mul {a b : EReal} : IsReal a → IsReal b → IsReal (a * b)
  | ⟨r, hr⟩, ⟨s, hs⟩ => ⟨r * s, by rw [hr, hs, EReal.coe_mul]⟩

theorem sub {a b : EReal} : IsReal a → IsReal b → IsReal (a - b)
  | ⟨r, hr⟩, ⟨s, hs⟩ => ⟨r - s, by rw [hr, hs, EReal.coe_sub]⟩

theorem one : IsReal 1 := ⟨1, EReal.coe_one.symm⟩

theorem sum {ι : Type} (s : Finset ι) (f : ι → EReal) (h : ∀ i, IsReal (f i)) : IsReal (∑ i ∈ s, f i) := by
  classical
  induction s using Finset.induction_on with
  | empty => exact ⟨0, by rw [Finset.sum_empty, EReal.coe_zero]⟩
  | insert i s hi ih => rw [Finset.sum_insert hi]; exact (h i).add ih

theorem logistic {a : EReal} : IsReal a → IsReal (Ideal.logistic a)
  | ⟨_, hr⟩ => ⟨_, by rw [hr, Ideal.logistic_coe]⟩

end IsReal

theorem inv1024_eq : inv1024 = (((1024 : ℝ)⁻¹ : ℝ) : EReal) := by
  simp [inv1024, Ideal.ofBits, Ideal.ieee, -EReal.coe_mul]; norm_num

theorem inv2048_eq : inv2048 = (((2048 : ℝ)⁻¹ : ℝ) : EReal) := by
  simp [inv2048, Ideal.ofBits, Ideal.ieee, -EReal.coe_mul]; norm_num

theorem real_negHalf : IsReal negHalf := ⟨-(1 / 2), by
  simp [negHalf, Ideal.ofBits, Ideal.ieee, -EReal.coe_mul]; norm_num⟩

theorem real_two : IsReal two := ⟨2, by
  simp [two, Ideal.ofBits, Ideal.ieee, -EReal.coe_mul]; norm_num⟩

theorem eps_pos : ∃ e : ℝ, 0 < e ∧ eps = e := by
  refine ⟨_, ?_, by simp [eps, Ideal.ofBits, Ideal.ieee, -EReal.coe_mul]; rfl⟩
  positivity

/-- The number under a real row's root is positive. -/
theorem msq_pos (v : Fin 1024 → EReal) (h : ∀ d, IsReal (v d)) : ∃ r : ℝ, 0 < r ∧ msq v = r := by
  obtain ⟨e, he, hE⟩ := eps_pos
  choose w hw using h
  have hs : ∑ k, v k * v k = ((∑ k, w k * w k : ℝ) : EReal) := by
    have : ∀ s : Finset (Fin 1024), ∑ k ∈ s, v k * v k = ((∑ k ∈ s, w k * w k : ℝ) : EReal) := by
      intro s
      induction s using Finset.induction_on with
      | empty => simp
      | insert i s hi ih => rw [Finset.sum_insert hi, Finset.sum_insert hi, ih, hw i, EReal.coe_add, EReal.coe_mul]
    exact this _
  refine ⟨(∑ k, w k * w k) * (1024 : ℝ)⁻¹ + e, ?_, ?_⟩
  · have : 0 ≤ ∑ k, w k * w k := Finset.sum_nonneg fun k _ => mul_self_nonneg _
    positivity
  · rw [msq, hs, hE, inv1024_eq, EReal.coe_add, EReal.coe_mul]

theorem real_root (v : Fin 1024 → EReal) (h : ∀ d, IsReal (v d)) : IsReal (root v) := by
  obtain ⟨r, hr, e⟩ := msq_pos v h
  exact ⟨_, by rw [root, e, Ideal.rsqrt_coe, if_neg hr.not_gt, if_neg hr.ne']⟩

theorem real_slope (v : Fin 1024 → EReal) (h : ∀ d, IsReal (v d)) : IsReal (slope v) := by
  obtain ⟨r, hr, e⟩ := msq_pos v h
  refine real_negHalf.mul ?_
  rw [e, Ideal.div_coe hr.ne']
  exact (real_root v h).mul ⟨_, rfl⟩

theorem real_through (v g : Fin 1024 → EReal) (h : ∀ d, IsReal (v d)) (hg : ∀ d, IsReal (g d)) :
    IsReal (through v g) :=
  ((IsReal.sum _ _ fun k => (h k).mul (hg k)).mul (real_slope v h)).mul ⟨_, inv1024_eq⟩

theorem real_back (v g : Fin 1024 → EReal) (h : ∀ d, IsReal (v d)) (hg : ∀ d, IsReal (g d)) (d : Fin 1024) :
    IsReal (back v g d) :=
  (((hg d).mul (real_root v h)).add ((h d).mul (real_through v g h hg))).add ((real_through v g h hg).mul (h d))

namespace Row

/-- A row whose data are real numbers. -/
structure Real (R : Row) : Prop where
  x : ∀ d, IsReal (R.x d)
  t : ∀ d, IsReal (R.t d)
  n : ∀ d, IsReal (R.n d)
  sc : ∀ d, IsReal (R.sc d)
  sh : ∀ d, IsReal (R.sh d)
  ga : ∀ d, IsReal (R.ga d)
  fn : ∀ d, IsReal (R.fn d)
  U : ∀ j d, IsReal (R.U j d)
  D : ∀ j d, IsReal (R.D j d)

namespace Real

variable {R : Row} (h : R.Real)
include h

theorem hid (d : Fin 1024) : IsReal (R.hid d) :=
  ((((h.x d).mul (real_root _ h.x)).mul (h.n d)).mul (IsReal.one.add (h.sc d))).add (h.sh d)

theorem gu (j : Fin 5632) : IsReal (R.gu j) := IsReal.sum _ _ fun k => (h.hid k).mul (h.U j k)

theorem sg (j : Fin 2816) : IsReal (R.sg j) := (h.gu _).logistic

theorem act (j : Fin 2816) : IsReal (R.act j) := ((h.gu _).mul (h.sg j)).mul (h.gu _)

theorem res (d : Fin 1024) : IsReal (R.res d) :=
  (h.x d).add ((h.ga d).mul (IsReal.sum _ _ fun j => (h.act j).mul (h.D j d)))

theorem err (d : Fin 1024) : IsReal (R.err d) :=
  (((h.res d).mul (real_root _ h.res)).mul (h.fn d)).sub (h.t d)

theorem dfin (d : Fin 1024) : IsReal (R.dfin d) :=
  (IsReal.mul ⟨_, inv2048_eq⟩ (real_two.mul (h.err d))).mul (h.fn d)

theorem dact (j : Fin 2816) : IsReal (R.dact j) :=
  IsReal.sum _ _ fun k => ((real_back _ _ h.res h.dfin k).mul (h.ga k)).mul (h.D j k)

theorem sqerr : IsReal R.sqerr := IsReal.sum _ _ fun k => (h.err k).mul (h.err k)

/-- The gated unit's derivative, written by the product rule. -/
theorem dgate_eq (j : Fin 2816) :
    R.dact j * R.gu (hi j) * R.sg j + R.gu (lo j) * (R.dact j * R.gu (hi j)) * (R.sg j * (1 - R.sg j)) = R.dgate j := by
  obtain ⟨a, ha⟩ := (h.dact j).mul (h.gu (hi j))
  obtain ⟨s, hs⟩ := h.sg j
  obtain ⟨g, hg⟩ := h.gu (lo j)
  rw [dgate, ha, hs, hg, ← EReal.coe_one, ← EReal.coe_sub, ← EReal.coe_mul, ← EReal.coe_mul, ← EReal.coe_mul,
    ← EReal.coe_mul, ← EReal.coe_add, ← EReal.coe_mul, ← EReal.coe_add, ← EReal.coe_mul, ← EReal.coe_mul]
  congr 1; ring

end Real

end Row

/-- A sum of real numbers weighted by the word of 1/2048, and half the sum weighted by that of 1/1024. -/
theorem sum_inv2048 {N : Nat} (f : Fin N → EReal) (h : ∀ i, IsReal (f i)) :
    Ideal.ofBits .f32 0x3F000000#32 * ∑ i, f i * inv1024 = (∑ i, f i) * inv2048 := by
  have hh : Ideal.ofBits .f32 0x3F000000#32 = (((2 : ℝ)⁻¹ : ℝ) : EReal) := by
    simp [Ideal.ofBits, Ideal.ieee, -EReal.coe_mul]; norm_num
  choose w hw using h
  have hs : ∀ s : Finset (Fin N), ∑ i ∈ s, f i = ((∑ i ∈ s, w i : ℝ) : EReal)
      ∧ ∑ i ∈ s, f i * inv1024 = (((∑ i ∈ s, w i) * (1024 : ℝ)⁻¹ : ℝ) : EReal) := by
    intro s
    induction s using Finset.induction_on with
    | empty => simp
    | insert i s hi ih =>
      rw [Finset.sum_insert hi, Finset.sum_insert hi, Finset.sum_insert hi, ih.1, ih.2, hw i, inv1024_eq, ← EReal.coe_mul,
        ← EReal.coe_add, ← EReal.coe_add, add_mul]
      exact ⟨rfl, rfl⟩
  rw [(hs _).1, (hs _).2, hh, inv2048_eq, ← EReal.coe_mul, ← EReal.coe_mul]
  congr 1; ring

/-- The word of 1/2048 distributes over a sum of real numbers. -/
theorem sum_mul_inv2048 {N : Nat} (f : Fin N → EReal) (h : ∀ i, IsReal (f i)) :
    (∑ i, f i) * inv2048 = ∑ i, f i * inv2048 := by
  choose w hw using h
  have hs : ∀ s : Finset (Fin N), ∑ i ∈ s, f i = ((∑ i ∈ s, w i : ℝ) : EReal)
      ∧ ∑ i ∈ s, f i * inv2048 = (((∑ i ∈ s, w i) * (2048 : ℝ)⁻¹ : ℝ) : EReal) := by
    intro s
    induction s using Finset.induction_on with
    | empty => simp
    | insert i s hi ih =>
      rw [Finset.sum_insert hi, Finset.sum_insert hi, Finset.sum_insert hi, ih.1, ih.2, hw i, inv2048_eq, ← EReal.coe_mul,
        ← EReal.coe_add, ← EReal.coe_add, add_mul]
      exact ⟨rfl, rfl⟩
  rw [(hs _).1, (hs _).2, inv2048_eq, ← EReal.coe_mul]

end Cert.Ffn

end
-- ==== Proof.MlpBlock.lean ====
/- One grid point of the kernel, row by row: every value of MlpBody read at row `r` of the block is the row's mathematics
   of MlpMath. -/
module

public import proofs.«01_k».proof.Proof.MlpBody
public import proofs.«01_k».proof.Proof.MlpReal
public import Idealize.ShloMosaic.Lib.Pointwise
public import Idealize.ShloMosaic.Lib.Pipeline.ReadBack
public import Idealize.ShloMosaic.Lib.Pipeline.ValueKit

@[expose] public section

set_option maxRecDepth 16384

noncomputable section

namespace Cert.KernelIdeal.Mlp

open Idealize.ShloMosaic Idealize.ShloMosaic.TcCoe
open Cert.KernelIdeal.Gen Cert.Ffn

variable (x tgt : Vec Ideal S256x1024 .f32) (n sc sh ga fn : Vec Ideal S1x1024 .f32)
  (U : Vec Ideal S5632x1024 .bf16) (D : Vec Ideal S2816x1024 .bf16) (r : Fin 256)

/-- Row `r` of a block. -/
def blockRow : Row where
  x d := x (ix2 r d)
  t d := tgt (ix2 r d)
  n d := n (ix2 (0 : Fin 1) d)
  sc d := sc (ix2 (0 : Fin 1) d)
  sh d := sh (ix2 (0 : Fin 1) d)
  ga d := ga (ix2 (0 : Fin 1) d)
  fn d := fn (ix2 (0 : Fin 1) d)
  U j d := U (ix2 j d)
  D j d := D (ix2 j d)

theorem b_root : k0_pay8 x (ix2 r (0 : Fin 1)) = root (blockRow x tgt n sc sh ga fn U D r).x := by
  pointwise [k0_pay8, k0_pay7]; rfl

theorem b_slope : k0_pay9 x (ix2 r (0 : Fin 1)) = slope (blockRow x tgt n sc sh ga fn U D r).x := by
  pointwise [k0_pay9, k0_pay8, k0_pay7]; rfl

theorem b_normed (d : Fin 1024) : k0_pay10 x (ix2 r d) = (blockRow x tgt n sc sh ga fn U D r).normed d := by
  pointwise [k0_pay10]; rw [b_root x tgt n sc sh ga fn U D]; rfl

theorem b_weighted (d : Fin 1024) : k0_pay11 x n (ix2 r d) = (blockRow x tgt n sc sh ga fn U D r).weighted d := by
  pointwise [k0_pay11]; rw [b_normed x tgt n sc sh ga fn U D]; rfl

theorem b_scale (d : Fin 1024) : k0_pay12 sc (ix2 (0 : Fin 1) d) = (blockRow x tgt n sc sh ga fn U D r).scale d := by
  pointwise [k0_pay12]; rfl

theorem b_hid (d : Fin 1024) : k0_pay13 x n sc sh (ix2 r d) = (blockRow x tgt n sc sh ga fn U D r).hid d := by
  pointwise [k0_pay13]; rw [b_weighted x tgt n sc sh ga fn U D, b_scale x tgt n sc sh ga fn U D]; rfl

theorem b_gu (j : Fin 5632) : k0_pay14 x n sc sh U (ix2 r j) = (blockRow x tgt n sc sh ga fn U D r).gu j := by
  pointwise [k0_pay14]; simp only [b_hid x tgt n sc sh ga fn U D]; rfl

theorem b_gate (j : Fin 2816) : k0_pay15 x n sc sh U (ix2 r j) = (blockRow x tgt n sc sh ga fn U D r).gu (lo j) := by
  pointwise [k0_pay15]; exact b_gu x tgt n sc sh ga fn U D _ _

theorem b_up (j : Fin 2816) : k0_pay16 x n sc sh U (ix2 r j) = (blockRow x tgt n sc sh ga fn U D r).gu (hi j) := by
  pointwise [k0_pay16]; exact b_gu x tgt n sc sh ga fn U D _ _

theorem b_sg (j : Fin 2816) : k0_pay17 x n sc sh U (ix2 r j) = (blockRow x tgt n sc sh ga fn U D r).sg j := by
  pointwise [k0_pay17]; rw [b_gate x tgt n sc sh ga fn U D]; rfl

theorem b_silu (j : Fin 2816) : k0_pay18 x n sc sh U (ix2 r j) = (blockRow x tgt n sc sh ga fn U D r).silu j := by
  pointwise [k0_pay18]; rw [b_gate x tgt n sc sh ga fn U D, b_sg x tgt n sc sh ga fn U D]; rfl

theorem b_act (j : Fin 2816) : actB x n sc sh U (ix2 r j) = (blockRow x tgt n sc sh ga fn U D r).act j := by
  unfold actB; pointwise [k0_pay19]; rw [b_silu x tgt n sc sh ga fn U D, b_up x tgt n sc sh ga fn U D]; rfl

theorem b_mlp (d : Fin 1024) : k0_pay20 (actB x n sc sh U) D (ix2 r d) = (blockRow x tgt n sc sh ga fn U D r).mlp d := by
  pointwise [k0_pay20]; simp only [b_act x tgt n sc sh ga fn U D]; rfl

theorem b_res (d : Fin 1024) : k0_pay21 x ga (actB x n sc sh U) D (ix2 r d) = (blockRow x tgt n sc sh ga fn U D r).res d := by
  pointwise [k0_pay21]; rw [b_mlp x tgt n sc sh ga fn U D]; rfl

theorem b_msq : k0_pay22 x ga (actB x n sc sh U) D (ix2 r (0 : Fin 1)) = msq (blockRow x tgt n sc sh ga fn U D r).res := by
  pointwise [k0_pay22]; simp only [b_res x tgt n sc sh ga fn U D]; rfl

theorem b_resRoot : k0_pay23 x ga (actB x n sc sh U) D (ix2 r (0 : Fin 1)) = root (blockRow x tgt n sc sh ga fn U D r).res := by
  pointwise [k0_pay23]; rw [b_msq x tgt n sc sh ga fn U D]; rfl

theorem b_resSlope : k0_pay24 x ga (actB x n sc sh U) D (ix2 r (0 : Fin 1)) = slope (blockRow x tgt n sc sh ga fn U D r).res := by
  pointwise [k0_pay24]; rw [b_resRoot x tgt n sc sh ga fn U D, b_msq x tgt n sc sh ga fn U D]; rfl

theorem b_resNormed (d : Fin 1024) : k0_pay25 x ga (actB x n sc sh U) D (ix2 r d) = (blockRow x tgt n sc sh ga fn U D r).resNormed d := by
  pointwise [k0_pay25]; rw [b_res x tgt n sc sh ga fn U D, b_resRoot x tgt n sc sh ga fn U D]; rfl

theorem b_err (d : Fin 1024) : k0_pay26 x ga (actB x n sc sh U) D fn tgt (ix2 r d) = (blockRow x tgt n sc sh ga fn U D r).err d := by
  pointwise [k0_pay26]; rw [b_resNormed x tgt n sc sh ga fn U D]; rfl

theorem b_errB (d : Fin 1024) : errB x tgt n sc sh ga fn U D (ix2 r d) = two * (blockRow x tgt n sc sh ga fn U D r).err d := by
  unfold errB; pointwise [k0_pay27]; rw [b_err x tgt n sc sh ga fn U D]; rfl

theorem b_seed : k0_pay29 (F := Ideal) (ix2 r (0 : Fin 1)) = inv2048 := by
  pointwise [k0_pay29]; simp; rfl

theorem b_dout (d : Fin 1024) : k0_pay30 (errB x tgt n sc sh ga fn U D) k0_pay29 (ix2 r d) = (blockRow x tgt n sc sh ga fn U D r).dout d := by
  pointwise [k0_pay30]; rw [b_errB x tgt n sc sh ga fn U D]; simp only [Fin.sum_univ_one]; rw [b_seed]; rfl

theorem b_dres (d : Fin 1024) : dresB x tgt n sc sh ga fn U D (ix2 r d) = (blockRow x tgt n sc sh ga fn U D r).dres d := by
  unfold dresB resB rootB slopeB; pointwise [k0_pay32]
  simp only [Fin.sum_univ_one, b_dout x tgt n sc sh ga fn U D, b_res x tgt n sc sh ga fn U D, b_resRoot x tgt n sc sh ga fn U D, b_resSlope x tgt n sc sh ga fn U D]; rfl

theorem b_dmlp (d : Fin 1024) : dmlpB x tgt n sc sh ga fn U D (ix2 r d) = (blockRow x tgt n sc sh ga fn U D r).dmlp d := by
  unfold dmlpB; pointwise [k0_pay33]; rw [← dresB, b_dres x tgt n sc sh ga fn U D]; rfl

theorem b_dgu (j : Fin 5632) : dguB x tgt n sc sh ga fn U D (ix2 r j) = (blockRow x tgt n sc sh ga fn U D r).dgu j := by
  unfold dguB; pointwise [k0_pay34]
  rw [← dmlpB]; simp only [b_dmlp x tgt n sc sh ga fn U D, b_up x tgt n sc sh ga fn U D, b_gate x tgt n sc sh ga fn U D, b_sg x tgt n sc sh ga fn U D, b_silu x tgt n sc sh ga fn U D]; rfl

theorem b_dhid (d : Fin 1024) : dhidB x tgt n sc sh ga fn U D (ix2 r d) = (blockRow x tgt n sc sh ga fn U D r).dhid d := by
  unfold dhidB; pointwise [k0_pay35]; rw [← dguB]; simp only [b_dgu x tgt n sc sh ga fn U D]; rfl

theorem b_dscaled (d : Fin 1024) :
    k0_pay39 (k0_pay12 sc) (dhidB x tgt n sc sh ga fn U D) (ix2 r d) = (blockRow x tgt n sc sh ga fn U D r).dscaled d := by
  pointwise [k0_pay39]; rw [b_dhid x tgt n sc sh ga fn U D, b_scale x tgt n sc sh ga fn U D]; rfl

theorem b_grad (d : Fin 1024) : gradB x tgt n sc sh ga fn U D (ix2 r d) = (blockRow x tgt n sc sh ga fn U D r).grad d := by
  unfold gradB; pointwise [k0_pay40]
  simp only [Fin.sum_univ_one, b_dscaled x tgt n sc sh ga fn U D, b_root x tgt n sc sh ga fn U D, b_slope x tgt n sc sh ga fn U D, b_dres x tgt n sc sh ga fn U D]; rfl

/-- What the point adds into each row of the accumulated block. -/
def rowOf (q : Fin 8) (d : Fin 1024) : EReal :=
  if q.val = 0 then ∑ r, (blockRow x tgt n sc sh ga fn U D r).normed d * (blockRow x tgt n sc sh ga fn U D r).dscaled d
  else if q.val = 1 then ∑ r, (blockRow x tgt n sc sh ga fn U D r).weighted d * (blockRow x tgt n sc sh ga fn U D r).dhid d
  else if q.val = 2 then ∑ r, (blockRow x tgt n sc sh ga fn U D r).dhid d
  else if q.val = 3 then ∑ r, (blockRow x tgt n sc sh ga fn U D r).dres d * (blockRow x tgt n sc sh ga fn U D r).mlp d
  else if q.val = 4 then ∑ r, (blockRow x tgt n sc sh ga fn U D r).resNormed d * (blockRow x tgt n sc sh ga fn U D r).dout d
  else if q.val = 5 then (∑ r, (blockRow x tgt n sc sh ga fn U D r).sqerr) * inv2048
  else 0

/-- Each of the six rows the point stores is the old row with the point's part added. -/
theorem b_row0 (v : Vec Ideal S1x1024 .f32) (d : Fin 1024) :
    k0_pay41 (k0_pay10 x) (k0_pay12 sc) (dhidB x tgt n sc sh ga fn U D) v (ix2 (0 : Fin 1) d)
      = v (ix2 (0 : Fin 1) d) + rowOf x tgt n sc sh ga fn U D 0 d := by
  pointwise [k0_pay41]; simp only [fun r d => b_normed x tgt n sc sh ga fn U D r d, fun r d => b_dscaled x tgt n sc sh ga fn U D r d]; rfl

theorem b_row1 (v : Vec Ideal S1x1024 .f32) (d : Fin 1024) :
    k0_pay1 (k0_pay38
        (k0_pay37 ga (k0_pay11 x n) (k0_pay15 x n sc sh U) (k0_pay16 x n sc sh U) (k0_pay17 x n sc sh U)
          (k0_pay18 x n sc sh U) (resB x n sc sh ga U D) fn (rootB x n sc sh ga U D) (slopeB x n sc sh ga U D)
          (errB x tgt n sc sh ga fn U D) k0_pay29 D U)) v (ix2 (0 : Fin 1) d)
      = v (ix2 (0 : Fin 1) d) + rowOf x tgt n sc sh ga fn U D 1 d := by
  pointwise [k0_pay1, k0_pay38, k0_pay37]; rw [← dhidB]
  simp only [fun r d => b_weighted x tgt n sc sh ga fn U D r d, fun r d => b_dhid x tgt n sc sh ga fn U D r d]; rfl

theorem b_row2 (v : Vec Ideal S1x1024 .f32) (d : Fin 1024) :
    k0_pay2 (k0_pay36 ga (k0_pay15 x n sc sh U) (k0_pay16 x n sc sh U) (k0_pay17 x n sc sh U) (k0_pay18 x n sc sh U)
        (resB x n sc sh ga U D) fn (rootB x n sc sh ga U D) (slopeB x n sc sh ga U D)
        (errB x tgt n sc sh ga fn U D) k0_pay29 D U) v (ix2 (0 : Fin 1) d)
      = v (ix2 (0 : Fin 1) d) + rowOf x tgt n sc sh ga fn U D 2 d := by
  pointwise [k0_pay2, k0_pay36]; rw [← dhidB]
  simp only [fun r d => b_dhid x tgt n sc sh ga fn U D r d]; rfl

theorem b_row3 (v : Vec Ideal S1x1024 .f32) (d : Fin 1024) :
    k0_pay3 (k0_pay20 (actB x n sc sh U) D) (dresB x tgt n sc sh ga fn U D) v (ix2 (0 : Fin 1) d)
      = v (ix2 (0 : Fin 1) d) + rowOf x tgt n sc sh ga fn U D 3 d := by
  pointwise [k0_pay3]
  simp only [fun r d => b_mlp x tgt n sc sh ga fn U D r d, fun r d => b_dres x tgt n sc sh ga fn U D r d]; rfl

theorem b_row4 (v : Vec Ideal S1x1024 .f32) (d : Fin 1024) :
    k0_pay4 (k0_pay31 (k0_pay25 x ga (actB x n sc sh U) D) (errB x tgt n sc sh ga fn U D) k0_pay29) v (ix2 (0 : Fin 1) d)
      = v (ix2 (0 : Fin 1) d) + rowOf x tgt n sc sh ga fn U D 4 d := by
  pointwise [k0_pay4, k0_pay31]
  simp only [fun r d => b_resNormed x tgt n sc sh ga fn U D r d, fun r d => b_dout x tgt n sc sh ga fn U D r d]; rfl

theorem b_row5 (v : Vec Ideal S1x1024 .f32) (d : Fin 1024) :
    k0_pay5 (k0_pay28 x ga (actB x n sc sh U) D fn tgt) v (ix2 (0 : Fin 1) d)
      = v (ix2 (0 : Fin 1) d) + rowOf x tgt n sc sh ga fn U D 5 d := by
  pointwise [k0_pay5, k0_pay28]
  simp only [fun r d => b_err x tgt n sc sh ga fn U D r d]; rfl

/-- Where the rows are real numbers it is the sum of the rows' parts. -/
theorem rowOf_eq (h : ∀ r, (blockRow x tgt n sc sh ga fn U D r).Real) (q : Fin 8) (d : Fin 1024) : rowOf x tgt n sc sh ga fn U D q d = ∑ r, (blockRow x tgt n sc sh ga fn U D r).part q d := by
  unfold rowOf Row.part
  split_ifs
  · rfl
  · rfl
  · rfl
  · rfl
  · rfl
  · exact sum_mul_inv2048 _ fun r => (h r).sqerr
  · rw [Finset.sum_const_zero]

/-- What the block holds after the point: the old block with the point's part added. -/
def grown (old : Vec Ideal S8x1024 .f32) : Vec Ideal S8x1024 .f32 := fun y => old y + rowOf x tgt n sc sh ga fn U D (y 0) (y 1)

/-- A stored row is the grown block's. -/
theorem grown_row {a : ℕ} (ha : a < 8) (old : Vec Ideal S8x1024 .f32)
    (inb : ∀ i : Fin 2, (![a, 0] : Fin 2 → ℕ) i + (![1, 1024] : Fin 2 → ℕ) i ≤ S8x1024.size i)
    (w : Vec Ideal S1x1024 .f32 → Vec Ideal S1x1024 .f32)
    (hw : ∀ v d, w v (ix2 (0 : Fin 1) d) = v (ix2 (0 : Fin 1) d) + rowOf x tgt n sc sh ga fn U D ⟨a, ha⟩ d) (y : S1x1024.Idx) :
    w (View.ld old (Rect.unit (s := S8x1024) ![a, 0] ![1, 1024] inb)) y
      = grown x tgt n sc sh ga fn U D old ((Rect.unit (s := S8x1024) ![a, 0] ![1, 1024] inb).emb y) := by
  obtain ⟨z, d, rfl⟩ : ∃ (z : Fin 1) (d : Fin 1024), ix2 z d = y := ⟨y 0, y 1, by funext i; match i with | 0 => rfl | 1 => rfl⟩
  obtain rfl : z = 0 := Subsingleton.elim _ _
  have e : (Rect.unit (s := S8x1024) ![a, 0] ![1, 1024] inb).emb (ix2 (0 : Fin 1) d) = ix2 (⟨a, ha⟩ : Fin 8) d := by
    funext i
    match i with
    | 0 => exact Fin.ext (show a + 1 * 0 = a by omega)
    | 1 => exact Fin.ext (show 0 + 1 * d.val = d.val by omega)
  rw [hw, e]
  exact congrArg (fun z : S8x1024.Idx => old z + rowOf x tgt n sc sh ga fn U D ⟨a, ha⟩ d) e

/-- The six rows. -/
theorem rows_grown (old : Vec Ideal S8x1024 .f32) :
    View.PiecesOf (grown x tgt n sc sh ga fn U D old) (rowsB x tgt n sc sh ga fn U D old) :=
  ⟨fun y => grown_row x tgt n sc sh ga fn U D (by omega) old _ _ (b_row5 x tgt n sc sh ga fn U D) y, fun y => grown_row x tgt n sc sh ga fn U D (by omega) old _ _ (b_row4 x tgt n sc sh ga fn U D) y,
    fun y => grown_row x tgt n sc sh ga fn U D (by omega) old _ _ (b_row3 x tgt n sc sh ga fn U D) y, fun y => grown_row x tgt n sc sh ga fn U D (by omega) old _ _ (b_row2 x tgt n sc sh ga fn U D) y,
    fun y => grown_row x tgt n sc sh ga fn U D (by omega) old _ _ (b_row1 x tgt n sc sh ga fn U D) y, fun y => grown_row x tgt n sc sh ga fn U D (by omega) old _ _ (b_row0 x tgt n sc sh ga fn U D) y,
    trivial⟩

/-- A row of the block past a stored row is what the stores before made it. -/
theorem skip_row {a : ℕ} {sz : Fin 2 → ℕ} {inb : ∀ i : Fin 2, (![a, 0] : Fin 2 → ℕ) i + sz i ≤ S8x1024.size i}
    (w : (Rect.unit (s := S8x1024) ![a, 0] sz inb).shape.Idx → Elt Ideal .f32)
    (L : List (View.Piece (Elt Ideal) S8x1024 .f32)) (y : S8x1024.Idx) (h : a + sz 0 ≤ (y 0).val) :
    View.canon (⟨Rect.unit (s := S8x1024) ![a, 0] sz inb, w⟩ :: L) y = View.canon L y :=
  View.canon_cons_of_not_mem _ L fun hm => by
    have h0 := Rect.mem_set_unit (s := S8x1024) (off := ![a, 0]) (size := sz) (inb := inb) |>.mp hm (0 : Fin 2)
    have := h0.2
    simp only [Matrix.cons_val_zero] at this
    omega

/-- A row of the block is inside a row stored at its place. -/
theorem in_row {a : ℕ} (ha : a < 8) (inb : ∀ i : Fin 2, (![a, 0] : Fin 2 → ℕ) i + (![1, 1024] : Fin 2 → ℕ) i ≤ S8x1024.size i)
    (d : Fin 1024) : (ix2 (⟨a, ha⟩ : Fin 8) d : S8x1024.Idx) ∈ (Rect.unit (s := S8x1024) ![a, 0] ![1, 1024] inb).set := by
  refine Rect.mem_set_unit (s := S8x1024) (off := ![a, 0]) (size := ![1, 1024]) (inb := inb) |>.mpr fun i => ?_
  match i with
  | 0 => exact ⟨le_refl a, (show a < a + 1 by omega)⟩
  | 1 => exact ⟨Nat.zero_le _, (show d.val < 0 + 1024 by omega)⟩

/-- The block after the point is the grown block: the six rows are stored, the last two stay. -/
theorem accB_apply (old : Vec Ideal S8x1024 .f32) (q : Fin 8) (d : Fin 1024) :
    accB x tgt n sc sh ga fn U D old (ix2 q d) = old (ix2 q d) + rowOf x tgt n sc sh ga fn U D q d := by
  by_cases hq : q.val < 6
  · refine View.canon_append_of_piecesOf (grown x tgt n sc sh ga fn U D old) _ _ (rows_grown x tgt n sc sh ga fn U D old) _ ?_
    obtain ⟨q, hq'⟩ := q
    have mem := fun (a : ℕ) (ha : a < 8) (inb) => in_row (a := a) ha inb d
    interval_cases q
    · exact ⟨_, .tail _ (.tail _ (.tail _ (.tail _ (.tail _ (.head _))))), mem 0 (by omega) inb_S8x1024_S1x1024_0_0⟩
    · exact ⟨_, .tail _ (.tail _ (.tail _ (.tail _ (.head _)))), mem 1 (by omega) inb_S8x1024_S1x1024_1_0⟩
    · exact ⟨_, .tail _ (.tail _ (.tail _ (.head _))), mem 2 (by omega) inb_S8x1024_S1x1024_2_0⟩
    · exact ⟨_, .tail _ (.tail _ (.head _)), mem 3 (by omega) inb_S8x1024_S1x1024_3_0⟩
    · exact ⟨_, .tail _ (.head _), mem 4 (by omega) inb_S8x1024_S1x1024_4_0⟩
    · exact ⟨_, .head _, mem 5 (by omega) inb_S8x1024_S1x1024_5_0⟩
  · have e : accB x tgt n sc sh ga fn U D old (ix2 q d) = old (ix2 q d) := by
      unfold accB rowsB
      refine Eq.trans (skip_row (a := 5) (sz := ![1, 1024]) (inb := inb_S8x1024_S1x1024_5_0) _ _ (ix2 q d) (show 5 + 1 ≤ q.val by omega)) ?_
      refine Eq.trans (skip_row (a := 4) (sz := ![1, 1024]) (inb := inb_S8x1024_S1x1024_4_0) _ _ (ix2 q d) (show 4 + 1 ≤ q.val by omega)) ?_
      refine Eq.trans (skip_row (a := 3) (sz := ![1, 1024]) (inb := inb_S8x1024_S1x1024_3_0) _ _ (ix2 q d) (show 3 + 1 ≤ q.val by omega)) ?_
      refine Eq.trans (skip_row (a := 2) (sz := ![1, 1024]) (inb := inb_S8x1024_S1x1024_2_0) _ _ (ix2 q d) (show 2 + 1 ≤ q.val by omega)) ?_
      refine Eq.trans (skip_row (a := 1) (sz := ![1, 1024]) (inb := inb_S8x1024_S1x1024_1_0) _ _ (ix2 q d) (show 1 + 1 ≤ q.val by omega)) ?_
      refine Eq.trans (skip_row (a := 0) (sz := ![1, 1024]) (inb := inb_S8x1024_S1x1024_0_0) _ _ (ix2 q d) (show 0 + 1 ≤ q.val by omega)) ?_
      exact congrFun (View.canon_cons_unit_lit' inb_S8x1024_S8x1024_0_0 old [] (by decide)) _
    rw [e, rowOf, if_neg (by omega), if_neg (by omega), if_neg (by omega), if_neg (by omega), if_neg (by omega),
      if_neg (by omega), add_zero]

end Cert.KernelIdeal.Mlp

end
-- ==== Proof.MlpValue.lean ====
/- The value of the feed-forward call: every block the points write is the rows' mathematics of MlpMath, so the five large
   arrays hold it row by row, and the small block holds the rows' parts summed over all 8192 rows. -/
module

public import proofs.«01_k».proof.Proof.MlpFrame
public import proofs.«01_k».proof.Proof.MlpBlock
public import Idealize.ShloMosaic.Lib.Pipeline.ValueKit
public import Idealize.ShloMosaic.Lib.Pipeline.ReadBack

@[expose] public section

set_option maxRecDepth 16384

noncomputable section

namespace Cert.KernelIdeal.Mlp

open Idealize.ShloMosaic Idealize.ShloMosaic.TcCoe Idealize.SL.Sem
open Idealize.ShloMosaic.Pipeline (Dat)
open Cert.KernelIdeal.Gen Cert.Ffn

variable (m : (ℓ : Loc nD τ sig) → Buf (Elt Ideal) ℓ) (c : Dev nD)

/-- Row `i` of the arguments. -/
def argRow (i : Fin 8192) : Row where
  x d := (m ((c : Thread nD τ).loc main_arg0)) (ix2 i d)
  t d := (m ((c : Thread nD τ).loc main_arg1)) (ix2 i d)
  n d := (m ((c : Thread nD τ).loc main_arg2)) (ix2 (0 : Fin 1) d)
  sc d := (m ((c : Thread nD τ).loc main_arg3)) (ix2 (0 : Fin 1) d)
  sh d := (m ((c : Thread nD τ).loc main_arg4)) (ix2 (0 : Fin 1) d)
  ga d := (m ((c : Thread nD τ).loc main_arg5)) (ix2 (0 : Fin 1) d)
  fn d := (m ((c : Thread nD τ).loc main_arg6)) (ix2 (0 : Fin 1) d)
  U j d := (m ((c : Thread nD τ).loc main_arg7)) (ix2 d j)
  D j d := (m ((c : Thread nD τ).loc main_arg8)) (ix2 j d)

/-- The windows' block indices at every point: the rows' windows walk with the point, the others stay. -/
theorem idx : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0]
    ∧ win0_12.index t = ![0, 0] ∧ t.val < 32 :=
  (by decide +kernel : ∀ t : Fin grid0.N, _)

theorem lt32 (t : Fin cfg0.N) : t.val < 32 := (idx t).2.2.2.2.2.2.2.2.2.2.2.2.2

/-- The gate and up weights the scratch holds are the argument's, turned. -/
theorem upM_apply (j : Fin 5632) (d : Fin 1024) : upM m c (ix2 j d) = m ((c : Thread nD τ).loc main_arg7) (ix2 d j) := by
  have hj := j.isLt
  have e : ∀ n (hn : n < 5632), n = j.val → (ix2 d (⟨n, hn⟩ : Fin 5632) : S1024x5632.Idx) = ix2 d j := by
    rintro n hn rfl; rfl
  unfold upM upW
  dsimp only
  split_ifs with h h'
  · change j.val % 704 < 240 at h
    entry_read
    pointwise
    exact congrArg _ (e _ _ (by omega))
  · change ¬j.val % 704 < 240 at h
    change j.val % 704 < 496 at h'
    entry_read
    pointwise
    exact congrArg _ (e _ _ (by omega))
  · change ¬j.val % 704 < 240 at h
    change ¬j.val % 704 < 496 at h'
    entry_read
    pointwise
    exact congrArg _ (e _ _ (by omega))

/-- The down weights it holds are the argument's. -/
theorem downM_apply (j : Fin 2816) (d : Fin 1024) : downM m c (ix2 j d) = m ((c : Thread nD τ).loc main_arg8) (ix2 j d) := by
  have hj := j.isLt
  have e : ∀ n (hn : n < 2816), n = j.val → (ix2 (⟨n, hn⟩ : Fin 2816) d : S2816x1024.Idx) = ix2 j d := by
    rintro n hn rfl; rfl
  unfold downM downW
  dsimp only
  split_ifs with h
  · change j.val % 352 < 288 at h
    entry_read
    pointwise
    exact congrArg _ (e _ _ (by omega))
  · change ¬j.val % 352 < 288 at h
    entry_read
    pointwise
    exact congrArg _ (e _ _ (by omega))

/-- The row of the arrays that row `r` of point `t`'s block is. -/
def at_ (t : Fin cfg0.N) (r : Fin 256) : Fin 8192 := ⟨256 * t.val + r.val, by have := lt32 t; omega⟩

theorem x_apply (t : Fin cfg0.N) (r : Fin 256) (d : Fin 1024) : (show Vec Ideal S256x1024 .f32 from iblk m c 0 t) (ix2 r d)
    = m ((c : Thread nD τ).loc main_arg0) (ix2 (at_ t r) d) := by
  have ht := idx t
  blk_ext [iblk, V, ht, at_]

theorem t_apply (t : Fin cfg0.N) (r : Fin 256) (d : Fin 1024) : (show Vec Ideal S256x1024 .f32 from iblk m c 1 t) (ix2 r d)
    = m ((c : Thread nD τ).loc main_arg1) (ix2 (at_ t r) d) := by
  have ht := idx t
  blk_ext [iblk, V, ht, at_]

theorem n_apply (t : Fin cfg0.N) (d : Fin 1024) : (show Vec Ideal S1x1024 .f32 from iblk m c 2 t) (ix2 (0 : Fin 1) d)
    = m ((c : Thread nD τ).loc main_arg2) (ix2 (0 : Fin 1) d) := by
  have ht := idx t
  blk_ext [iblk, V, ht]

theorem sc_apply (t : Fin cfg0.N) (d : Fin 1024) : (show Vec Ideal S1x1024 .f32 from iblk m c 3 t) (ix2 (0 : Fin 1) d)
    = m ((c : Thread nD τ).loc main_arg3) (ix2 (0 : Fin 1) d) := by
  have ht := idx t
  blk_ext [iblk, V, ht]

theorem sh_apply (t : Fin cfg0.N) (d : Fin 1024) : (show Vec Ideal S1x1024 .f32 from iblk m c 4 t) (ix2 (0 : Fin 1) d)
    = m ((c : Thread nD τ).loc main_arg4) (ix2 (0 : Fin 1) d) := by
  have ht := idx t
  blk_ext [iblk, V, ht]

theorem ga_apply (t : Fin cfg0.N) (d : Fin 1024) : (show Vec Ideal S1x1024 .f32 from iblk m c 5 t) (ix2 (0 : Fin 1) d)
    = m ((c : Thread nD τ).loc main_arg5) (ix2 (0 : Fin 1) d) := by
  have ht := idx t
  blk_ext [iblk, V, ht]

theorem fn_apply (t : Fin cfg0.N) (d : Fin 1024) : (show Vec Ideal S1x1024 .f32 from iblk m c 6 t) (ix2 (0 : Fin 1) d)
    = m ((c : Thread nD τ).loc main_arg6) (ix2 (0 : Fin 1) d) := by
  have ht := idx t
  blk_ext [iblk, V, ht]

/-- A row of a point's blocks is that row of the arguments. -/
theorem row_eq (t : Fin cfg0.N) (r : Fin 256) :
    blockRow (iblk m c 0 t) (iblk m c 1 t) (iblk m c 2 t) (iblk m c 3 t) (iblk m c 4 t) (iblk m c 5 t) (iblk m c 6 t)
      (upM m c) (downM m c) r = argRow m c (at_ t r) := by
  unfold blockRow argRow
  congr 1
  · funext d; exact x_apply m c t r d
  · funext d; exact t_apply m c t r d
  · funext d; exact n_apply m c t d
  · funext d; exact sc_apply m c t d
  · funext d; exact sh_apply m c t d
  · funext d; exact ga_apply m c t d
  · funext d; exact fn_apply m c t d
  · funext j d; exact upM_apply m c j d
  · funext j d; exact downM_apply m c j d

theorem final_grad : (dats m 0 c).arrAt 7 (cfgs 0).N = fun y => (argRow m c (y 0)).grad (y 1) := by
  refine (dats m 0 c).arrAt_eq_of_covers 7 _ (by decide +kernel) fun t hf y => ?_
  have ht := idx t
  blk_simp
  rw [after_7]
  obtain ⟨r, d, rfl⟩ : ∃ (r : Fin 256) (d : Fin 1024), ix2 r d = y :=
    ⟨y 0, y 1, by funext i; match i with | 0 => rfl | 1 => rfl⟩
  have e : (win0_7.blk t).view.emb (ix2 r d) = ix2 (at_ t r) d := by
    blk_point [ht, at_]
  refine Eq.trans ?_ (congrArg (fun z : S8192x1024.Idx => (argRow m c (z 0)).grad (z 1)) e).symm
  refine (b_grad (iblk m c 0 t) (iblk m c 1 t) (iblk m c 2 t) (iblk m c 3 t) (iblk m c 4 t) (iblk m c 5 t) (iblk m c 6 t)
    (upM m c) (downM m c) r d).trans ?_
  rw [row_eq]
  rfl

theorem final_hid : (dats m 0 c).arrAt 8 (cfgs 0).N = fun y => (argRow m c (y 0)).hid (y 1) := by
  refine (dats m 0 c).arrAt_eq_of_covers 8 _ (by decide +kernel) fun t hf y => ?_
  have ht := idx t
  blk_simp
  rw [after_8]
  obtain ⟨r, d, rfl⟩ : ∃ (r : Fin 256) (d : Fin 1024), ix2 r d = y :=
    ⟨y 0, y 1, by funext i; match i with | 0 => rfl | 1 => rfl⟩
  have e : (win0_8.blk t).view.emb (ix2 r d) = ix2 (at_ t r) d := by
    blk_point [ht, at_]
  refine Eq.trans ?_ (congrArg (fun z : S8192x1024.Idx => (argRow m c (z 0)).hid (z 1)) e).symm
  refine (b_hid (iblk m c 0 t) (iblk m c 1 t) (iblk m c 2 t) (iblk m c 3 t) (iblk m c 4 t) (iblk m c 5 t) (iblk m c 6 t)
    (upM m c) (downM m c) r d).trans ?_
  rw [row_eq]
  rfl

theorem final_dgu : (dats m 0 c).arrAt 9 (cfgs 0).N = fun y => (argRow m c (y 0)).dgu (y 1) := by
  refine (dats m 0 c).arrAt_eq_of_covers 9 _ (by decide +kernel) fun t hf y => ?_
  have ht := idx t
  blk_simp
  rw [after_9]
  obtain ⟨r, d, rfl⟩ : ∃ (r : Fin 256) (d : Fin 5632), ix2 r d = y :=
    ⟨y 0, y 1, by funext i; match i with | 0 => rfl | 1 => rfl⟩
  have e : (win0_9.blk t).view.emb (ix2 r d) = ix2 (at_ t r) d := by
    blk_point [ht, at_]
  refine Eq.trans ?_ (congrArg (fun z : S8192x5632.Idx => (argRow m c (z 0)).dgu (z 1)) e).symm
  refine (b_dgu (iblk m c 0 t) (iblk m c 1 t) (iblk m c 2 t) (iblk m c 3 t) (iblk m c 4 t) (iblk m c 5 t) (iblk m c 6 t)
    (upM m c) (downM m c) r d).trans ?_
  rw [row_eq]
  rfl

theorem final_act : (dats m 0 c).arrAt 10 (cfgs 0).N = fun y => (argRow m c (y 0)).act (y 1) := by
  refine (dats m 0 c).arrAt_eq_of_covers 10 _ (by decide +kernel) fun t hf y => ?_
  have ht := idx t
  blk_simp
  rw [after_10]
  obtain ⟨r, d, rfl⟩ : ∃ (r : Fin 256) (d : Fin 2816), ix2 r d = y :=
    ⟨y 0, y 1, by funext i; match i with | 0 => rfl | 1 => rfl⟩
  have e : (win0_10.blk t).view.emb (ix2 r d) = ix2 (at_ t r) d := by
    blk_point [ht, at_]
  refine Eq.trans ?_ (congrArg (fun z : S8192x2816.Idx => (argRow m c (z 0)).act (z 1)) e).symm
  refine (b_act (iblk m c 0 t) (iblk m c 1 t) (iblk m c 2 t) (iblk m c 3 t) (iblk m c 4 t) (iblk m c 5 t) (iblk m c 6 t)
    (upM m c) (downM m c) r d).trans ?_
  rw [row_eq]
  rfl

theorem final_dmlp : (dats m 0 c).arrAt 11 (cfgs 0).N = fun y => (argRow m c (y 0)).dmlp (y 1) := by
  refine (dats m 0 c).arrAt_eq_of_covers 11 _ (by decide +kernel) fun t hf y => ?_
  have ht := idx t
  blk_simp
  rw [after_11]
  obtain ⟨r, d, rfl⟩ : ∃ (r : Fin 256) (d : Fin 1024), ix2 r d = y :=
    ⟨y 0, y 1, by funext i; match i with | 0 => rfl | 1 => rfl⟩
  have e : (win0_11.blk t).view.emb (ix2 r d) = ix2 (at_ t r) d := by
    blk_point [ht, at_]
  refine Eq.trans ?_ (congrArg (fun z : S8192x1024.Idx => (argRow m c (z 0)).dmlp (z 1)) e).symm
  refine (b_dmlp (iblk m c 0 t) (iblk m c 1 t) (iblk m c 2 t) (iblk m c 3 t) (iblk m c 4 t) (iblk m c 5 t) (iblk m c 6 t)
    (upM m c) (downM m c) r d).trans ?_
  rw [row_eq]
  rfl

/-- The zero block. -/
theorem zero_apply (y : S8x1024.Idx) : k0_pay6 (F := Ideal) y = (0 : EReal) := by
  obtain ⟨q, d, rfl⟩ : ∃ (q : Fin 8) (d : Fin 1024), ix2 q d = y :=
    ⟨y 0, y 1, by funext i; match i with | 0 => rfl | 1 => rfl⟩
  pointwise [k0_pay6]

/-- A point's step on the accumulated block. -/
theorem accPt_apply (t : Fin cfg0.N) (old : Vec Ideal S8x1024 .f32) (y : S8x1024.Idx) :
    accPt m c t old y = old y + rowOf (iblk m c 0 t) (iblk m c 1 t) (iblk m c 2 t) (iblk m c 3 t) (iblk m c 4 t) (iblk m c 5 t) (iblk m c 6 t)
      (upM m c) (downM m c) (y 0) (y 1) := by
  obtain ⟨q, d, rfl⟩ : ∃ (q : Fin 8) (d : Fin 1024), ix2 q d = y :=
    ⟨y 0, y 1, by funext i; match i with | 0 => rfl | 1 => rfl⟩
  exact accB_apply _ _ _ _ _ _ _ _ _ old q d

/-- After the last point the block holds every row's parts. -/
theorem acc_last (hr : ∀ i, (argRow m c i).Real) (t : Fin cfg0.N) (ht : t.val + 1 = cfg0.N) (y : S8x1024.Idx) :
    accAt m c t.val t.isLt y = ∑ i, (argRow m c i).part (y 0) (y 1) := by
  rw [Pipeline.eq_sum_fin_of_reset_step_apply_last (fun n h => accAt m c n h) 32 (fun _ => (0 : EReal))
    (fun t y => rowOf (iblk m c 0 t) (iblk m c 1 t) (iblk m c 2 t) (iblk m c 3 t) (iblk m c 4 t) (iblk m c 5 t) (iblk m c 6 t)
      (upM m c) (downM m c) (y 0) (y 1))
    (fun t h y => by rw [accAt_first m c t h, accPt_apply, zero_apply])
    (fun t h y => by rw [accAt_later m c t h, accPt_apply])
    (le_of_eq N_0) t ht y, zero_add]
  have e (t : Fin cfg0.N) : rowOf (iblk m c 0 t) (iblk m c 1 t) (iblk m c 2 t) (iblk m c 3 t) (iblk m c 4 t) (iblk m c 5 t) (iblk m c 6 t)
      (upM m c) (downM m c) (y 0) (y 1) = ∑ r, (argRow m c (at_ t r)).part (y 0) (y 1) := by
    refine (rowOf_eq _ _ _ _ _ _ _ _ _ (fun r => ?_) (y 0) (y 1)).trans ?_
    · rw [row_eq]; exact hr _
    · exact Finset.sum_congr rfl fun r _ => by rw [row_eq]
  refine (Finset.sum_congr rfl fun t _ => e t).trans ?_
  refine Fin.sum_mul_add_congr (L := 8192) (S := cfg0.N) (n := 256) (fun t r hl => ?_) (by rw [show cfg0.N = 32 from N_0])
  have : at_ t r = ⟨t.val * 256 + r.val, hl⟩ := Fin.ext (show 256 * t.val + r.val = t.val * 256 + r.val by omega)
  rw [this]

/-- The small array after the run. -/
theorem final_acc (hr : ∀ i, (argRow m c i).Real) :
    (dats m 0 c).arrAt 12 (cfgs 0).N = fun y => ∑ i, (argRow m c i).part (y 0) (y 1) := by
  refine (dats m 0 c).arrAt_eq_of_covers 12 _ (by decide +kernel) fun t hf y => ?_
  have ht := idx t
  have hl := (flush0_12 t).mp hf
  blk_simp
  rw [after_12]
  obtain ⟨q, d, rfl⟩ : ∃ (q : Fin 8) (d : Fin 1024), ix2 q d = y :=
    ⟨y 0, y 1, by funext i; match i with | 0 => rfl | 1 => rfl⟩
  have e : (win0_12.blk t).view.emb (ix2 q d) = ix2 q d := by
    blk_point [ht]
  refine Eq.trans ?_ (congrArg (fun z : S8x1024.Idx => ∑ i, (argRow m c i).part (z 0) (z 1)) e).symm
  exact acc_last m c hr t (by have := lt32 t; have : cfg0.N = 32 := N_0; omega) (ix2 q d)

end Cert.KernelIdeal.Mlp

end
-- ==== Proof.MlpFinite.lean ====
/- What the precondition says: every entry of every argument is a finite number, so every row of data the feed-forward
   half reads is real. -/
module

public import proofs.«01_k».proof.Proof.MlpReal
public import proofs.«01_k».proof.Pre_finite
public import Idealize.ShloMosaic.Lib.ReduceAll

@[expose] public section

noncomputable section

namespace Cert.Ffn

open Idealize.ShloMosaic
open Cert.Pre_finite Cert.Pre_finite.Facts

/-- An extended real whose absolute value is under the word of +∞ is a real number. -/
theorem IsReal.of_abs {a : EReal} (h : FloatOps.cmpf (F := Ideal) (φ := .f32) .olt (FloatOps.absf (F := Ideal) (φ := .f32) a)
    (Scalar.ofBits (F := Ideal) .f32 0x7F800000#32) = 1#1) : IsReal a := by
  have hw : Scalar.ofBits (F := Ideal) .f32 0x7F800000#32 = (⊤ : EReal) := by
    simp [Scalar.ofBits, FloatOps.ofBits, Ideal.ofBits, Ideal.ieee]
  rw [hw, Ideal.cmpf_def, Ideal.absf_def] at h
  have hlt : max a (-a) < ⊤ := by
    by_contra hn
    simp [Ideal.cmp, hn] at h
  induction a with
  | coe r => exact ⟨r, rfl⟩
  | bot => simp at hlt
  | top => simp at hlt

/-- One argument's clause of the predicate, read at an entry. -/
theorem IsReal.of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (e : Host.reduce IntOp.andi (cmpf .olt (Host.absf x)
      (broadcastInDim s ![] hb (constant (F := Ideal) ⟨0, ![]⟩ .f32 0x7F800000#32))) (constantI ⟨0, ![]⟩ 1 1#1) hr hu j = 1#1) (i : s.Idx) :
    IsReal (x i) :=
  IsReal.of_abs (Host.reduce_andi_all _ _ hr hu j e i)

variable [Cert.Pre_finite.Facts]

/-- The precondition, argument by argument. -/
theorem reals {a0 a1 : FVec Ideal S8192x1024 .f32} {a2 a3 a4 a5 a6 : FVec Ideal S1x1024 .f32}
    {a7 : FVec Ideal S1024x5632 .f32} {a8 : FVec Ideal S2816x1024 .f32}
    (h : Cert.Pre_finite.fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) := by
  have e := congrFun h (Shape.Idx.first h_S_)
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨IsReal.of_all a0 _ _ _ _ e0, IsReal.of_all a1 _ _ _ _ e1, IsReal.of_all a2 _ _ _ _ e2, IsReal.of_all a3 _ _ _ _ e3,
    IsReal.of_all a4 _ _ _ _ e4, IsReal.of_all a5 _ _ _ _ e5, IsReal.of_all a6 _ _ _ _ e6, IsReal.of_all a7 _ _ _ _ e7,
    IsReal.of_all a8 _ _ _ _ e8⟩

end Cert.Ffn

end
-- ==== Proof.MlpRead.lean ====
/- The feed-forward kernel's run, its six results read as the rows' mathematics. -/
module

public import proofs.«01_k».proof.Proof.MlpValue
public import proofs.«01_k».proof.Proof.MlpFinite

@[expose] public section

noncomputable section

namespace Cert.KernelIdeal.Mlp

open Idealize.ShloMosaic Idealize.ShloMosaic.TcCoe Idealize.SL.Sem
open Idealize.ShloMosaic.Pipeline (Dat)
open Cert.KernelIdeal.Gen Cert.Ffn

variable (m : (ℓ : Loc nD τ sig) → Buf (Elt Ideal) ℓ) (ρ : Dev nD → PrngReg)

/-- The run: every result is what the rows' mathematics says, and every argument ends as it began. -/
theorem read (hr : ∀ c i, (argRow m c i).Real) :
    θ_run defs (onTc (τ := τ) (main (F := Ideal))) ⟨m, fun _ => 0, ρ⟩ fun r => ∀ c : Dev nD,
      r.2.mem ((c : Thread nD τ).loc main_v10_0) = (fun y => (argRow m c (y 0)).grad (y 1))
      ∧ r.2.mem ((c : Thread nD τ).loc main_v10_1) = (fun y => (argRow m c (y 0)).hid (y 1))
      ∧ r.2.mem ((c : Thread nD τ).loc main_v10_2) = (fun y => (argRow m c (y 0)).dgu (y 1))
      ∧ r.2.mem ((c : Thread nD τ).loc main_v10_3) = (fun y => (argRow m c (y 0)).act (y 1))
      ∧ r.2.mem ((c : Thread nD τ).loc main_v10_4) = (fun y => (argRow m c (y 0)).dmlp (y 1))
      ∧ r.2.mem ((c : Thread nD τ).loc main_v10_5) = (fun y => ∑ i, (argRow m c i).part (y 0) (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h.1 c).1 7).trans (final_grad m c), ((h.1 c).1 8).trans (final_hid m c),
      ((h.1 c).1 9).trans (final_dgu m c), ((h.1 c).1 10).trans (final_act m c), ((h.1 c).1 11).trans (final_dmlp m c),
      ((h.1 c).1 12).trans (final_acc m c (hr c)), h.2 c⟩)
    (θ_run_and (ran m ρ) (frame_of m ρ (dats m) (arrays_eq m) (ran m ρ)))

end Cert.KernelIdeal.Mlp

end
-- ==== Proof.MlpRef.lean ====
/- The reference, row by row: every buffer of it read at row `i` is the row's mathematics of MlpMath. -/
module

public import proofs.«01_k».proof.Proof.MlpReal
public import proofs.«01_k».proof.Proof.Gen.ReferenceIdeal.Read
public import Idealize.ShloMosaic.Lib.Pointwise

@[expose] public section

set_option maxRecDepth 16384

noncomputable section

namespace Cert.ReferenceIdeal.Rows

open Idealize.ShloMosaic
open Cert.ReferenceIdeal.Read Cert.Ffn

variable (x0 x1 : Vec Ideal S8192x1024 .f32) (x2 x3 x4 x5 x6 : Vec Ideal S1x1024 .f32) (x7 : Vec Ideal S1024x5632 .f32)
  (x8 : Vec Ideal S2816x1024 .f32) (i : Fin 8192)

/-- Row `i` of the reference's arguments. -/
def row : Row where
  x d := x0 (ix2 i d)
  t d := x1 (ix2 i d)
  n d := x2 (ix2 (0 : Fin 1) d)
  sc d := x3 (ix2 (0 : Fin 1) d)
  sh d := x4 (ix2 (0 : Fin 1) d)
  ga d := x5 (ix2 (0 : Fin 1) d)
  fn d := x6 (ix2 (0 : Fin 1) d)
  U j d := x7 (ix2 d j)
  D j d := x8 (ix2 j d)

/-- Division by 1024 is multiplication by the word of 1/1024. -/
theorem div1024 (a : EReal) : Ideal.div a (Ideal.ofBits .f32 0x44800000#32) = a * inv1024 := by
  have h : Ideal.ofBits .f32 0x44800000#32 = ((1024 : ℝ) : EReal) := by
    simp [Ideal.ofBits, Ideal.ieee, -EReal.coe_mul]; norm_num
  have h' : inv1024 = (((1024 : ℝ)⁻¹ : ℝ) : EReal) := by
    simp [inv1024, Ideal.ofBits, Ideal.ieee, -EReal.coe_mul]; norm_num
  rw [h, h', Ideal.div_coe (by norm_num)]; norm_num

/-- Half of 1/1024 is the word of 1/2048. -/
theorem seed : Ideal.div (Ideal.ofBits .f32 0x3F000000#32) (Ideal.ofBits .f32 0x44800000#32) = inv2048 := by
  rw [div1024, inv1024, inv2048]
  simp [Ideal.ofBits, Ideal.ieee, -EReal.coe_mul]
  rw [← EReal.coe_mul]; norm_num

theorem r_v6 :
    val_main_v6 (F := Ideal) x0 (ix2 i (0 : Fin 1)) = msq (row x0 x1 x2 x3 x4 x5 x6 x7 x8 i).x := by
  pointwise [val_main_v6, val_main_v5, val_main_v4, val_main_v3, val_main_v2, val_main_v1, val_main_v0, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [div1024]; rfl

theorem r_v7 :
    val_main_v7 (F := Ideal) x0 (ix2 i (0 : Fin 1)) = root (row x0 x1 x2 x3 x4 x5 x6 x7 x8 i).x := by
  pointwise [val_main_v7, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v6 x0 x1 x2 x3 x4 x5 x6 x7 x8]; rfl

theorem r_v10 :
    val_main_v10 (F := Ideal) x0 (ix2 i (0 : Fin 1)) = slope (row x0 x1 x2 x3 x4 x5 x6 x7 x8 i).x := by
  pointwise [val_main_v10, val_main_v9, val_main_v8, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v6 x0 x1 x2 x3 x4 x5 x6 x7 x8, r_v7 x0 x1 x2 x3 x4 x5 x6 x7 x8]; rfl

theorem r_v12 (d : Fin 1024) :
    val_main_v12 (F := Ideal) x0 (ix2 i d) = (row x0 x1 x2 x3 x4 x5 x6 x7 x8 i).normed d := by
  pointwise [val_main_v12, val_main_v11, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v7 x0 x1 x2 x3 x4 x5 x6 x7 x8]; rfl

theorem r_v14 (d : Fin 1024) :
    val_main_v14 (F := Ideal) x0 x2 (ix2 i d) = (row x0 x1 x2 x3 x4 x5 x6 x7 x8 i).weighted d := by
  pointwise [val_main_v14, val_main_v13, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v12 x0 x1 x2 x3 x4 x5 x6 x7 x8]; rfl

theorem r_v16 (d : Fin 1024) :
    val_main_v16 (F := Ideal) x3 (ix2 (0 : Fin 1) d) = (row x0 x1 x2 x3 x4 x5 x6 x7 x8 i).scale d := by
  pointwise [val_main_v16, val_main_v15, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rfl

theorem r_v20 (d : Fin 1024) :
    val_main_v20 (F := Ideal) x0 x2 x3 x4 (ix2 i d) = (row x0 x1 x2 x3 x4 x5 x6 x7 x8 i).hid d := by
  pointwise [val_main_v20, val_main_v19, val_main_v18, val_main_v17, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v14 x0 x1 x2 x3 x4 x5 x6 x7 x8, r_v16 x0 x1 x2 x3 x4 x5 x6 x7 x8]; rfl

theorem r_v21 (j : Fin 5632) :
    val_main_v21 (F := Ideal) x0 x2 x3 x4 x7 (ix2 i j) = (row x0 x1 x2 x3 x4 x5 x6 x7 x8 i).gu j := by
  pointwise [val_main_v21, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  simp only [r_v20 x0 x1 x2 x3 x4 x5 x6 x7 x8]; rfl

theorem r_v22 (j : Fin 2816) :
    val_main_v22 (F := Ideal) x0 x2 x3 x4 x7 (ix2 i j) = (row x0 x1 x2 x3 x4 x5 x6 x7 x8 i).gu (lo j) := by
  pointwise [val_main_v22, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  exact r_v21 x0 x1 x2 x3 x4 x5 x6 x7 x8 _ _

theorem r_v24 (j : Fin 2816) :
    val_main_v24 (F := Ideal) x0 x2 x3 x4 x7 (ix2 i j) = (row x0 x1 x2 x3 x4 x5 x6 x7 x8 i).gu (hi j) := by
  pointwise [val_main_v24, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  exact r_v21 x0 x1 x2 x3 x4 x5 x6 x7 x8 _ _

theorem r_v23_2 (j : Fin 2816) :
    val_main_v23_2 (F := Ideal) x0 x2 x3 x4 x7 (ix2 i j) = (row x0 x1 x2 x3 x4 x5 x6 x7 x8 i).sg j := by
  pointwise [val_main_v23_2, val_main_call0_v4, val_main_call0_v3, val_main_call0_v2, val_main_call0_v1, val_main_call0_v0, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v22 x0 x1 x2 x3 x4 x5 x6 x7 x8]; rfl

theorem r_v23_1 (j : Fin 2816) :
    val_main_v23_1 (F := Ideal) x0 x2 x3 x4 x7 (ix2 i j) = (row x0 x1 x2 x3 x4 x5 x6 x7 x8 i).sg j * (1 - (row x0 x1 x2 x3 x4 x5 x6 x7 x8 i).sg j) := by
  pointwise [val_main_v23_1, val_main_call0_v7, val_main_call0_v6, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v23_2 x0 x1 x2 x3 x4 x5 x6 x7 x8]

theorem r_v23_0 (j : Fin 2816) :
    val_main_v23_0 (F := Ideal) x0 x2 x3 x4 x7 (ix2 i j) = (row x0 x1 x2 x3 x4 x5 x6 x7 x8 i).silu j := by
  pointwise [val_main_v23_0, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v22 x0 x1 x2 x3 x4 x5 x6 x7 x8, r_v23_2 x0 x1 x2 x3 x4 x5 x6 x7 x8]; rfl

theorem r_v25 (j : Fin 2816) :
    val_main_v25 (F := Ideal) x0 x2 x3 x4 x7 (ix2 i j) = (row x0 x1 x2 x3 x4 x5 x6 x7 x8 i).act j := by
  pointwise [val_main_v25, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v23_0 x0 x1 x2 x3 x4 x5 x6 x7 x8, r_v24 x0 x1 x2 x3 x4 x5 x6 x7 x8]; rfl

theorem r_v26 (d : Fin 1024) :
    val_main_v26 (F := Ideal) x0 x2 x3 x4 x7 x8 (ix2 i d) = (row x0 x1 x2 x3 x4 x5 x6 x7 x8 i).mlp d := by
  pointwise [val_main_v26, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  simp only [r_v25 x0 x1 x2 x3 x4 x5 x6 x7 x8]; rfl

theorem r_v29 (d : Fin 1024) :
    val_main_v29 (F := Ideal) x0 x2 x3 x4 x5 x7 x8 (ix2 i d) = (row x0 x1 x2 x3 x4 x5 x6 x7 x8 i).res d := by
  pointwise [val_main_v29, val_main_v28, val_main_v27, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v26 x0 x1 x2 x3 x4 x5 x6 x7 x8]; rfl

theorem r_v36 :
    val_main_v36 (F := Ideal) x0 x2 x3 x4 x5 x7 x8 (ix2 i (0 : Fin 1)) = msq (row x0 x1 x2 x3 x4 x5 x6 x7 x8 i).res := by
  pointwise [val_main_v36, val_main_v35, val_main_v34, val_main_v33, val_main_v32, val_main_v31, val_main_v30, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  simp only [r_v29 x0 x1 x2 x3 x4 x5 x6 x7 x8]; rw [div1024]; rfl

theorem r_v37 :
    val_main_v37 (F := Ideal) x0 x2 x3 x4 x5 x7 x8 (ix2 i (0 : Fin 1)) = root (row x0 x1 x2 x3 x4 x5 x6 x7 x8 i).res := by
  pointwise [val_main_v37, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v36 x0 x1 x2 x3 x4 x5 x6 x7 x8]; rfl

theorem r_v40 :
    val_main_v40 (F := Ideal) x0 x2 x3 x4 x5 x7 x8 (ix2 i (0 : Fin 1)) = slope (row x0 x1 x2 x3 x4 x5 x6 x7 x8 i).res := by
  pointwise [val_main_v40, val_main_v39, val_main_v38, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v36 x0 x1 x2 x3 x4 x5 x6 x7 x8, r_v37 x0 x1 x2 x3 x4 x5 x6 x7 x8]; rfl

theorem r_v42 (d : Fin 1024) :
    val_main_v42 (F := Ideal) x0 x2 x3 x4 x5 x7 x8 (ix2 i d) = (row x0 x1 x2 x3 x4 x5 x6 x7 x8 i).resNormed d := by
  pointwise [val_main_v42, val_main_v41, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v29 x0 x1 x2 x3 x4 x5 x6 x7 x8, r_v37 x0 x1 x2 x3 x4 x5 x6 x7 x8]; rfl

theorem r_v45 (d : Fin 1024) :
    val_main_v45 (F := Ideal) x0 x1 x2 x3 x4 x5 x6 x7 x8 (ix2 i d) = (row x0 x1 x2 x3 x4 x5 x6 x7 x8 i).err d := by
  pointwise [val_main_v45, val_main_v44, val_main_v43, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v42 x0 x1 x2 x3 x4 x5 x6 x7 x8]; rfl

theorem r_v59 (d : Fin 1024) :
    val_main_v59 (F := Ideal) x0 x1 x2 x3 x4 x5 x6 x7 x8 (ix2 i d) = (row x0 x1 x2 x3 x4 x5 x6 x7 x8 i).dout d := by
  pointwise [val_main_v59, val_main_v58, val_main_v57, val_main_v56, val_main_v55, val_main_v54, val_main_v48, val_main_v47, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v45 x0 x1 x2 x3 x4 x5 x6 x7 x8, seed]; rfl

theorem r_v64 (d : Fin 1024) :
    val_main_v64 (F := Ideal) x0 x1 x2 x3 x4 x5 x6 x7 x8 (ix2 i d) = (row x0 x1 x2 x3 x4 x5 x6 x7 x8 i).dfin d := by
  pointwise [val_main_v64, val_main_v63, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v59 x0 x1 x2 x3 x4 x5 x6 x7 x8]; rfl

theorem r_v74 (d : Fin 1024) :
    val_main_v74 (F := Ideal) x0 x1 x2 x3 x4 x5 x6 x7 x8 (ix2 i d) = through (row x0 x1 x2 x3 x4 x5 x6 x7 x8 i).res (row x0 x1 x2 x3 x4 x5 x6 x7 x8 i).dfin := by
  pointwise [val_main_v74, val_main_v73, val_main_v72, val_main_v71, val_main_v70, val_main_v67, val_main_v66, val_main_v65, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  simp only [Fin.sum_univ_one, r_v29 x0 x1 x2 x3 x4 x5 x6 x7 x8, r_v64 x0 x1 x2 x3 x4 x5 x6 x7 x8, r_v40 x0 x1 x2 x3 x4 x5 x6 x7 x8]; rw [div1024]; rfl

theorem r_v78 (d : Fin 1024) :
    val_main_v78 (F := Ideal) x0 x1 x2 x3 x4 x5 x6 x7 x8 (ix2 i d) = (row x0 x1 x2 x3 x4 x5 x6 x7 x8 i).dres d := by
  pointwise [val_main_v78, val_main_v77, val_main_v76, val_main_v75, val_main_v69, val_main_v68, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v64 x0 x1 x2 x3 x4 x5 x6 x7 x8, r_v37 x0 x1 x2 x3 x4 x5 x6 x7 x8, r_v29 x0 x1 x2 x3 x4 x5 x6 x7 x8, r_v74 x0 x1 x2 x3 x4 x5 x6 x7 x8]; rfl

theorem r_v80 (d : Fin 1024) :
    val_main_v80 (F := Ideal) x0 x1 x2 x3 x4 x5 x6 x7 x8 (ix2 i d) = (row x0 x1 x2 x3 x4 x5 x6 x7 x8 i).dmlp d := by
  pointwise [val_main_v80, val_main_v79, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v78 x0 x1 x2 x3 x4 x5 x6 x7 x8]; exact mul_comm _ _

theorem r_v84 (j : Fin 2816) :
    val_main_v84 (F := Ideal) x0 x1 x2 x3 x4 x5 x6 x7 x8 (ix2 i j) = (row x0 x1 x2 x3 x4 x5 x6 x7 x8 i).dact j := by
  pointwise [val_main_v84, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  simp only [r_v80 x0 x1 x2 x3 x4 x5 x6 x7 x8]; rfl

theorem r_v88 (j : Fin 2816) :
    val_main_v88 (F := Ideal) x0 x1 x2 x3 x4 x5 x6 x7 x8 (ix2 i j) = (row x0 x1 x2 x3 x4 x5 x6 x7 x8 i).dact j * (row x0 x1 x2 x3 x4 x5 x6 x7 x8 i).gu (hi j) * (row x0 x1 x2 x3 x4 x5 x6 x7 x8 i).sg j + (row x0 x1 x2 x3 x4 x5 x6 x7 x8 i).gu (lo j) * ((row x0 x1 x2 x3 x4 x5 x6 x7 x8 i).dact j * (row x0 x1 x2 x3 x4 x5 x6 x7 x8 i).gu (hi j)) * ((row x0 x1 x2 x3 x4 x5 x6 x7 x8 i).sg j * (1 - (row x0 x1 x2 x3 x4 x5 x6 x7 x8 i).sg j)) := by
  pointwise [val_main_v88, val_main_call1_v2, val_main_call1_v1, val_main_call1_v0, val_main_v86, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v84 x0 x1 x2 x3 x4 x5 x6 x7 x8, r_v24 x0 x1 x2 x3 x4 x5 x6 x7 x8, r_v23_2 x0 x1 x2 x3 x4 x5 x6 x7 x8, r_v22 x0 x1 x2 x3 x4 x5 x6 x7 x8, r_v23_1 x0 x1 x2 x3 x4 x5 x6 x7 x8]

theorem r_v85 (j : Fin 2816) :
    val_main_v85 (F := Ideal) x0 x1 x2 x3 x4 x5 x6 x7 x8 (ix2 i j) = (row x0 x1 x2 x3 x4 x5 x6 x7 x8 i).dup j := by
  pointwise [val_main_v85, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v23_0 x0 x1 x2 x3 x4 x5 x6 x7 x8, r_v84 x0 x1 x2 x3 x4 x5 x6 x7 x8]; exact mul_comm _ _

theorem r_v90 (h : (row x0 x1 x2 x3 x4 x5 x6 x7 x8 i).Real) (j : Fin 5632) :
    val_main_v90 (F := Ideal) x0 x1 x2 x3 x4 x5 x6 x7 x8 (ix2 i j) = (row x0 x1 x2 x3 x4 x5 x6 x7 x8 i).dgu j := by
  pointwise [val_main_v90, val_main_v87, val_main_v89, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  unfold Row.dgu
  by_cases hj : j.val < 2816
  · rw [dif_neg (by omega), dif_pos hj, dif_pos hj, zero_add, r_v88 x0 x1 x2 x3 x4 x5 x6 x7 x8]
    exact h.dgate_eq _
  · rw [dif_pos ⟨by omega, by omega⟩, dif_neg hj, dif_neg hj, add_zero, r_v85 x0 x1 x2 x3 x4 x5 x6 x7 x8]

theorem r_v91 (h : (row x0 x1 x2 x3 x4 x5 x6 x7 x8 i).Real) (d : Fin 1024) :
    val_main_v91 (F := Ideal) x0 x1 x2 x3 x4 x5 x6 x7 x8 (ix2 i d) = (row x0 x1 x2 x3 x4 x5 x6 x7 x8 i).dhid d := by
  pointwise [val_main_v91, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  simp only [r_v90 x0 x1 x2 x3 x4 x5 x6 x7 x8 i h]; rfl

theorem r_v98 (h : (row x0 x1 x2 x3 x4 x5 x6 x7 x8 i).Real) (d : Fin 1024) :
    val_main_v98 (F := Ideal) x0 x1 x2 x3 x4 x5 x6 x7 x8 (ix2 i d) = (row x0 x1 x2 x3 x4 x5 x6 x7 x8 i).dscaled d := by
  pointwise [val_main_v98, val_main_v97, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v91 x0 x1 x2 x3 x4 x5 x6 x7 x8 i h, r_v16 x0 x1 x2 x3 x4 x5 x6 x7 x8]; rfl

theorem r_v103 (h : (row x0 x1 x2 x3 x4 x5 x6 x7 x8 i).Real) (d : Fin 1024) :
    val_main_v103 (F := Ideal) x0 x1 x2 x3 x4 x5 x6 x7 x8 (ix2 i d) = (row x0 x1 x2 x3 x4 x5 x6 x7 x8 i).dnormed d := by
  pointwise [val_main_v103, val_main_v102, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v98 x0 x1 x2 x3 x4 x5 x6 x7 x8 i h]; rfl

theorem r_v113 (h : (row x0 x1 x2 x3 x4 x5 x6 x7 x8 i).Real) (d : Fin 1024) :
    val_main_v113 (F := Ideal) x0 x1 x2 x3 x4 x5 x6 x7 x8 (ix2 i d) = through (row x0 x1 x2 x3 x4 x5 x6 x7 x8 i).x (row x0 x1 x2 x3 x4 x5 x6 x7 x8 i).dnormed := by
  pointwise [val_main_v113, val_main_v112, val_main_v111, val_main_v110, val_main_v109, val_main_v106, val_main_v105, val_main_v104, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  simp only [Fin.sum_univ_one, r_v103 x0 x1 x2 x3 x4 x5 x6 x7 x8 i h, r_v10 x0 x1 x2 x3 x4 x5 x6 x7 x8]; rw [div1024]; rfl

theorem r_v121 (h : (row x0 x1 x2 x3 x4 x5 x6 x7 x8 i).Real) (d : Fin 1024) :
    val_main_v121 (F := Ideal) x0 x1 x2 x3 x4 x5 x6 x7 x8 (ix2 i d) = (row x0 x1 x2 x3 x4 x5 x6 x7 x8 i).grad d := by
  pointwise [val_main_v121, val_main_v117, val_main_v116, val_main_v115, val_main_v114, val_main_v108, val_main_v107, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  rw [r_v78 x0 x1 x2 x3 x4 x5 x6 x7 x8, r_v103 x0 x1 x2 x3 x4 x5 x6 x7 x8 i h, r_v7 x0 x1 x2 x3 x4 x5 x6 x7 x8, r_v113 x0 x1 x2 x3 x4 x5 x6 x7 x8 i h]; rfl

theorem r_v101 (h : ∀ i, (row x0 x1 x2 x3 x4 x5 x6 x7 x8 i).Real) (d : Fin 1024) :
    val_main_v101 (F := Ideal) x0 x1 x2 x3 x4 x5 x6 x7 x8 (ix2 (0 : Fin 1) d) = ∑ i, (row x0 x1 x2 x3 x4 x5 x6 x7 x8 i).normed d * (row x0 x1 x2 x3 x4 x5 x6 x7 x8 i).dscaled d := by
  pointwise [val_main_v101, val_main_v100, val_main_v99, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  simp only [fun i d => r_v12 x0 x1 x2 x3 x4 x5 x6 x7 x8 i d, fun i d => r_v98 x0 x1 x2 x3 x4 x5 x6 x7 x8 i (h i) d]

theorem r_v96 (h : ∀ i, (row x0 x1 x2 x3 x4 x5 x6 x7 x8 i).Real) (d : Fin 1024) :
    val_main_v96 (F := Ideal) x0 x1 x2 x3 x4 x5 x6 x7 x8 (ix2 (0 : Fin 1) d) = ∑ i, (row x0 x1 x2 x3 x4 x5 x6 x7 x8 i).weighted d * (row x0 x1 x2 x3 x4 x5 x6 x7 x8 i).dhid d := by
  pointwise [val_main_v96, val_main_v95, val_main_v94, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  simp only [fun i d => r_v14 x0 x1 x2 x3 x4 x5 x6 x7 x8 i d, fun i d => r_v91 x0 x1 x2 x3 x4 x5 x6 x7 x8 i (h i) d]

theorem r_v93 (h : ∀ i, (row x0 x1 x2 x3 x4 x5 x6 x7 x8 i).Real) (d : Fin 1024) :
    val_main_v93 (F := Ideal) x0 x1 x2 x3 x4 x5 x6 x7 x8 (ix2 (0 : Fin 1) d) = ∑ i, (row x0 x1 x2 x3 x4 x5 x6 x7 x8 i).dhid d := by
  pointwise [val_main_v93, val_main_v92, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  simp only [fun i d => r_v91 x0 x1 x2 x3 x4 x5 x6 x7 x8 i (h i) d]

theorem r_v83 (h : ∀ i, (row x0 x1 x2 x3 x4 x5 x6 x7 x8 i).Real) (d : Fin 1024) :
    val_main_v83 (F := Ideal) x0 x1 x2 x3 x4 x5 x6 x7 x8 (ix2 (0 : Fin 1) d) = ∑ i, (row x0 x1 x2 x3 x4 x5 x6 x7 x8 i).dres d * (row x0 x1 x2 x3 x4 x5 x6 x7 x8 i).mlp d := by
  pointwise [val_main_v83, val_main_v82, val_main_v81, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  simp only [fun i d => r_v78 x0 x1 x2 x3 x4 x5 x6 x7 x8 i d, fun i d => r_v26 x0 x1 x2 x3 x4 x5 x6 x7 x8 i d]

theorem r_v62 (h : ∀ i, (row x0 x1 x2 x3 x4 x5 x6 x7 x8 i).Real) (d : Fin 1024) :
    val_main_v62 (F := Ideal) x0 x1 x2 x3 x4 x5 x6 x7 x8 (ix2 (0 : Fin 1) d) = ∑ i, (row x0 x1 x2 x3 x4 x5 x6 x7 x8 i).resNormed d * (row x0 x1 x2 x3 x4 x5 x6 x7 x8 i).dout d := by
  pointwise [val_main_v62, val_main_v61, val_main_v60, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  simp only [fun i d => r_v42 x0 x1 x2 x3 x4 x5 x6 x7 x8 i d, fun i d => r_v59 x0 x1 x2 x3 x4 x5 x6 x7 x8 i d]

theorem r_v118 (h : ∀ i, (row x0 x1 x2 x3 x4 x5 x6 x7 x8 i).Real) (d : Fin 1024) :
    val_main_v118 (F := Ideal) x0 x1 x2 x3 x4 x5 x6 x7 x8 (ix2 (0 : Fin 1) d) = ∑ i, (row x0 x1 x2 x3 x4 x5 x6 x7 x8 i).sqerr * inv2048 := by
  pointwise [val_main_v118, val_main_v53, val_main_v52, val_main_v51, val_main_v50, val_main_v49, val_main_v46, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  simp only [fun i d => r_v45 x0 x1 x2 x3 x4 x5 x6 x7 x8 i d]
  simp only [div1024]
  exact (sum_inv2048 _ fun i => (h i).sqerr).trans (sum_mul_inv2048 _ fun i => (h i).sqerr)

/-- The small block of sums, row by row. -/
theorem r_v120 (h : ∀ i, (row x0 x1 x2 x3 x4 x5 x6 x7 x8 i).Real) (q : Fin 8) (d : Fin 1024) :
    val_main_v120 (F := Ideal) x0 x1 x2 x3 x4 x5 x6 x7 x8 (ix2 q d) = ∑ i, (row x0 x1 x2 x3 x4 x5 x6 x7 x8 i).part q d := by
  pointwise [val_main_v120, val_main_v119, val_main_cst, val_main_cst_0, val_main_cst_1, val_main_cst_2, val_main_cst_3, val_main_call0_cst, val_main_call0_cst_0, val_main_call0_cst_1, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29]
  obtain ⟨q, hq⟩ := q
  interval_cases q
  · exact r_v101 x0 x1 x2 x3 x4 x5 x6 x7 x8 h d
  · exact r_v96 x0 x1 x2 x3 x4 x5 x6 x7 x8 h d
  · exact r_v93 x0 x1 x2 x3 x4 x5 x6 x7 x8 h d
  · exact r_v83 x0 x1 x2 x3 x4 x5 x6 x7 x8 h d
  · exact r_v62 x0 x1 x2 x3 x4 x5 x6 x7 x8 h d
  · exact r_v118 x0 x1 x2 x3 x4 x5 x6 x7 x8 h d
  · exact (Finset.sum_const_zero).symm
  · exact (Finset.sum_const_zero).symm

end Cert.ReferenceIdeal.Rows

end
-- ==== Proof.MlpRefRead.lean ====
/- The feed-forward reference's six results as whole arrays, read as the rows' mathematics. -/
module

public import proofs.«01_k».proof.Proof.MlpRef
public import proofs.«01_k».proof.Proof.MlpFinite

@[expose] public section

noncomputable section

namespace Cert.ReferenceIdeal.Rows

open Idealize.ShloMosaic Idealize.ShloMosaic.TcCoe Idealize.SL.Sem
open Cert.ReferenceIdeal.Read Cert.Ffn

section Arrays

variable (x0 x1 : Vec Ideal S8192x1024 .f32) (x2 x3 x4 x5 x6 : Vec Ideal S1x1024 .f32) (x7 : Vec Ideal S1024x5632 .f32)
  (x8 : Vec Ideal S2816x1024 .f32)

theorem out_grad (h : ∀ i, (row x0 x1 x2 x3 x4 x5 x6 x7 x8 i).Real) :
    val_main_v121 (F := Ideal) x0 x1 x2 x3 x4 x5 x6 x7 x8 = fun y => (row x0 x1 x2 x3 x4 x5 x6 x7 x8 (y 0)).grad (y 1) :=
  funext fun y => by rw [eq_ix2 y]; exact r_v121 x0 x1 x2 x3 x4 x5 x6 x7 x8 (y 0) (h _) (y 1)

theorem out_hid : val_main_v122 (F := Ideal) x0 x2 x3 x4 = fun y => (row x0 x1 x2 x3 x4 x5 x6 x7 x8 (y 0)).hid (y 1) :=
  funext fun y => by rw [eq_ix2 y]; exact r_v20 x0 x1 x2 x3 x4 x5 x6 x7 x8 (y 0) (y 1)

theorem out_dgu (h : ∀ i, (row x0 x1 x2 x3 x4 x5 x6 x7 x8 i).Real) :
    val_main_v123 (F := Ideal) x0 x1 x2 x3 x4 x5 x6 x7 x8 = fun y => (row x0 x1 x2 x3 x4 x5 x6 x7 x8 (y 0)).dgu (y 1) :=
  funext fun y => by rw [eq_ix2 y]; exact r_v90 x0 x1 x2 x3 x4 x5 x6 x7 x8 (y 0) (h _) (y 1)

theorem out_act : val_main_v124 (F := Ideal) x0 x2 x3 x4 x7 = fun y => (row x0 x1 x2 x3 x4 x5 x6 x7 x8 (y 0)).act (y 1) :=
  funext fun y => by rw [eq_ix2 y]; exact r_v25 x0 x1 x2 x3 x4 x5 x6 x7 x8 (y 0) (y 1)

theorem out_dmlp : val_main_v125 (F := Ideal) x0 x1 x2 x3 x4 x5 x6 x7 x8 = fun y => (row x0 x1 x2 x3 x4 x5 x6 x7 x8 (y 0)).dmlp (y 1) :=
  funext fun y => by rw [eq_ix2 y]; exact r_v80 x0 x1 x2 x3 x4 x5 x6 x7 x8 (y 0) (y 1)

theorem out_acc (h : ∀ i, (row x0 x1 x2 x3 x4 x5 x6 x7 x8 i).Real) :
    val_main_v120 (F := Ideal) x0 x1 x2 x3 x4 x5 x6 x7 x8 = fun y => ∑ i, (row x0 x1 x2 x3 x4 x5 x6 x7 x8 i).part (y 0) (y 1) :=
  funext fun y => by rw [eq_ix2 y]; exact r_v120 x0 x1 x2 x3 x4 x5 x6 x7 x8 h (y 0) (y 1)

end Arrays

variable (m : (ℓ : Loc nD τ sig) → Buf (Elt Ideal) ℓ) (ρ : Dev nD → PrngReg)

/-- The row of data at row `i` of the arguments on device `c`. -/
abbrev argRow (c : Dev nD) (i : Fin 8192) : Row := row
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) i

/-- The run: every result is what the rows' mathematics says, and every argument ends as it began. -/
theorem read (hr : ∀ c i, (argRow m c i).Real) :
    θ_run defs (onTc (τ := τ) (main (F := Ideal))) ⟨m, fun _ => 0, ρ⟩ fun r => ∀ c : Dev nD,
      r.2.mem ((c : Thread nD τ).loc main_v121) = (fun y => (argRow m c (y 0)).grad (y 1))
      ∧ r.2.mem ((c : Thread nD τ).loc main_v122) = (fun y => (argRow m c (y 0)).hid (y 1))
      ∧ r.2.mem ((c : Thread nD τ).loc main_v123) = (fun y => (argRow m c (y 0)).dgu (y 1))
      ∧ r.2.mem ((c : Thread nD τ).loc main_v124) = (fun y => (argRow m c (y 0)).act (y 1))
      ∧ r.2.mem ((c : Thread nD τ).loc main_v125) = (fun y => (argRow m c (y 0)).dmlp (y 1))
      ∧ r.2.mem ((c : Thread nD τ).loc main_v120) = (fun y => ∑ i, (argRow m c i).part (y 0) (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨
      (h c).1.trans ((val_main_v121_eq _).trans (out_grad _ _ _ _ _ _ _ _ _ (hr c))),
      (h c).2.1.trans ((val_main_v122_eq _).trans (out_hid _ (m ((c : Thread nD τ).loc main_arg1)) _ _ _ (m ((c : Thread nD τ).loc main_arg5)) (m ((c : Thread nD τ).loc main_arg6)) (m ((c : Thread nD τ).loc main_arg7)) (m ((c : Thread nD τ).loc main_arg8)))),
      (h c).2.2.1.trans ((val_main_v123_eq _).trans (out_dgu _ _ _ _ _ _ _ _ _ (hr c))),
      (h c).2.2.2.1.trans ((val_main_v124_eq _).trans (out_act _ (m ((c : Thread nD τ).loc main_arg1)) _ _ _ (m ((c : Thread nD τ).loc main_arg5)) (m ((c : Thread nD τ).loc main_arg6)) _ (m ((c : Thread nD τ).loc main_arg8)))),
      (h c).2.2.2.2.1.trans ((val_main_v125_eq _).trans (out_dmlp _ _ _ _ _ _ _ _ _)),
      (h c).2.2.2.2.2.1.trans ((val_main_v120_eq _).trans (out_acc _ _ _ _ _ _ _ _ _ (hr c))),
      (h c).2.2.2.2.2.2⟩) (Cert.ReferenceIdeal.Value.run (F := Ideal) m ρ)

end Cert.ReferenceIdeal.Rows

end
-- ==== Proof.WgradGateUp.lean ====
/- The value of the call that forms the gradient of `w_gate_up`: it walks the four token blocks of 2048 rows, adds the product of
   the block's two operands to an accumulator held in scratch memory, and stores the accumulator at the last block.
   Over the extended reals that is the one product over all 8192 token rows which the reference writes. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ)

/-- The reference's term over the two arguments. -/
abbrev REF (X : FVec Ideal S8192x5632 .bf16) (G : FVec Ideal S8192x1024 .bf16) : FVec Ideal S5632x1024 .bf16 :=
  truncf .bf16 (transpose Cert.Reference2Ideal.S5632x1024 [1, 0] (transpose Cert.Reference2Ideal.S1024x5632 [1, 0] (Host.dotGeneral Cert.Reference2Ideal.dot_S8192x5632_S8192x1024_S5632x1024_0_0_1_1_n_n none (extf .f32 X Cert.Reference2Ideal.Gen.bitsLt_bf16_f32) (extf .f32 G Cert.Reference2Ideal.Gen.bitsLt_bf16_f32)) Cert.Reference2Ideal.Gen.transposes_S5632x1024_S1024x5632_1_0) Cert.Reference2Ideal.Gen.transposes_S1024x5632_S5632x1024_1_0) Cert.Reference2Ideal.Gen.bitsLt_bf16_f32

/-- The windows' block indices at every point: the token block is the point's place in its run, the block of
    weight columns is the run. -/
theorem idx : ∀ t : Fin cfg0.N, win0_0.index t = ![t.val % 4, t.val / 4] ∧ win0_1.index t = ![t.val % 4, 0]
    ∧ win0_2.index t = ![t.val / 4, 0] ∧ t.val / 4 < 4 :=
  (by decide +kernel : ∀ t : Fin grid0.N, _)

/-- One step's payload at an index: the accumulator there plus the block's part of the product. -/
theorem pay_step (x : FVec Ideal S2048x1408 .bf16) (acc : FVec Ideal S1408x1024 .f32) (g : FVec Ideal S2048x1024 .bf16)
    (j : S1408x1024.Idx) :
    k0_pay2 (F := Ideal) x acc g j = acc j + ∑ k : Fin 2048, x (ix2 k (j 0)) * g (ix2 k (j 1)) := by
  pointwise [k0_pay2]

/-- The zero block at an index. -/
theorem pay_zero (j : S1408x1024.Idx) : k0_pay1 (F := Ideal) j = (0 : EReal) := by
  pointwise [k0_pay1]

/-- The accumulator after point `t`: the parts of the points of `t`'s run up to `t`. -/
theorem acc_step (c : Dev nD) (t : Fin cfg0.N) (h : t.val % 4 = 3) (j : S1408x1024.Idx) :
    (outsAt0 m c t.val t.isLt).2 j = (0 : EReal) + ∑ s : Fin 4, ∑ k : Fin 2048,
      (show FVec Ideal S2048x1408 .bf16 from iblk m c 0 ⟨4 * (t.val / 4) + s.val, Pipeline.run_point_lt_of_flush t h s⟩) (ix2 k (j 0))
      * (show FVec Ideal S2048x1024 .bf16 from iblk m c 1 ⟨4 * (t.val / 4) + s.val, Pipeline.run_point_lt_of_flush t h s⟩) (ix2 k (j 1)) := by
  rw [Pipeline.eq_sum_fin_of_reset_step_apply_of_flush (fun n h => (outsAt0 m c n h).2) 4 (fun _ => (0 : EReal))
    (fun p j => ∑ k : Fin 2048, (show FVec Ideal S2048x1408 .bf16 from iblk m c 0 p) (ix2 k (j 0))
      * (show FVec Ideal S2048x1024 .bf16 from iblk m c 1 p) (ix2 k (j 1)))
    (fun t h j => by
      rw [outsAt0_A m c t h (by omega)]; frame_out; rw [pay_step, pay_zero])
    (fun t h j => by
      by_cases h1 : t.val % 4 = 3
      · rw [outsAt0_C m c t h h1]; frame_out; rw [pay_step]; simp only [read_unread_whole]
      · rw [outsAt0_B m c t h h1]; frame_out; rw [pay_step]; simp only [read_unread_whole])
    t h j]

/-- What a writing point stores is its accumulator, rounded: the identity over the extended reals. -/
theorem out_eq (c : Dev nD) (t : Fin cfg0.N) (h : t.val % 4 = 3) (j : S1408x1024.Idx) :
    (outsAt0 m c t.val t.isLt).1 j = (outsAt0 m c t.val t.isLt).2 j := by
  rw [outsAt0_C m c t (by omega) h]; frame_out; pointwise [k0_pay3]

/-- The result array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  rw [acc_step m c t ((flush0_2 t).mp hf) y, zero_add]
  pointwise [REF]
  refine Fin.sum_mul_add_congr fun s k hl => ?_
  have ht := idx t
  have hs := idx ⟨4 * (t.val / 4) + s.val, Pipeline.run_point_lt_of_flush t ((flush0_2 t).mp hf) s⟩
  have e1 : (4 * (t.val / 4) + s.val) % 4 = s.val := by omega
  have e2 : (4 * (t.val / 4) + s.val) / 4 = t.val / 4 := by omega
  dsimp only at hs
  rw [e1, e2] at hs
  congr 1 <;> blk_ext [iblk, V, ht, hs]

end Cert.Kernel2Ideal.Value

end
-- ==== Proof.WgradDown.lean ====
/- The value of the call that forms the gradient of `w_down`: it walks the four token blocks of 2048 rows, adds the product of
   the block's two operands to an accumulator held in scratch memory, and stores the accumulator at the last block.
   Over the extended reals that is the one product over all 8192 token rows which the reference writes. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

variable (m : (ℓ : Loc nD τ sig) → Buf (Elt Ideal) ℓ)

/-- The reference's term over the two arguments. -/
abbrev REF (X : FVec Ideal S8192x2816 .bf16) (G : FVec Ideal S8192x1024 .bf16) : FVec Ideal S2816x1024 .bf16 :=
  truncf .bf16 (transpose Cert.Reference3Ideal.S2816x1024 [1, 0] (Host.dotGeneral Cert.Reference3Ideal.dot_S8192x1024_S8192x2816_S1024x2816_0_0_1_1_n_n none (extf .f32 G Cert.Reference3Ideal.Gen.bitsLt_bf16_f32) (extf .f32 X Cert.Reference3Ideal.Gen.bitsLt_bf16_f32)) Cert.Reference3Ideal.Gen.transposes_S1024x2816_S2816x1024_1_0) Cert.Reference3Ideal.Gen.bitsLt_bf16_f32

/-- The windows' block indices at every point: the token block is the point's place in its run, the block of
    weight columns is the run. -/
theorem idx : ∀ t : Fin cfg0.N, win0_0.index t = ![t.val % 4, t.val / 4] ∧ win0_1.index t = ![t.val % 4, 0]
    ∧ win0_2.index t = ![t.val / 4, 0] ∧ t.val / 4 < 2 :=
  (by decide +kernel : ∀ t : Fin grid0.N, _)

/-- One step's payload at an index: the accumulator there plus the block's part of the product. -/
theorem pay_step (x : FVec Ideal S2048x1408 .bf16) (acc : FVec Ideal S1408x1024 .f32) (g : FVec Ideal S2048x1024 .bf16)
    (j : S1408x1024.Idx) :
    k0_pay2 (F := Ideal) x acc g j = acc j + ∑ k : Fin 2048, x (ix2 k (j 0)) * g (ix2 k (j 1)) := by
  pointwise [k0_pay2]

/-- The zero block at an index. -/
theorem pay_zero (j : S1408x1024.Idx) : k0_pay1 (F := Ideal) j = (0 : EReal) := by
  pointwise [k0_pay1]

/-- The accumulator after point `t`: the parts of the points of `t`'s run up to `t`. -/
theorem acc_step (c : Dev nD) (t : Fin cfg0.N) (h : t.val % 4 = 3) (j : S1408x1024.Idx) :
    (outsAt0 m c t.val t.isLt).2 j = (0 : EReal) + ∑ s : Fin 4, ∑ k : Fin 2048,
      (show FVec Ideal S2048x1408 .bf16 from iblk m c 0 ⟨4 * (t.val / 4) + s.val, Pipeline.run_point_lt_of_flush t h s⟩) (ix2 k (j 0))
      * (show FVec Ideal S2048x1024 .bf16 from iblk m c 1 ⟨4 * (t.val / 4) + s.val, Pipeline.run_point_lt_of_flush t h s⟩) (ix2 k (j 1)) := by
  rw [Pipeline.eq_sum_fin_of_reset_step_apply_of_flush (fun n h => (outsAt0 m c n h).2) 4 (fun _ => (0 : EReal))
    (fun p j => ∑ k : Fin 2048, (show FVec Ideal S2048x1408 .bf16 from iblk m c 0 p) (ix2 k (j 0))
      * (show FVec Ideal S2048x1024 .bf16 from iblk m c 1 p) (ix2 k (j 1)))
    (fun t h j => by
      rw [outsAt0_A m c t h (by omega)]; frame_out; rw [pay_step, pay_zero])
    (fun t h j => by
      by_cases h1 : t.val % 4 = 3
      · rw [outsAt0_C m c t h h1]; frame_out; rw [pay_step]; simp only [read_unread_whole]
      · rw [outsAt0_B m c t h h1]; frame_out; rw [pay_step]; simp only [read_unread_whole])
    t h j]

/-- What a writing point stores is its accumulator, rounded: the identity over the extended reals. -/
theorem out_eq (c : Dev nD) (t : Fin cfg0.N) (h : t.val % 4 = 3) (j : S1408x1024.Idx) :
    (outsAt0 m c t.val t.isLt).1 j = (outsAt0 m c t.val t.isLt).2 j := by
  rw [outsAt0_C m c t (by omega) h]; frame_out; pointwise [k0_pay3]

/-- The result array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  rw [acc_step m c t ((flush0_2 t).mp hf) y, zero_add]
  pointwise [REF]
  refine Fin.sum_mul_add_congr fun s k hl => ?_
  have ht := idx t
  have hs := idx ⟨4 * (t.val / 4) + s.val, Pipeline.run_point_lt_of_flush t ((flush0_2 t).mp hf) s⟩
  have e1 : (4 * (t.val / 4) + s.val) % 4 = s.val := by omega
  have e2 : (4 * (t.val / 4) + s.val) / 4 = t.val / 4 := by omega
  dsimp only at hs
  rw [e1, e2] at hs
  refine Eq.trans ?_ (mul_comm (_ : EReal) _)
  congr 1 <;> blk_ext [iblk, V, ht, hs]

end Cert.Kernel3Ideal.Value

end
-- ==== Proof.InMath.lean ====
/- The mathematics of the input projection carried backwards, row by row: one row of the residual stream is normed and
   modulated into `hid`, `hid` is sent through the projection `W`, and the gradient of the projection is brought back to
   the row, to the vectors and to `W`.  Stated on functions, of no program.  Over real numbers the norm's gradient may be
   written with the normed row (`gradN`) or by the rule for the reciprocal root (`grad`). -/
module

public import proofs.«01_k».proof.Proof.MlpReal

@[expose] public section

noncomputable section

namespace Cert.Ffn

open Idealize.ShloMosaic

/-- One row's data: the row, the gradient that reaches it past the projection, the three vectors of the norm, the
    gradient of the projection, and the projection (one function of the input lane per output lane). -/
structure InRow where
  x : Fin 1024 → EReal
  dx : Fin 1024 → EReal
  n : Fin 1024 → EReal
  sc : Fin 1024 → EReal
  sh : Fin 1024 → EReal
  dp : Fin 2432 → EReal
  W : Fin 2432 → Fin 1024 → EReal

/-- Five pieces laid side by side. -/
def join (a : Fin 512 → EReal) (b : Fin 256 → EReal) (c : Fin 512 → EReal) (d : Fin 1024 → EReal) (e : Fin 128 → EReal)
    (j : Fin 2432) : EReal :=
  if h : j.val < 512 then a ⟨j.val, h⟩
  else if h : j.val - 512 < 256 then b ⟨j.val - 512, h⟩
  else if h : j.val - 512 - 256 < 512 then c ⟨j.val - 512 - 256, h⟩
  else if h : j.val - 512 - 256 - 512 < 1024 then d ⟨j.val - 512 - 256 - 512, h⟩
  else e ⟨j.val - 512 - 256 - 512 - 1024, by omega⟩

/-- A matrix of 2312 columns widened by zeros, one function of the row per column. -/
def widened (w : Fin 1024 → Fin 2312 → EReal) (j : Fin 2432) (d : Fin 1024) : EReal :=
  if h : j.val < 2312 then w d ⟨j.val, h⟩ else 0

namespace InRow

variable (R : InRow)

def normed (d : Fin 1024) : EReal := R.x d * root R.x
def weighted (d : Fin 1024) : EReal := R.normed d * R.n d
def scale (d : Fin 1024) : EReal := 1 + R.sc d
def hid (d : Fin 1024) : EReal := R.weighted d * R.scale d + R.sh d
def dhid (d : Fin 1024) : EReal := ∑ j, R.dp j * R.W j d
def dscaled (d : Fin 1024) : EReal := R.dhid d * R.scale d
def dnormed (d : Fin 1024) : EReal := R.dscaled d * R.n d
/-- The row's gradient, by the rule for the reciprocal root. -/
def grad (d : Fin 1024) : EReal := R.dx d + back R.x R.dnormed d

/-- The gradient of the normed row, with the two weights multiplied first; -/
def dboth (d : Fin 1024) : EReal := R.dhid d * (R.n d * R.scale d)
/-- its mean along the normed row; -/
def lean : EReal := (∑ k, R.dboth k * R.normed k) * inv1024
/-- and the row's gradient written with it. -/
def gradN (d : Fin 1024) : EReal := R.dx d + root R.x * (R.dboth d - R.normed d * R.lean)

/-- What the row adds to each row of the small block of sums: the gradients of the norm's weight, of the scale and of
    the shift. -/
def part (q : Fin 8) (d : Fin 1024) : EReal :=
  if q.val = 0 then R.normed d * R.dscaled d
  else if q.val = 1 then R.weighted d * R.dhid d
  else if q.val = 2 then R.dhid d
  else 0

/-- A row whose data are real numbers. -/
structure Real : Prop where
  x : ∀ d, IsReal (R.x d)
  n : ∀ d, IsReal (R.n d)
  sc : ∀ d, IsReal (R.sc d)
  dp : ∀ j, IsReal (R.dp j)
  W : ∀ j d, IsReal (R.W j d)

end InRow

/-- A sum of real numbers is the sum. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A real factor enters a sum of real numbers. -/
theorem sum_mul_real {ι : Type} [Fintype ι] (f : ι → EReal) (a : EReal) (hf : ∀ i, IsReal (f i)) (ha : IsReal a) :
    (∑ i, f i) * a = ∑ i, f i * a := by
  choose g hg using hf
  obtain ⟨b, rfl⟩ := ha
  obtain rfl : f = fun i => (g i : EReal) := funext hg
  simp only [← EReal.coe_mul, coe_sum, Finset.sum_mul]

/-- The norm's gradient, both ways, over real numbers. -/
theorem back_eq (v g : Fin 1024 → EReal) (hv : ∀ d, IsReal (v d)) (hg : ∀ d, IsReal (g d)) (d : Fin 1024) :
    back v g d = root v * (g d - v d * root v * ((∑ k, g k * (v k * root v)) * inv1024)) := by
  obtain ⟨q, hq, eq⟩ := msq_pos v hv
  have er : root v = (((Real.sqrt q)⁻¹ : ℝ) : EReal) := by
    rw [root, eq, Ideal.rsqrt_coe, if_neg hq.not_gt, if_neg hq.ne']
  have hs : (Real.sqrt q)⁻¹ * (Real.sqrt q)⁻¹ = q⁻¹ := by
    rw [← mul_inv, Real.mul_self_sqrt hq.le]
  obtain ⟨r, hr⟩ : ∃ r : ℝ, r = (Real.sqrt q)⁻¹ := ⟨_, rfl⟩
  rw [← hr] at er hs
  have en : negHalf = ((-(1 / 2) : ℝ) : EReal) := by
    simp [negHalf, Ideal.ofBits, Ideal.ieee, -EReal.coe_mul]; norm_num
  have es : slope v = ((-(1 / 2) * (r * q⁻¹) : ℝ) : EReal) := by
    rw [slope, en, er, eq, Ideal.div_coe hq.ne', ← EReal.coe_mul, ← EReal.coe_mul, one_div q]
  choose w hw using hv
  choose u hu using hg
  obtain rfl : v = fun k => (w k : EReal) := funext hw
  obtain rfl : g = fun k => (u k : EReal) := funext hu
  unfold back through
  rw [es, er, inv1024_eq]
  simp only [← EReal.coe_mul, ← EReal.coe_add, ← EReal.coe_sub, coe_sum]
  have h1 : ∑ k, u k * (w k * r) = (∑ k, w k * u k) * r := by
    rw [Finset.sum_mul]; exact Finset.sum_congr rfl fun k _ => by ring
  rw [h1, ← hs]
  generalize ∑ k, w k * u k = S
  refine congrArg _ ?_
  ring

namespace InRow.Real

variable {R : InRow} (h : R.Real)
include h

theorem normed (d : Fin 1024) : IsReal (R.normed d) := (h.x d).mul (real_root _ h.x)

theorem scale (d : Fin 1024) : IsReal (R.scale d) := IsReal.one.add (h.sc d)

theorem dhid (d : Fin 1024) : IsReal (R.dhid d) := IsReal.sum _ _ fun j => (h.dp j).mul (h.W j d)

theorem dnormed (d : Fin 1024) : IsReal (R.dnormed d) := ((h.dhid d).mul (h.scale d)).mul (h.n d)

/-- The two ways of writing the row's gradient. -/
theorem gradN_eq (d : Fin 1024) : R.gradN d = R.grad d := by
  have e : R.dboth = R.dnormed := by
    funext k
    rw [InRow.dboth, InRow.dnormed, InRow.dscaled, mul_assoc, mul_comm (R.n k)]
  rw [InRow.gradN, InRow.grad, back_eq _ _ h.x h.dnormed, InRow.lean, e]
  rfl

end InRow.Real

/-- The parts of rows with common vectors, with the vectors' factors outside the sums. -/
theorem sum_part (N : Nat) (R : Fin N → InRow) (h : ∀ i, (R i).Real) (n sc : EReal) (d : Fin 1024)
    (hn : ∀ i, (R i).n d = n) (hs : ∀ i, (R i).sc d = sc) (hN : 0 < N) (q : Fin 8) :
    ∑ i, (R i).part q d =
      if q.val = 0 then (∑ i, (R i).dhid d * (R i).normed d) * (1 + sc)
      else if q.val = 1 then (∑ i, (R i).dhid d * (R i).normed d) * n
      else if q.val = 2 then ∑ i, (R i).dhid d
      else 0 := by
  have rn : IsReal n := hn ⟨0, hN⟩ ▸ (h ⟨0, hN⟩).n d
  have rs : IsReal (1 + sc) := hs ⟨0, hN⟩ ▸ (h ⟨0, hN⟩).scale d
  have rp i : IsReal ((R i).dhid d * (R i).normed d) := ((h i).dhid d).mul ((h i).normed d)
  unfold InRow.part
  split_ifs
  · rw [sum_mul_real _ _ rp rs]
    refine Finset.sum_congr rfl fun i _ => ?_
    rw [InRow.dscaled, InRow.scale, hs, ← mul_assoc, mul_comm ((R i).normed d)]
  · rw [sum_mul_real _ _ rp rn]
    refine Finset.sum_congr rfl fun i _ => ?_
    rw [InRow.weighted, hn, mul_right_comm, mul_comm ((R i).normed d)]
  · rfl
  · exact Finset.sum_const_zero

end Cert.Ffn

end
-- ==== Proof.InBlock.lean ====
/- One grid point of the input projection's backward call, row by row.  The call cuts its block of 512 rows into two halves of
   256 and works on each: every value it forms of a half, read at row `r`, is the row's mathematics of InMath. -/
module

public import proofs.«01_k».proof.Proof.InMath
public import proofs.«01_k».proof.Proof.Gen.Kernel4Ideal.Skeleton
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Kernel4Ideal.In

open Idealize.ShloMosaic Idealize.ShloMosaic.TcCoe
open Cert.Kernel4Ideal.Gen Cert.Ffn

section Half

variable (x dx : Vec Ideal S256x1024 .f32) (q : Vec Ideal S256x512 .bf16) (kv : Vec Ideal S256x256 .bf16)
  (z : Vec Ideal S256x512 .bf16) (b : Vec Ideal S256x1024 .bf16) (dt : Vec Ideal S256x128 .bf16)
  (n sc sh : Vec Ideal S1x1024 .f32) (W : Vec Ideal S2432x1024 .bf16) (r : Fin 256)

/-- Row `r` of a half block. -/
def halfRow : InRow where
  x d := x (ix2 r d)
  dx d := dx (ix2 r d)
  n d := n (ix2 (0 : Fin 1) d)
  sc d := sc (ix2 (0 : Fin 1) d)
  sh d := sh (ix2 (0 : Fin 1) d)
  dp := join (fun j => q (ix2 r j)) (fun j => kv (ix2 r j)) (fun j => z (ix2 r j)) (fun j => b (ix2 r j)) fun j => dt (ix2 r j)
  W j d := W (ix2 j d)

theorem h_dpT (j : Fin 2432) :
    k0_pay6 q kv z b dt (ix2 r j) = (halfRow x dx q kv z b dt n sc sh W r).dp j := by
  pointwise [k0_pay6]; rfl

theorem h_dhidT (d : Fin 1024) :
    k0_pay8 q kv z b dt W (ix2 r d) = (halfRow x dx q kv z b dt n sc sh W r).dhid d := by
  pointwise [k0_pay8]; simp only [h_dpT x dx q kv z b dt n sc sh W]; rfl

theorem h_dpB (j : Fin 2432) :
    k0_pay7 q kv z b dt (ix2 r j) = (halfRow x dx q kv z b dt n sc sh W r).dp j := by
  pointwise [k0_pay7]; rfl

theorem h_dhidB (d : Fin 1024) :
    k0_pay9 q kv z b dt W (ix2 r d) = (halfRow x dx q kv z b dt n sc sh W r).dhid d := by
  pointwise [k0_pay9]; simp only [h_dpB x dx q kv z b dt n sc sh W]; rfl

theorem h_rootT :
    k0_pay12 (k0_pay10 x) k0_pay11 (ix2 r (0 : Fin 1)) = root (halfRow x dx q kv z b dt n sc sh W r).x := by
  pointwise [k0_pay12, k0_pay10, k0_pay11]; rfl

theorem h_rootB :
    k0_pay14 x (ix2 r (0 : Fin 1)) = root (halfRow x dx q kv z b dt n sc sh W r).x := by
  pointwise [k0_pay14]; rfl

theorem h_normedT (d : Fin 1024) :
    k0_pay13 x (k0_pay10 x) k0_pay11 (ix2 r d) = (halfRow x dx q kv z b dt n sc sh W r).normed d := by
  pointwise [k0_pay13]; rw [h_rootT x dx q kv z b dt n sc sh W]; rfl

theorem h_normedB (d : Fin 1024) :
    k0_pay15 x (ix2 r d) = (halfRow x dx q kv z b dt n sc sh W r).normed d := by
  pointwise [k0_pay15]; rw [h_rootB x dx q kv z b dt n sc sh W]; rfl

theorem h_hidT (d : Fin 1024) :
    k0_pay16 x (k0_pay10 x) k0_pay11 n sc sh (ix2 r d) = (halfRow x dx q kv z b dt n sc sh W r).hid d := by
  pointwise [k0_pay16]; rw [h_normedT x dx q kv z b dt n sc sh W]; rfl

theorem h_hidB (d : Fin 1024) :
    k0_pay17 x n sc sh (ix2 r d) = (halfRow x dx q kv z b dt n sc sh W r).hid d := by
  pointwise [k0_pay17]; rw [h_normedB x dx q kv z b dt n sc sh W]; rfl

theorem h_hidB' (d : Fin 1024) :
    k0_pay18 (k0_pay17 x n sc sh) (ix2 r d) = (halfRow x dx q kv z b dt n sc sh W r).hid d := by
  pointwise [k0_pay18]; exact h_hidB x dx q kv z b dt n sc sh W r d

theorem h_gradT (d : Fin 1024) :
    k0_pay28 (k0_pay20 (k0_pay8 q kv z b dt W) (k0_pay12 (k0_pay10 x) k0_pay11) (k0_pay13 x (k0_pay10 x) k0_pay11) n sc) dx (ix2 r d) = (halfRow x dx q kv z b dt n sc sh W r).gradN d := by
  pointwise [k0_pay28, k0_pay20]; simp only [h_dhidT x dx q kv z b dt n sc sh W, h_normedT x dx q kv z b dt n sc sh W, h_rootT x dx q kv z b dt n sc sh W]; rfl

theorem h_gradB (d : Fin 1024) :
    k0_pay29 (k0_pay9 q kv z b dt W) (k0_pay14 x) (k0_pay15 x) n sc dx (ix2 r d) = (halfRow x dx q kv z b dt n sc sh W r).gradN d := by
  pointwise [k0_pay29]; simp only [h_dhidB x dx q kv z b dt n sc sh W, h_normedB x dx q kv z b dt n sc sh W, h_rootB x dx q kv z b dt n sc sh W]; rfl

/-- What a half adds into each row of the small block. -/
def halfSum (i : Fin 8) (d : Fin 1024) : EReal :=
  if i.val = 0 then (∑ r, (halfRow x dx q kv z b dt n sc sh W r).dhid d * (halfRow x dx q kv z b dt n sc sh W r).normed d) * (1 + sc (ix2 (0 : Fin 1) d))
  else if i.val = 1 then (∑ r, (halfRow x dx q kv z b dt n sc sh W r).dhid d * (halfRow x dx q kv z b dt n sc sh W r).normed d) * n (ix2 (0 : Fin 1) d)
  else if i.val = 2 then ∑ r, (halfRow x dx q kv z b dt n sc sh W r).dhid d
  else 0

/-- Where the rows are real numbers it is the sum of the rows' parts. -/
theorem halfSum_eq (h : ∀ r, (halfRow x dx q kv z b dt n sc sh W r).Real) (i : Fin 8) (d : Fin 1024) :
    halfSum x dx q kv z b dt n sc sh W i d = ∑ r, (halfRow x dx q kv z b dt n sc sh W r).part i d :=
  (sum_part 256 (fun r => (halfRow x dx q kv z b dt n sc sh W r)) h _ _ d (fun _ => rfl) (fun _ => rfl) (by omega) i).symm

theorem sum0T (d : Fin 1024) : k0_pay22 (k0_pay8 q kv z b dt W) (k0_pay13 x (k0_pay10 x) k0_pay11) sc (ix2 (0 : Fin 1) d)
    = halfSum x dx q kv z b dt n sc sh W 0 d := by
  pointwise [k0_pay22, k0_pay21]; simp only [fun r d => h_dhidT x dx q kv z b dt n sc sh W r d, fun r d => h_normedT x dx q kv z b dt n sc sh W r d]; rfl

theorem sum1T (d : Fin 1024) : k0_pay23 (k0_pay8 q kv z b dt W) (k0_pay13 x (k0_pay10 x) k0_pay11) n (ix2 (0 : Fin 1) d)
    = halfSum x dx q kv z b dt n sc sh W 1 d := by
  pointwise [k0_pay23, k0_pay21]; simp only [fun r d => h_dhidT x dx q kv z b dt n sc sh W r d, fun r d => h_normedT x dx q kv z b dt n sc sh W r d]; rfl

theorem sum2T (d : Fin 1024) : k0_pay24 (k0_pay8 q kv z b dt W) (ix2 (0 : Fin 1) d) = halfSum x dx q kv z b dt n sc sh W 2 d := by
  pointwise [k0_pay24]; simp only [fun r d => h_dhidT x dx q kv z b dt n sc sh W r d]; rfl

theorem sum1B (d : Fin 1024) : k0_pay26 (k0_pay9 q kv z b dt W) (k0_pay15 x) n (ix2 (0 : Fin 1) d) = halfSum x dx q kv z b dt n sc sh W 1 d := by
  pointwise [k0_pay26, k0_pay25]; simp only [fun r d => h_dhidB x dx q kv z b dt n sc sh W r d, fun r d => h_normedB x dx q kv z b dt n sc sh W r d]; rfl

theorem sum2B (d : Fin 1024) : k0_pay27 (k0_pay9 q kv z b dt W) (ix2 (0 : Fin 1) d) = halfSum x dx q kv z b dt n sc sh W 2 d := by
  pointwise [k0_pay27]; simp only [fun r d => h_dhidB x dx q kv z b dt n sc sh W r d]; rfl

theorem row0 (v99 v137 : Vec Ideal S1x1024 .f32) (d : Fin 1024) :
    k0_pay30 (k0_pay9 q kv z b dt W) (k0_pay15 x) v99 sc v137 (ix2 (0 : Fin 1) d)
      = v137 (ix2 (0 : Fin 1) d) + (v99 (ix2 (0 : Fin 1) d) + halfSum x dx q kv z b dt n sc sh W 0 d) := by
  pointwise [k0_pay30, k0_pay25]; simp only [fun r d => h_dhidB x dx q kv z b dt n sc sh W r d, fun r d => h_normedB x dx q kv z b dt n sc sh W r d]; rfl

/-- What a half adds into the gradient of the projection. -/
def halfW (j : Fin 2432) (d : Fin 512) : EReal := ∑ r, (halfRow x dx q kv z b dt n sc sh W r).dp j * (halfRow x dx q kv z b dt n sc sh W r).hid ⟨d.val, by omega⟩

end Half

end Cert.Kernel4Ideal.In

end
-- ==== Proof.InStep.lean ====
/- The small block and the two large blocks one grid point of the input projection's backward call leaves: three rows of the
   small block are stored over what it held, each with the two halves' sums added; the large blocks are stored half by half. -/
module

public import proofs.«01_k».proof.Proof.InBlock

@[expose] public section

set_option maxRecDepth 16384

noncomputable section

namespace Cert.Kernel4Ideal.In

open Idealize.ShloMosaic Idealize.ShloMosaic.TcCoe
open Cert.Kernel4Ideal.Gen Cert.Ffn

/-- Pieces written over contents that read as `X` are the canon of the pieces over `X` itself. -/
theorem writes_over {sig' : RefSig} {κ : Kind} {sp : Space} {v : View sig' κ sp S8x1024 .f32}
    (f : v.ty.Contents (Elt Ideal)) (X : Vec Ideal S8x1024 .f32) (hf : v.read (Elt Ideal) f = X) :
    ∀ L : List (View.Piece (Elt Ideal) S8x1024 .f32), v.read (Elt Ideal) (v.writes (Elt Ideal) f L)
      = View.canon (L ++ [⟨Rect.unit ![0, 0] ![8, 1024] inb_S8x1024_S8x1024_0_0, X⟩])
  | [] => by
    rw [View.writes_nil, hf]
    exact (View.canon_cons_unit_lit' inb_S8x1024_S8x1024_0_0 X [] (by decide)).symm
  | p :: L => by
    funext y
    by_cases hy : y ∈ p.1.set
    · obtain ⟨r, w⟩ := p
      obtain ⟨j, rfl⟩ : ∃ j, r.emb j = y := r.exists_idx_of_mem hy
      rw [View.read_writes_cons_emb, List.cons_append, View.canon_cons_emb]
    · rw [View.read_writes_cons_miss _ _ p L y hy, List.cons_append, View.canon_cons_of_not_mem p _ hy, writes_over f X hf L]

/-- A row of the small block, loaded through a store to another row. -/
theorem row_past {a b : Nat} {sz sz' : Fin 2 → Nat} {inb : ∀ d, (![a, 0] : Fin 2 → Nat) d + sz d ≤ S8x1024.size d}
    {inb' : ∀ d, (![b, 0] : Fin 2 → Nat) d + sz' d ≤ S8x1024.size d} (h : a + sz 0 ≤ b ∨ b + sz' 0 ≤ a)
    (w : (Rect.unit (s := S8x1024) ![a, 0] sz inb).shape.Idx → Elt Ideal .f32)
    (L : List (View.Piece (Elt Ideal) S8x1024 .f32)) :
    View.ld (View.canon (⟨Rect.unit (s := S8x1024) ![a, 0] sz inb, w⟩ :: L)) (Rect.unit (s := S8x1024) ![b, 0] sz' inb') =
      View.ld (View.canon L) (Rect.unit (s := S8x1024) ![b, 0] sz' inb') := by
  funext x
  refine View.canon_cons_of_not_mem _ L fun hm => ?_
  have h0 := Rect.mem_set_unit (s := S8x1024) (off := ![a, 0]) (size := sz) (inb := inb) |>.mp hm (0 : Fin 2)
  have hx : (x (0 : Fin 2) : Nat) < sz' 0 := (x (0 : Fin 2)).isLt
  have e : ((Rect.unit (s := S8x1024) ![b, 0] sz' inb').idx x (0 : Fin 2) : Nat) = b + 1 * (x (0 : Fin 2) : Nat) := rfl
  rw [e] at h0
  simp only [Matrix.cons_val_zero] at h0
  omega

/-- A row past a stored row is what the stores before made it. -/
theorem row_skip {a : ℕ} {sz : Fin 2 → ℕ} {inb : ∀ i : Fin 2, (![a, 0] : Fin 2 → ℕ) i + sz i ≤ S8x1024.size i}
    (w : (Rect.unit (s := S8x1024) ![a, 0] sz inb).shape.Idx → Elt Ideal .f32)
    (L : List (View.Piece (Elt Ideal) S8x1024 .f32)) (y : S8x1024.Idx) (h : a + sz 0 ≤ (y 0).val) :
    View.canon (⟨Rect.unit (s := S8x1024) ![a, 0] sz inb, w⟩ :: L) y = View.canon L y :=
  View.canon_cons_of_not_mem _ L fun hm => by
    have h0 := Rect.mem_set_unit (s := S8x1024) (off := ![a, 0]) (size := sz) (inb := inb) |>.mp hm (0 : Fin 2)
    have := h0.2
    simp only [Matrix.cons_val_zero] at this
    omega

/-- A row is inside the row stored at its place. -/
theorem row_mem {a : ℕ} (ha : a < 8) (inb : ∀ i : Fin 2, (![a, 0] : Fin 2 → ℕ) i + (![1, 1024] : Fin 2 → ℕ) i ≤ S8x1024.size i)
    (d : Fin 1024) : (ix2 (⟨a, ha⟩ : Fin 8) d : S8x1024.Idx) ∈ (Rect.unit (s := S8x1024) ![a, 0] ![1, 1024] inb).set := by
  refine Rect.mem_set_unit (s := S8x1024) (off := ![a, 0]) (size := ![1, 1024]) (inb := inb) |>.mpr fun i => ?_
  match i with
  | 0 => exact ⟨le_refl a, (show a < a + 1 by omega)⟩
  | 1 => exact ⟨Nat.zero_le _, (show d.val < 0 + 1024 by omega)⟩

section Point

variable (xT dxT : Vec Ideal S256x1024 .f32) (qT : Vec Ideal S256x512 .bf16) (kvT : Vec Ideal S256x256 .bf16)
  (zT : Vec Ideal S256x512 .bf16) (bT : Vec Ideal S256x1024 .bf16) (dtT : Vec Ideal S256x128 .bf16)
  (xB dxB : Vec Ideal S256x1024 .f32) (qB : Vec Ideal S256x512 .bf16) (kvB : Vec Ideal S256x256 .bf16)
  (zB : Vec Ideal S256x512 .bf16) (bB : Vec Ideal S256x1024 .bf16) (dtB : Vec Ideal S256x128 .bf16)
  (n sc sh : Vec Ideal S1x1024 .f32) (W : Vec Ideal S2432x1024 .bf16)

/-- What the point adds into each row of the small block: the upper half's sums and the lower half's. -/
def ptSum (i : Fin 8) (d : Fin 1024) : EReal := halfSum xT dxT qT kvT zT bT dtT n sc sh W i d + halfSum xB dxB qB kvB zB bB dtB n sc sh W i d

/-- The three rows the point stores, the last first. -/
def rowsP (old : Vec Ideal S8x1024 .f32) : List (View.Piece (Elt Ideal) S8x1024 .f32) :=
  [⟨Rect.unit ![2, 0] ![1, 1024] inb_S8x1024_S1x1024_2_0,
      k0_pay2 (k0_pay24 (k0_pay8 qT kvT zT bT dtT W)) (k0_pay27 (k0_pay9 qB kvB zB bB dtB W))
        (View.ld old (Rect.unit ![2, 0] ![1, 1024] inb_S8x1024_S1x1024_2_0))⟩,
    ⟨Rect.unit ![1, 0] ![1, 1024] inb_S8x1024_S1x1024_1_0,
      k0_pay1 (k0_pay23 (k0_pay8 qT kvT zT bT dtT W) (k0_pay13 xT (k0_pay10 xT) k0_pay11) n)
        (k0_pay26 (k0_pay9 qB kvB zB bB dtB W) (k0_pay15 xB) n)
        (View.ld old (Rect.unit ![1, 0] ![1, 1024] inb_S8x1024_S1x1024_1_0))⟩,
    ⟨Rect.unit ![0, 0] ![1, 1024] inb_S8x1024_S1x1024_0_0,
      k0_pay30 (k0_pay9 qB kvB zB bB dtB W) (k0_pay15 xB)
        (k0_pay22 (k0_pay8 qT kvT zT bT dtT W) (k0_pay13 xT (k0_pay10 xT) k0_pay11) sc) sc
        (View.ld old (Rect.unit ![0, 0] ![1, 1024] inb_S8x1024_S1x1024_0_0))⟩]

/-- The small block after the point. -/
def accP (old : Vec Ideal S8x1024 .f32) : Vec Ideal S8x1024 .f32 :=
  View.canon (rowsP xT qT kvT zT bT dtT xB qB kvB zB bB dtB n sc W old ++ [⟨Rect.unit ![0, 0] ![8, 1024] inb_S8x1024_S8x1024_0_0, old⟩])

theorem new0 (v : Vec Ideal S1x1024 .f32) (d : Fin 1024) :
    k0_pay30 (k0_pay9 qB kvB zB bB dtB W) (k0_pay15 xB) (k0_pay22 (k0_pay8 qT kvT zT bT dtT W) (k0_pay13 xT (k0_pay10 xT) k0_pay11) sc) sc v
        (ix2 (0 : Fin 1) d) = v (ix2 (0 : Fin 1) d) + ptSum xT dxT qT kvT zT bT dtT xB dxB qB kvB zB bB dtB n sc sh W 0 d := by
  rw [row0 xB dxB qB kvB zB bB dtB n sc sh W, sum0T xT dxT qT kvT zT bT dtT n sc sh W]; rfl

theorem new1 (v : Vec Ideal S1x1024 .f32) (d : Fin 1024) :
    k0_pay1 (k0_pay23 (k0_pay8 qT kvT zT bT dtT W) (k0_pay13 xT (k0_pay10 xT) k0_pay11) n) (k0_pay26 (k0_pay9 qB kvB zB bB dtB W) (k0_pay15 xB) n) v
        (ix2 (0 : Fin 1) d) = v (ix2 (0 : Fin 1) d) + ptSum xT dxT qT kvT zT bT dtT xB dxB qB kvB zB bB dtB n sc sh W 1 d := by
  pointwise [k0_pay1]; rw [sum1T xT dxT qT kvT zT bT dtT n sc sh W, sum1B xB dxB qB kvB zB bB dtB n sc sh W]; rfl

theorem new2 (v : Vec Ideal S1x1024 .f32) (d : Fin 1024) :
    k0_pay2 (k0_pay24 (k0_pay8 qT kvT zT bT dtT W)) (k0_pay27 (k0_pay9 qB kvB zB bB dtB W)) v (ix2 (0 : Fin 1) d)
      = v (ix2 (0 : Fin 1) d) + ptSum xT dxT qT kvT zT bT dtT xB dxB qB kvB zB bB dtB n sc sh W 2 d := by
  pointwise [k0_pay2]; rw [sum2T xT dxT qT kvT zT bT dtT n sc sh W, sum2B xB dxB qB kvB zB bB dtB n sc sh W]; rfl

/-- The old block with the point's sums added. -/
def grownP (old : Vec Ideal S8x1024 .f32) : Vec Ideal S8x1024 .f32 :=
  fun y => old y + ptSum xT dxT qT kvT zT bT dtT xB dxB qB kvB zB bB dtB n sc sh W (y 0) (y 1)

/-- A stored row is the grown block's. -/
theorem grownP_row {a : ℕ} (ha : a < 8) (old : Vec Ideal S8x1024 .f32)
    (inb : ∀ i : Fin 2, (![a, 0] : Fin 2 → ℕ) i + (![1, 1024] : Fin 2 → ℕ) i ≤ S8x1024.size i)
    (w : Vec Ideal S1x1024 .f32 → Vec Ideal S1x1024 .f32)
    (hw : ∀ v d, w v (ix2 (0 : Fin 1) d) = v (ix2 (0 : Fin 1) d) + ptSum xT dxT qT kvT zT bT dtT xB dxB qB kvB zB bB dtB n sc sh W ⟨a, ha⟩ d) (y : S1x1024.Idx) :
    w (View.ld old (Rect.unit (s := S8x1024) ![a, 0] ![1, 1024] inb)) y
      = grownP xT dxT qT kvT zT bT dtT xB dxB qB kvB zB bB dtB n sc sh W old ((Rect.unit (s := S8x1024) ![a, 0] ![1, 1024] inb).emb y) := by
  obtain ⟨o, d, rfl⟩ : ∃ (o : Fin 1) (d : Fin 1024), ix2 o d = y := ⟨y 0, y 1, by funext i; match i with | 0 => rfl | 1 => rfl⟩
  obtain rfl : o = 0 := Subsingleton.elim _ _
  have e : (Rect.unit (s := S8x1024) ![a, 0] ![1, 1024] inb).emb (ix2 (0 : Fin 1) d) = ix2 (⟨a, ha⟩ : Fin 8) d := by
    funext i
    match i with
    | 0 => exact Fin.ext (show a + 1 * 0 = a by omega)
    | 1 => exact Fin.ext (show 0 + 1 * d.val = d.val by omega)
  rw [hw, e]
  exact congrArg (fun y : S8x1024.Idx => old y + ptSum xT dxT qT kvT zT bT dtT xB dxB qB kvB zB bB dtB n sc sh W ⟨a, ha⟩ d) e

theorem rowsP_grown (old : Vec Ideal S8x1024 .f32) :
    View.PiecesOf (grownP xT dxT qT kvT zT bT dtT xB dxB qB kvB zB bB dtB n sc sh W old) (rowsP xT qT kvT zT bT dtT xB qB kvB zB bB dtB n sc W old) :=
  ⟨fun y => grownP_row xT dxT qT kvT zT bT dtT xB dxB qB kvB zB bB dtB n sc sh W (by omega) old _ _ (new2 xT dxT qT kvT zT bT dtT xB dxB qB kvB zB bB dtB n sc sh W) y,
    fun y => grownP_row xT dxT qT kvT zT bT dtT xB dxB qB kvB zB bB dtB n sc sh W (by omega) old _ _ (new1 xT dxT qT kvT zT bT dtT xB dxB qB kvB zB bB dtB n sc sh W) y,
    fun y => grownP_row xT dxT qT kvT zT bT dtT xB dxB qB kvB zB bB dtB n sc sh W (by omega) old _ _ (new0 xT dxT qT kvT zT bT dtT xB dxB qB kvB zB bB dtB n sc sh W) y, trivial⟩

/-- The small block after the point is the grown block: three rows are stored, the others stay. -/
theorem accP_apply (old : Vec Ideal S8x1024 .f32) (i : Fin 8) (d : Fin 1024) :
    accP xT qT kvT zT bT dtT xB qB kvB zB bB dtB n sc W old (ix2 i d) = old (ix2 i d) + ptSum xT dxT qT kvT zT bT dtT xB dxB qB kvB zB bB dtB n sc sh W i d := by
  by_cases hi : i.val < 3
  · refine View.canon_append_of_piecesOf (grownP xT dxT qT kvT zT bT dtT xB dxB qB kvB zB bB dtB n sc sh W old) _ _ (rowsP_grown xT dxT qT kvT zT bT dtT xB dxB qB kvB zB bB dtB n sc sh W old) _ ?_
    obtain ⟨i, hi'⟩ := i
    have mem := fun (a : ℕ) (ha : a < 8) (inb) => row_mem (a := a) ha inb d
    interval_cases i
    · exact ⟨_, .tail _ (.tail _ (.head _)), mem 0 (by omega) inb_S8x1024_S1x1024_0_0⟩
    · exact ⟨_, .tail _ (.head _), mem 1 (by omega) inb_S8x1024_S1x1024_1_0⟩
    · exact ⟨_, .head _, mem 2 (by omega) inb_S8x1024_S1x1024_2_0⟩
  · have e : accP xT qT kvT zT bT dtT xB qB kvB zB bB dtB n sc W old (ix2 i d) = old (ix2 i d) := by
      unfold accP rowsP
      refine Eq.trans (row_skip (a := 2) (sz := ![1, 1024]) (inb := inb_S8x1024_S1x1024_2_0) _ _ (ix2 i d) (show 2 + 1 ≤ i.val by omega)) ?_
      refine Eq.trans (row_skip (a := 1) (sz := ![1, 1024]) (inb := inb_S8x1024_S1x1024_1_0) _ _ (ix2 i d) (show 1 + 1 ≤ i.val by omega)) ?_
      refine Eq.trans (row_skip (a := 0) (sz := ![1, 1024]) (inb := inb_S8x1024_S1x1024_0_0) _ _ (ix2 i d) (show 0 + 1 ≤ i.val by omega)) ?_
      exact congrFun (View.canon_cons_unit_lit' inb_S8x1024_S8x1024_0_0 old [] (by decide)) _
    rw [e, ptSum, halfSum, halfSum, if_neg (by omega), if_neg (by omega), if_neg (by omega), if_neg (by omega),
      if_neg (by omega), if_neg (by omega), add_zero, add_zero]

/-- The gradient of the projection after the point. -/
theorem w_step (old : Vec Ideal S2432x512 .f32) (j : Fin 2432) (d : Fin 512) :
    k0_pay19 (k0_pay6 qT kvT zT bT dtT) (k0_pay7 qB kvB zB bB dtB) (k0_pay16 xT (k0_pay10 xT) k0_pay11 n sc sh)
        (k0_pay17 xB n sc sh) old (ix2 j d)
      = old (ix2 j d) + (halfW xT dxT qT kvT zT bT dtT n sc sh W j d + halfW xB dxB qB kvB zB bB dtB n sc sh W j d) := by
  pointwise [k0_pay19]
  simp only [fun r j => h_dpT xT dxT qT kvT zT bT dtT n sc sh W r j, fun r j => h_dpB xB dxB qB kvB zB bB dtB n sc sh W r j, fun r d => h_hidT xT dxT qT kvT zT bT dtT n sc sh W r d, fun r d => h_hidB' xB dxB qB kvB zB bB dtB n sc sh W r d]
  rfl

end Point

end Cert.Kernel4Ideal.In

end
-- ==== Proof.InValue.lean ====
/- The value of the input projection's backward call: every block the points write is the rows' mathematics of InMath, the small
   block holds the rows' parts summed over all 8192 rows, and the last block the gradient of the projection. -/
module

public import proofs.«01_k».proof.Proof.InStep
public import proofs.«01_k».proof.Proof.MlpBody
public import proofs.«01_k».proof.Proof.Gen.Kernel4Ideal.Value

@[expose] public section

set_option maxRecDepth 16384

noncomputable section

namespace Cert.Kernel4Ideal.In

open Idealize.ShloMosaic Idealize.ShloMosaic.TcCoe Idealize.SL.Sem
open Idealize.ShloMosaic.Pipeline (Dat)
open Cert.Kernel4Ideal.Gen Cert.Ffn

variable (m : (ℓ : Loc nD τ sig) → Buf (Elt Ideal) ℓ) (c : Dev nD)

/-- Row `i` of the arguments. -/
def argRow (i : Fin 8192) : InRow where
  x d := (m ((c : Thread nD τ).loc main_arg0)) (ix2 i d)
  dx d := (m ((c : Thread nD τ).loc main_arg1)) (ix2 i d)
  n d := (m ((c : Thread nD τ).loc main_arg7)) (ix2 (0 : Fin 1) d)
  sc d := (m ((c : Thread nD τ).loc main_arg8)) (ix2 (0 : Fin 1) d)
  sh d := (m ((c : Thread nD τ).loc main_arg9)) (ix2 (0 : Fin 1) d)
  dp := join (fun j => (m ((c : Thread nD τ).loc main_arg2)) (ix2 i j)) (fun j => (m ((c : Thread nD τ).loc main_arg3)) (ix2 i j))
    (fun j => (m ((c : Thread nD τ).loc main_arg4)) (ix2 i j)) (fun j => (m ((c : Thread nD τ).loc main_arg5)) (ix2 i j))
    fun j => (m ((c : Thread nD τ).loc main_arg6)) (ix2 i j)
  W := widened fun d j => (m ((c : Thread nD τ).loc main_arg10)) (ix2 d j)

/-- The windows' block indices at every point: the rows' windows walk with the point, the others stay. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![0, 0] ∧ win0_8.index t = ![0, 0]
    ∧ win0_9.index t = ![0, 0] ∧ win0_10.index t = ![0, 0] ∧ win0_11.index t = ![t.val, 0]
    ∧ win0_12.index t = ![t.val, 0] ∧ win0_13.index t = ![0, 0] ∧ win0_14.index t = ![0, 0] ∧ t.val < 16 :=
  (by decide +kernel : ∀ t : Fin grid0.N, _)

theorem lt16 (t : Fin cfg0.N) : t.val < 16 := (idx t).2.2.2.2.2.2.2.2.2.2.2.2.2.2.2

/-- The row of the arrays that row `r` of point `t`'s block is, and the rows of the block's two halves. -/
def at_ (t : Fin cfg0.N) (r : Fin 512) : Fin 8192 := ⟨512 * t.val + r.val, by have := lt16 t; omega⟩
def up (r : Fin 256) : Fin 512 := ⟨r.val, by omega⟩
def dn (r : Fin 256) : Fin 512 := ⟨256 + r.val, by omega⟩

/-- A half of a block, read at a row. -/
theorem ld_up {w : Nat} {ty : EltTy} (v : Vec Ideal ⟨2, ![512, w]⟩ ty)
    (inb : ∀ i : Fin 2, (![0, 0] : Fin 2 → ℕ) i + (![256, w] : Fin 2 → ℕ) i ≤ (⟨2, ![512, w]⟩ : Shape).size i) (r : Fin 256)
    (j : Fin w) : View.ld v (Rect.unit (s := ⟨2, ![512, w]⟩) ![0, 0] ![256, w] inb) (ix2 r j) = v (ix2 (up r) j) := by
  refine congrArg v (funext fun i => Fin.ext ?_)
  match i with
  | 0 => exact (show 0 + 1 * r.val = r.val by omega)
  | 1 => exact (show 0 + 1 * j.val = j.val by omega)

theorem ld_dn {w : Nat} {ty : EltTy} (v : Vec Ideal ⟨2, ![512, w]⟩ ty)
    (inb : ∀ i : Fin 2, (![256, 0] : Fin 2 → ℕ) i + (![256, w] : Fin 2 → ℕ) i ≤ (⟨2, ![512, w]⟩ : Shape).size i) (r : Fin 256)
    (j : Fin w) : View.ld v (Rect.unit (s := ⟨2, ![512, w]⟩) ![256, 0] ![256, w] inb) (ix2 r j) = v (ix2 (dn r) j) := by
  refine congrArg v (funext fun i => Fin.ext ?_)
  match i with
  | 0 => exact (show 256 + 1 * r.val = 256 + r.val by omega)
  | 1 => exact (show 0 + 1 * j.val = j.val by omega)

theorem x_apply (t : Fin cfg0.N) (r : Fin 512) (d : Fin 1024) : (show Vec Ideal S512x1024 .f32 from iblk m c 0 t) (ix2 r d)
    = m ((c : Thread nD τ).loc main_arg0) (ix2 (at_ t r) d) := by
  have ht := idx t
  blk_ext [iblk, V, ht, at_]

theorem dx_apply (t : Fin cfg0.N) (r : Fin 512) (d : Fin 1024) : (show Vec Ideal S512x1024 .f32 from iblk m c 1 t) (ix2 r d)
    = m ((c : Thread nD τ).loc main_arg1) (ix2 (at_ t r) d) := by
  have ht := idx t
  blk_ext [iblk, V, ht, at_]

theorem q_apply (t : Fin cfg0.N) (r : Fin 512) (d : Fin 512) : (show Vec Ideal S512x512 .bf16 from iblk m c 2 t) (ix2 r d)
    = m ((c : Thread nD τ).loc main_arg2) (ix2 (at_ t r) d) := by
  have ht := idx t
  blk_ext [iblk, V, ht, at_]

theorem kv_apply (t : Fin cfg0.N) (r : Fin 512) (d : Fin 256) : (show Vec Ideal S512x256 .bf16 from iblk m c 3 t) (ix2 r d)
    = m ((c : Thread nD τ).loc main_arg3) (ix2 (at_ t r) d) := by
  have ht := idx t
  blk_ext [iblk, V, ht, at_]

theorem z_apply (t : Fin cfg0.N) (r : Fin 512) (d : Fin 512) : (show Vec Ideal S512x512 .bf16 from iblk m c 4 t) (ix2 r d)
    = m ((c : Thread nD τ).loc main_arg4) (ix2 (at_ t r) d) := by
  have ht := idx t
  blk_ext [iblk, V, ht, at_]

theorem b_apply (t : Fin cfg0.N) (r : Fin 512) (d : Fin 1024) : (show Vec Ideal S512x1024 .bf16 from iblk m c 5 t) (ix2 r d)
    = m ((c : Thread nD τ).loc main_arg5) (ix2 (at_ t r) d) := by
  have ht := idx t
  blk_ext [iblk, V, ht, at_]

theorem dt_apply (t : Fin cfg0.N) (r : Fin 512) (d : Fin 128) : (show Vec Ideal S512x128 .bf16 from iblk m c 6 t) (ix2 r d)
    = m ((c : Thread nD τ).loc main_arg6) (ix2 (at_ t r) d) := by
  have ht := idx t
  blk_ext [iblk, V, ht, at_]

theorem n_apply (t : Fin cfg0.N) (d : Fin 1024) : (show Vec Ideal S1x1024 .f32 from iblk m c 7 t) (ix2 (0 : Fin 1) d)
    = m ((c : Thread nD τ).loc main_arg7) (ix2 (0 : Fin 1) d) := by
  have ht := idx t
  blk_ext [iblk, V, ht]

theorem sc_apply (t : Fin cfg0.N) (d : Fin 1024) : (show Vec Ideal S1x1024 .f32 from iblk m c 8 t) (ix2 (0 : Fin 1) d)
    = m ((c : Thread nD τ).loc main_arg8) (ix2 (0 : Fin 1) d) := by
  have ht := idx t
  blk_ext [iblk, V, ht]

theorem sh_apply (t : Fin cfg0.N) (d : Fin 1024) : (show Vec Ideal S1x1024 .f32 from iblk m c 9 t) (ix2 (0 : Fin 1) d)
    = m ((c : Thread nD τ).loc main_arg9) (ix2 (0 : Fin 1) d) := by
  have ht := idx t
  blk_ext [iblk, V, ht]

/-- The projection the call gets: the argument's, turned and widened by zeros. -/
theorem host_w (j : Fin 2432) (d : Fin 1024) : (show Vec Ideal S2432x1024 .bf16 from V m c main_v2) (ix2 j d)
    = widened (fun d j => (m ((c : Thread nD τ).loc main_arg10)) (ix2 d j)) j d := by
  show StableHlo.after (List.flatten [hostOps0, hostOps0_1]) (fun b => m (c, b)) (Proc.devRef .tc main_v2) (ix2 j d) = _
  simp only [hostOps0, hostOps0_1, List.flatten_cons, List.flatten_nil, List.append_nil, List.cons_append, List.nil_append]
  entry_read
  change pad (s := S2312x1024) (α := Elt Ideal .bf16) S2432x1024 ![0, 0] ![120, 0] ![0, 0]
    (truncf (F := Ideal) (s := S2312x1024) (φ := FTy.f32) FTy.bf16 (transpose (s := S1024x2312) (α := Elt Ideal .f32) S2312x1024 [1, 0]
      (m ((c : Thread nD τ).loc main_arg10)) transposes_S1024x2312_S2312x1024_1_0) bitsLt_bf16_f32)
    (sitofp (F := Ideal) FTy.bf16 (constantI S_ 32 0#32)) pads_S2312x1024_S2432x1024_01200_000 h_S_ (ix2 j d) = _
  unfold widened
  split_ifs with h
  · pointwise
    exact dif_pos h
  · pointwise
    refine (dif_neg h).trans ?_
    show (((0#32 : BitVec 32).toInt : ℝ) : EReal) = 0
    simp

theorem w_apply (t : Fin cfg0.N) (j : Fin 2432) (d : Fin 1024) : (show Vec Ideal S2432x1024 .bf16 from iblk m c 10 t) (ix2 j d)
    = widened (fun d j => (m ((c : Thread nD τ).loc main_arg10)) (ix2 d j)) j d := by
  have ht := idx t
  refine Eq.trans ?_ (host_w m c j d)
  blk_ext [iblk, ht]

/-- A row of a half of a point's blocks is that row of the arguments. -/
theorem row_up (t : Fin cfg0.N) (r : Fin 256) :
    halfRow (View.ld (iblk m c 0 t) (Rect.unit ![0, 0] ![256, 1024] inb_S512x1024_S256x1024_0_0)) (View.ld (iblk m c 1 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
      (iblk m c 7 t) (iblk m c 8 t) (iblk m c 9 t) (iblk m c 10 t) r = argRow m c (at_ t (up r)) := by
  unfold halfRow argRow
  congr 1
  · funext d; exact (ld_up _ _ r d).trans (x_apply m c t _ d)
  · funext d; exact (ld_up _ _ r d).trans (dx_apply m c t _ d)
  · funext d; exact n_apply m c t d
  · funext d; exact sc_apply m c t d
  · funext d; exact sh_apply m c t d
  · congr 1
    · funext j; exact (ld_up _ _ r j).trans (q_apply m c t _ j)
    · funext j; exact (ld_up _ _ r j).trans (kv_apply m c t _ j)
    · funext j; exact (ld_up _ _ r j).trans (z_apply m c t _ j)
    · funext j; exact (ld_up _ _ r j).trans (b_apply m c t _ j)
    · funext j; exact (ld_up _ _ r j).trans (dt_apply m c t _ j)
  · funext j d; exact w_apply m c t j d

/-- A row of a half of a point's blocks is that row of the arguments. -/
theorem row_dn (t : Fin cfg0.N) (r : Fin 256) :
    halfRow (View.ld (iblk m c 0 t) (Rect.unit ![256, 0] ![256, 1024] inb_S512x1024_S256x1024_256_0)) (View.ld (iblk m c 1 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
      (iblk m c 7 t) (iblk m c 8 t) (iblk m c 9 t) (iblk m c 10 t) r = argRow m c (at_ t (dn r)) := by
  unfold halfRow argRow
  congr 1
  · funext d; exact (ld_dn _ _ r d).trans (x_apply m c t _ d)
  · funext d; exact (ld_dn _ _ r d).trans (dx_apply m c t _ d)
  · funext d; exact n_apply m c t d
  · funext d; exact sc_apply m c t d
  · funext d; exact sh_apply m c t d
  · congr 1
    · funext j; exact (ld_dn _ _ r j).trans (q_apply m c t _ j)
    · funext j; exact (ld_dn _ _ r j).trans (kv_apply m c t _ j)
    · funext j; exact (ld_dn _ _ r j).trans (z_apply m c t _ j)
    · funext j; exact (ld_dn _ _ r j).trans (b_apply m c t _ j)
    · funext j; exact (ld_dn _ _ r j).trans (dt_apply m c t _ j)
  · funext j d; exact w_apply m c t j d

/-- The small block after a point. -/
theorem acc_first (t : Fin cfg0.N) (h : t.val % 16 = 0) : (outsAt0 m c t.val t.isLt).2.2.1
    = accP (View.ld (iblk m c 0 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
      (View.ld (iblk m c 0 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
      (iblk m c 7 t) (iblk m c 8 t) (iblk m c 10 t) (k0_pay4 (F := Ideal)) := by
  rw [outsAt0_A m c t h (by omega)]
  frame_out
  simp (disch := decide) only [Cert.KernelIdeal.Mlp.readCov_eq_ld, View.canon_cons_unit_lit', row_past]
  rfl

theorem acc_later (t : Fin cfg0.N) (h : ¬t.val % 16 = 0) : (outsAt0 m c t.val t.isLt).2.2.1
    = accP (View.ld (iblk m c 0 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
      (View.ld (iblk m c 0 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
      (iblk m c 7 t) (iblk m c 8 t) (iblk m c 10 t) (outsAt0 m c (t.val - 1) (lt_of_le_of_lt (Nat.sub_le _ _) t.isLt)).2.2.1 := by
  by_cases h1 : t.val % 16 = 15
  · rw [outsAt0_C m c t h h1]
    frame_out
    exact (writes_over _ _ (Memref.IsWhole.read_unread _ _) _)
  · rw [outsAt0_B m c t h h1]
    frame_out
    exact (writes_over _ _ (Memref.IsWhole.read_unread _ _) _)

/-- The gradient of the projection after a point. -/
theorem w_first (t : Fin cfg0.N) (h : t.val % 16 = 0) (j : Fin 2432) (d : Fin 512) :
    (outsAt0 m c t.val t.isLt).2.2.2.2 (ix2 j d) = (0 : EReal) + (halfW (View.ld (iblk m c 0 t) (Rect.unit ![0, 0] ![256, 1024] inb_S512x1024_S256x1024_0_0)) (View.ld (iblk m c 1 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
      (iblk m c 7 t) (iblk m c 8 t) (iblk m c 9 t) (iblk m c 10 t) j d + halfW (View.ld (iblk m c 0 t) (Rect.unit ![256, 0] ![256, 1024] inb_S512x1024_S256x1024_256_0)) (View.ld (iblk m c 1 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
      (iblk m c 7 t) (iblk m c 8 t) (iblk m c 9 t) (iblk m c 10 t) j d) := by
  rw [outsAt0_A m c t h (by omega)]
  frame_out
  refine (w_step (View.ld (iblk m c 0 t) (Rect.unit ![0, 0] ![256, 1024] inb_S512x1024_S256x1024_0_0)) (View.ld (iblk m c 1 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
      (View.ld (iblk m c 0 t) (Rect.unit ![256, 0] ![256, 1024] inb_S512x1024_S256x1024_256_0)) (View.ld (iblk m c 1 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
      (iblk m c 7 t) (iblk m c 8 t) (iblk m c 9 t) (iblk m c 10 t) _ j d).trans ?_
  refine congrArg (· + _) ?_
  pointwise [k0_pay5]

theorem w_later (t : Fin cfg0.N) (h : ¬t.val % 16 = 0) (j : Fin 2432) (d : Fin 512) :
    (outsAt0 m c t.val t.isLt).2.2.2.2 (ix2 j d)
      = (outsAt0 m c (t.val - 1) (lt_of_le_of_lt (Nat.sub_le _ _) t.isLt)).2.2.2.2 (ix2 j d) + (halfW (View.ld (iblk m c 0 t) (Rect.unit ![0, 0] ![256, 1024] inb_S512x1024_S256x1024_0_0)) (View.ld (iblk m c 1 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
      (iblk m c 7 t) (iblk m c 8 t) (iblk m c 9 t) (iblk m c 10 t) j d + halfW (View.ld (iblk m c 0 t) (Rect.unit ![256, 0] ![256, 1024] inb_S512x1024_S256x1024_256_0)) (View.ld (iblk m c 1 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
      (iblk m c 7 t) (iblk m c 8 t) (iblk m c 9 t) (iblk m c 10 t) j d) := by
  by_cases h1 : t.val % 16 = 15
  · rw [outsAt0_C m c t h h1]
    frame_out
    simp only [read_unread_whole]
    exact w_step (View.ld (iblk m c 0 t) (Rect.unit ![0, 0] ![256, 1024] inb_S512x1024_S256x1024_0_0)) (View.ld (iblk m c 1 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
      (View.ld (iblk m c 0 t) (Rect.unit ![256, 0] ![256, 1024] inb_S512x1024_S256x1024_256_0)) (View.ld (iblk m c 1 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
      (iblk m c 7 t) (iblk m c 8 t) (iblk m c 9 t) (iblk m c 10 t) _ j d
  · rw [outsAt0_B m c t h h1]
    frame_out
    simp only [read_unread_whole]
    exact w_step (View.ld (iblk m c 0 t) (Rect.unit ![0, 0] ![256, 1024] inb_S512x1024_S256x1024_0_0)) (View.ld (iblk m c 1 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
      (View.ld (iblk m c 0 t) (Rect.unit ![256, 0] ![256, 1024] inb_S512x1024_S256x1024_256_0)) (View.ld (iblk m c 1 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
      (iblk m c 7 t) (iblk m c 8 t) (iblk m c 9 t) (iblk m c 10 t) _ j d

/-- What the last point stores of it is it, rounded: the identity over the extended reals. -/
theorem w_out (t : Fin cfg0.N) (h : t.val % 16 = 15) (j : Fin 2432) (d : Fin 512) :
    (outsAt0 m c t.val t.isLt).2.2.2.1 (ix2 j d) = (outsAt0 m c t.val t.isLt).2.2.2.2 (ix2 j d) := by
  rw [outsAt0_C m c t (by omega) h]; frame_out; pointwise [k0_pay3]

/-- A block stored half by half is what its halves are. -/
theorem halves {ty : EltTy} (G : Vec Ideal S512x1024 ty) (a b : Vec Ideal S256x1024 ty)
    (ha : ∀ r d, a (ix2 r d) = G (ix2 (up r) d)) (hb : ∀ r d, b (ix2 r d) = G (ix2 (dn r) d)) :
    View.canon (Val := Elt Ideal) [⟨Rect.unit ![256, 0] ![256, 1024] inb_S512x1024_S256x1024_256_0, b⟩,
      ⟨Rect.unit ![0, 0] ![256, 1024] inb_S512x1024_S256x1024_0_0, a⟩] = G := by
  funext y
  refine View.canon_append_of_piecesOf G [] [⟨Rect.unit ![256, 0] ![256, 1024] inb_S512x1024_S256x1024_256_0, b⟩,
      ⟨Rect.unit ![0, 0] ![256, 1024] inb_S512x1024_S256x1024_0_0, a⟩] (show _ ∧ _ ∧ True from ⟨fun x => ?_, fun x => ?_, trivial⟩) y ?_
  · obtain ⟨r, d, rfl⟩ : ∃ (r : Fin 256) (d : Fin 1024), ix2 r d = x :=
      ⟨x 0, x 1, by funext i; match i with | 0 => rfl | 1 => rfl⟩
    refine (hb r d).trans (congrArg G (funext fun i => Fin.ext ?_))
    match i with
    | 0 => exact (show 256 + r.val = 256 + 1 * r.val by omega)
    | 1 => exact (show d.val = 0 + 1 * d.val by omega)
  · obtain ⟨r, d, rfl⟩ : ∃ (r : Fin 256) (d : Fin 1024), ix2 r d = x :=
      ⟨x 0, x 1, by funext i; match i with | 0 => rfl | 1 => rfl⟩
    refine (ha r d).trans (congrArg G (funext fun i => Fin.ext ?_))
    match i with
    | 0 => exact (show r.val = 0 + 1 * r.val by omega)
    | 1 => exact (show d.val = 0 + 1 * d.val by omega)
  · have h0 : (y 0).val < 512 := (y 0).isLt
    have h1 : (y 1).val < 1024 := (y 1).isLt
    by_cases h : (y 0).val < 256
    · refine ⟨_, .tail _ (.head _), Rect.mem_set_unit (s := S512x1024) (off := ![0, 0]) (size := ![256, 1024])
        (inb := inb_S512x1024_S256x1024_0_0) |>.mpr fun i => ?_⟩
      match i with
      | 0 => exact ⟨Nat.zero_le _, (show (y 0).val < 0 + 256 by omega)⟩
      | 1 => exact ⟨Nat.zero_le _, (show (y 1).val < 0 + 1024 by omega)⟩
    · refine ⟨_, .head _, Rect.mem_set_unit (s := S512x1024) (off := ![256, 0]) (size := ![256, 1024])
        (inb := inb_S512x1024_S256x1024_256_0) |>.mpr fun i => ?_⟩
      match i with
      | 0 => exact ⟨(show 256 ≤ (y 0).val by omega), (show (y 0).val < 256 + 256 by omega)⟩
      | 1 => exact ⟨Nat.zero_le _, (show (y 1).val < 0 + 1024 by omega)⟩

theorem grad_block (hr : ∀ i, (argRow m c i).Real) (t : Fin cfg0.N) : (outsAt0 m c t.val t.isLt).1 = fun y : S512x1024.Idx => (argRow m c (at_ t (y 0))).grad (y 1) := by
  by_cases h0 : t.val % 16 = 0
  · rw [outsAt0_A m c t h0 (by omega)]
    frame_out
    refine halves (ty := .f32) (fun y : S512x1024.Idx => (argRow m c (at_ t (y 0))).grad (y 1)) _ _ (fun r d => ?_) (fun r d => ?_)
    · exact (h_gradT
        (View.ld (iblk m c 0 t) (Rect.unit ![0, 0] ![256, 1024] inb_S512x1024_S256x1024_0_0)) (View.ld (iblk m c 1 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
        (iblk m c 7 t) (iblk m c 8 t) (iblk m c 9 t) (iblk m c 10 t) r d).trans (by rw [row_up, (hr _).gradN_eq]; rfl)
    · exact (h_gradB
        (View.ld (iblk m c 0 t) (Rect.unit ![256, 0] ![256, 1024] inb_S512x1024_S256x1024_256_0)) (View.ld (iblk m c 1 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
        (iblk m c 7 t) (iblk m c 8 t) (iblk m c 9 t) (iblk m c 10 t) r d).trans (by rw [row_dn, (hr _).gradN_eq]; rfl)
  · by_cases h1 : t.val % 16 = 15
    · rw [outsAt0_C m c t h0 h1]
      frame_out
      refine halves (ty := .f32) (fun y : S512x1024.Idx => (argRow m c (at_ t (y 0))).grad (y 1)) _ _ (fun r d => ?_) (fun r d => ?_)
      · exact (h_gradT
          (View.ld (iblk m c 0 t) (Rect.unit ![0, 0] ![256, 1024] inb_S512x1024_S256x1024_0_0)) (View.ld (iblk m c 1 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
          (iblk m c 7 t) (iblk m c 8 t) (iblk m c 9 t) (iblk m c 10 t) r d).trans (by rw [row_up, (hr _).gradN_eq]; rfl)
      · exact (h_gradB
          (View.ld (iblk m c 0 t) (Rect.unit ![256, 0] ![256, 1024] inb_S512x1024_S256x1024_256_0)) (View.ld (iblk m c 1 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
          (iblk m c 7 t) (iblk m c 8 t) (iblk m c 9 t) (iblk m c 10 t) r d).trans (by rw [row_dn, (hr _).gradN_eq]; rfl)
    · rw [outsAt0_B m c t h0 h1]
      frame_out
      refine halves (ty := .f32) (fun y : S512x1024.Idx => (argRow m c (at_ t (y 0))).grad (y 1)) _ _ (fun r d => ?_) (fun r d => ?_)
      · exact (h_gradT
          (View.ld (iblk m c 0 t) (Rect.unit ![0, 0] ![256, 1024] inb_S512x1024_S256x1024_0_0)) (View.ld (iblk m c 1 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
          (iblk m c 7 t) (iblk m c 8 t) (iblk m c 9 t) (iblk m c 10 t) r d).trans (by rw [row_up, (hr _).gradN_eq]; rfl)
      · exact (h_gradB
          (View.ld (iblk m c 0 t) (Rect.unit ![256, 0] ![256, 1024] inb_S512x1024_S256x1024_256_0)) (View.ld (iblk m c 1 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
          (iblk m c 7 t) (iblk m c 8 t) (iblk m c 9 t) (iblk m c 10 t) r d).trans (by rw [row_dn, (hr _).gradN_eq]; rfl)

theorem hid_block (t : Fin cfg0.N) : (outsAt0 m c t.val t.isLt).2.1 = fun y : S512x1024.Idx => (argRow m c (at_ t (y 0))).hid (y 1) := by
  by_cases h0 : t.val % 16 = 0
  · rw [outsAt0_A m c t h0 (by omega)]
    frame_out
    refine halves (ty := .bf16) (fun y : S512x1024.Idx => (argRow m c (at_ t (y 0))).hid (y 1)) _ _ (fun r d => ?_) (fun r d => ?_)
    · exact (h_hidT
        (View.ld (iblk m c 0 t) (Rect.unit ![0, 0] ![256, 1024] inb_S512x1024_S256x1024_0_0)) (View.ld (iblk m c 1 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
        (iblk m c 7 t) (iblk m c 8 t) (iblk m c 9 t) (iblk m c 10 t) r d).trans (by simp only [row_up]; rfl)
    · exact (h_hidB'
        (View.ld (iblk m c 0 t) (Rect.unit ![256, 0] ![256, 1024] inb_S512x1024_S256x1024_256_0)) (View.ld (iblk m c 1 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
        (iblk m c 7 t) (iblk m c 8 t) (iblk m c 9 t) (iblk m c 10 t) r d).trans (by simp only [row_dn]; rfl)
  · by_cases h1 : t.val % 16 = 15
    · rw [outsAt0_C m c t h0 h1]
      frame_out
      refine halves (ty := .bf16) (fun y : S512x1024.Idx => (argRow m c (at_ t (y 0))).hid (y 1)) _ _ (fun r d => ?_) (fun r d => ?_)
      · exact (h_hidT
          (View.ld (iblk m c 0 t) (Rect.unit ![0, 0] ![256, 1024] inb_S512x1024_S256x1024_0_0)) (View.ld (iblk m c 1 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
          (iblk m c 7 t) (iblk m c 8 t) (iblk m c 9 t) (iblk m c 10 t) r d).trans (by simp only [row_up]; rfl)
      · exact (h_hidB'
          (View.ld (iblk m c 0 t) (Rect.unit ![256, 0] ![256, 1024] inb_S512x1024_S256x1024_256_0)) (View.ld (iblk m c 1 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
          (iblk m c 7 t) (iblk m c 8 t) (iblk m c 9 t) (iblk m c 10 t) r d).trans (by simp only [row_dn]; rfl)
    · rw [outsAt0_B m c t h0 h1]
      frame_out
      refine halves (ty := .bf16) (fun y : S512x1024.Idx => (argRow m c (at_ t (y 0))).hid (y 1)) _ _ (fun r d => ?_) (fun r d => ?_)
      · exact (h_hidT
          (View.ld (iblk m c 0 t) (Rect.unit ![0, 0] ![256, 1024] inb_S512x1024_S256x1024_0_0)) (View.ld (iblk m c 1 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
          (iblk m c 7 t) (iblk m c 8 t) (iblk m c 9 t) (iblk m c 10 t) r d).trans (by simp only [row_up]; rfl)
      · exact (h_hidB'
          (View.ld (iblk m c 0 t) (Rect.unit ![256, 0] ![256, 1024] inb_S512x1024_S256x1024_256_0)) (View.ld (iblk m c 1 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
          (iblk m c 7 t) (iblk m c 8 t) (iblk m c 9 t) (iblk m c 10 t) r d).trans (by simp only [row_dn]; rfl)

theorem final_grad (hr : ∀ i, (argRow m c i).Real) : (dats m 0 c).arrAt 11 (cfgs 0).N = fun y : S8192x1024.Idx => (argRow m c (y 0)).grad (y 1) := by
  refine (dats m 0 c).arrAt_eq_of_covers 11 _ (by decide +kernel) fun t hf y => ?_
  have ht := idx t
  blk_simp
  rw [after0_11]
  obtain ⟨r, d, rfl⟩ : ∃ (r : Fin 512) (d : Fin 1024), ix2 r d = y :=
    ⟨y 0, y 1, by funext i; match i with | 0 => rfl | 1 => rfl⟩
  have e : (win0_11.blk t).view.emb (ix2 r d) = ix2 (at_ t r) d := by
    blk_point [ht, at_]
  refine Eq.trans ?_ (congrArg (fun y : S8192x1024.Idx => (argRow m c (y 0)).grad (y 1)) e).symm
  exact congrFun (grad_block m c hr t) (ix2 r d)

theorem final_hid : (dats m 0 c).arrAt 12 (cfgs 0).N = fun y : S8192x1024.Idx => (argRow m c (y 0)).hid (y 1) := by
  refine (dats m 0 c).arrAt_eq_of_covers 12 _ (by decide +kernel) fun t hf y => ?_
  have ht := idx t
  blk_simp
  rw [after0_12]
  obtain ⟨r, d, rfl⟩ : ∃ (r : Fin 512) (d : Fin 1024), ix2 r d = y :=
    ⟨y 0, y 1, by funext i; match i with | 0 => rfl | 1 => rfl⟩
  have e : (win0_12.blk t).view.emb (ix2 r d) = ix2 (at_ t r) d := by
    blk_point [ht, at_]
  refine Eq.trans ?_ (congrArg (fun y : S8192x1024.Idx => (argRow m c (y 0)).hid (y 1)) e).symm
  exact congrFun (hid_block m c t) (ix2 r d)

/-- The points' sums of two halves are the sums of the points' 512 rows, and those of all points the sums of all rows. -/
theorem sum_halves (f : Fin 8192 → EReal) :
    ∑ t : Fin cfg0.N, ((∑ r, f (at_ t (up r))) + ∑ r, f (at_ t (dn r))) = ∑ i, f i := by
  refine (Finset.sum_congr rfl fun t _ => (Fin.sum_univ_add (a := 256) (b := 256) fun r => f (at_ t r)).symm).trans ?_
  refine Fin.sum_mul_add_congr (L := 8192) (S := cfg0.N) (n := 512) (fun t r hl => ?_) (by rw [show cfg0.N = 16 from N_0])
  exact congrArg f (Fin.ext (show 512 * t.val + r.val = t.val * 512 + r.val by omega))

/-- After the last point the small block holds every row's parts. -/
theorem acc_last (hr : ∀ i, (argRow m c i).Real) (t : Fin cfg0.N) (ht : t.val + 1 = cfg0.N) (i : Fin 8) (d : Fin 1024) :
    (outsAt0 m c t.val t.isLt).2.2.1 (ix2 i d) = ∑ k, (argRow m c k).part i d := by
  have hN : cfg0.N = 16 := N_0
  have key := Pipeline.eq_sum_fin_of_reset_step_apply_last (fun n h => (outsAt0 m c n h).2.2.1) 16 (fun _ => (0 : EReal))
    (fun t y => ptSum (View.ld (iblk m c 0 t) (Rect.unit ![0, 0] ![256, 1024] inb_S512x1024_S256x1024_0_0)) (View.ld (iblk m c 1 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
      (View.ld (iblk m c 0 t) (Rect.unit ![256, 0] ![256, 1024] inb_S512x1024_S256x1024_256_0)) (View.ld (iblk m c 1 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
      (iblk m c 7 t) (iblk m c 8 t) (iblk m c 9 t) (iblk m c 10 t) (y 0) (y 1))
    (fun t h y => by
      obtain ⟨i, d, rfl⟩ : ∃ (i : Fin 8) (d : Fin 1024), ix2 i d = y :=
        ⟨y 0, y 1, by funext i; match i with | 0 => rfl | 1 => rfl⟩
      rw [acc_first m c t h]
      refine (accP_apply (View.ld (iblk m c 0 t) (Rect.unit ![0, 0] ![256, 1024] inb_S512x1024_S256x1024_0_0)) (View.ld (iblk m c 1 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
        (View.ld (iblk m c 0 t) (Rect.unit ![256, 0] ![256, 1024] inb_S512x1024_S256x1024_256_0)) (View.ld (iblk m c 1 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
        (iblk m c 7 t) (iblk m c 8 t) (iblk m c 9 t) (iblk m c 10 t) _ i d).trans (congrArg (· + _) ?_)
      pointwise [k0_pay4])
    (fun t h y => by
      obtain ⟨i, d, rfl⟩ : ∃ (i : Fin 8) (d : Fin 1024), ix2 i d = y :=
        ⟨y 0, y 1, by funext i; match i with | 0 => rfl | 1 => rfl⟩
      rw [acc_later m c t h]
      exact accP_apply (View.ld (iblk m c 0 t) (Rect.unit ![0, 0] ![256, 1024] inb_S512x1024_S256x1024_0_0)) (View.ld (iblk m c 1 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
        (View.ld (iblk m c 0 t) (Rect.unit ![256, 0] ![256, 1024] inb_S512x1024_S256x1024_256_0)) (View.ld (iblk m c 1 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
        (iblk m c 7 t) (iblk m c 8 t) (iblk m c 9 t) (iblk m c 10 t) _ i d)
    (le_of_eq hN) t ht (ix2 i d)
  refine key.trans ?_
  rw [zero_add]
  refine Eq.trans (Finset.sum_congr rfl fun t _ => ?_) (sum_halves fun k => (argRow m c k).part i d)
  show halfSum _ _ _ _ _ _ _ _ _ _ _ i d + halfSum _ _ _ _ _ _ _ _ _ _ _ i d = _
  rw [halfSum_eq _ _ _ _ _ _ _ _ _ _ _ (fun r => by rw [row_up]; exact hr _),
    halfSum_eq _ _ _ _ _ _ _ _ _ _ _ (fun r => by rw [row_dn]; exact hr _)]
  simp only [row_up, row_dn]

theorem final_acc (hr : ∀ i, (argRow m c i).Real) : (dats m 0 c).arrAt 13 (cfgs 0).N = fun y : S8x1024.Idx => ∑ k, (argRow m c k).part (y 0) (y 1) := by
  refine (dats m 0 c).arrAt_eq_of_covers 13 _ (by decide +kernel) fun t hf y => ?_
  have ht := idx t
  have hl := (flush0_13 t).mp hf
  blk_simp
  rw [after0_13]
  obtain ⟨i, d, rfl⟩ : ∃ (i : Fin 8) (d : Fin 1024), ix2 i d = y :=
    ⟨y 0, y 1, by funext i; match i with | 0 => rfl | 1 => rfl⟩
  have e : (win0_13.blk t).view.emb (ix2 i d) = ix2 i d := by
    blk_point [ht]
  refine Eq.trans ?_ (congrArg (fun y : S8x1024.Idx => ∑ k, (argRow m c k).part (y 0) (y 1)) e).symm
  exact acc_last m c hr t (by have := lt16 t; have : cfg0.N = 16 := N_0; omega) i d

/-- A column of the first half among all columns. -/
abbrev low (d : Fin 512) : Fin 1024 := ⟨d.val, by omega⟩

/-- After the last point the scratch memory holds the gradient of the projection. -/
theorem w_last (t : Fin cfg0.N) (ht : t.val + 1 = cfg0.N) (j : Fin 2432) (d : Fin 512) :
    (outsAt0 m c t.val t.isLt).2.2.2.2 (ix2 j d) = ∑ k, (argRow m c k).dp j * (argRow m c k).hid ⟨d.val, by omega⟩ := by
  have hN : cfg0.N = 16 := N_0
  have key := Pipeline.eq_sum_fin_of_reset_step_apply_last (fun n h => (outsAt0 m c n h).2.2.2.2) 16 (fun _ => (0 : EReal))
    (fun t y => halfW (View.ld (iblk m c 0 t) (Rect.unit ![0, 0] ![256, 1024] inb_S512x1024_S256x1024_0_0)) (View.ld (iblk m c 1 t) (Rect.unit ![0, 0] ![256, 1024] inb_S512x1024_S256x1024_0_0)) (View.ld (iblk m c 2 t) (Rect.unit ![0, 0] ![256, 512] inb_S512x512_S256x512_0_0)) (View.ld (iblk m c 3 t) (Rect.unit ![0, 0] ![256, 256] inb_S512x256_S256x256_0_0)) (View.ld (iblk m c 4 t) (Rect.unit ![0, 0] ![256, 512] inb_S512x512_S256x512_0_0)) (View.ld (iblk m c 5 t) (Rect.unit ![0, 0] ![256, 1024] inb_S512x1024_S256x1024_0_0)) (View.ld (iblk m c 6 t) (Rect.unit ![0, 0] ![256, 128] inb_S512x128_S256x128_0_0))
      (iblk m c 7 t) (iblk m c 8 t) (iblk m c 9 t) (iblk m c 10 t) (y 0) (y 1) + halfW (View.ld (iblk m c 0 t) (Rect.unit ![256, 0] ![256, 1024] inb_S512x1024_S256x1024_256_0)) (View.ld (iblk m c 1 t) (Rect.unit ![256, 0] ![256, 1024] inb_S512x1024_S256x1024_256_0)) (View.ld (iblk m c 2 t) (Rect.unit ![256, 0] ![256, 512] inb_S512x512_S256x512_256_0)) (View.ld (iblk m c 3 t) (Rect.unit ![256, 0] ![256, 256] inb_S512x256_S256x256_256_0)) (View.ld (iblk m c 4 t) (Rect.unit ![256, 0] ![256, 512] inb_S512x512_S256x512_256_0)) (View.ld (iblk m c 5 t) (Rect.unit ![256, 0] ![256, 1024] inb_S512x1024_S256x1024_256_0)) (View.ld (iblk m c 6 t) (Rect.unit ![256, 0] ![256, 128] inb_S512x128_S256x128_256_0))
      (iblk m c 7 t) (iblk m c 8 t) (iblk m c 9 t) (iblk m c 10 t) (y 0) (y 1))
    (fun t h y => by
      obtain ⟨j, d, rfl⟩ : ∃ (j : Fin 2432) (d : Fin 512), ix2 j d = y :=
        ⟨y 0, y 1, by funext i; match i with | 0 => rfl | 1 => rfl⟩
      exact w_first m c t h j d)
    (fun t h y => by
      obtain ⟨j, d, rfl⟩ : ∃ (j : Fin 2432) (d : Fin 512), ix2 j d = y :=
        ⟨y 0, y 1, by funext i; match i with | 0 => rfl | 1 => rfl⟩
      exact w_later m c t h j d)
    (le_of_eq hN) t ht (ix2 j d)
  refine key.trans ?_
  rw [zero_add]
  refine Eq.trans (Finset.sum_congr rfl fun t _ => ?_)
    (sum_halves fun k => (argRow m c k).dp j * (argRow m c k).hid ⟨d.val, by omega⟩)
  show halfW _ _ _ _ _ _ _ _ _ _ _ j d + halfW _ _ _ _ _ _ _ _ _ _ _ j d = _
  unfold halfW
  simp only [row_up, row_dn]

theorem final_w : (dats m 0 c).arrAt 14 (cfgs 0).N
    = fun y : S2432x512.Idx => ∑ k, (argRow m c k).dp (y 0) * (argRow m c k).hid (low (y 1)) := by
  refine (dats m 0 c).arrAt_eq_of_covers 14 _ (by decide +kernel) fun t hf y => ?_
  have ht := idx t
  have hl := (flush0_14 t).mp hf
  blk_simp
  rw [after0_14]
  obtain ⟨j, d, rfl⟩ : ∃ (j : Fin 2432) (d : Fin 512), ix2 j d = y :=
    ⟨y 0, y 1, by funext i; match i with | 0 => rfl | 1 => rfl⟩
  have e : (win0_14.blk t).view.emb (ix2 j d) = ix2 j d := by
    blk_point [ht]
  refine Eq.trans ?_ (congrArg (fun y : S2432x512.Idx => ∑ k, (argRow m c k).dp (y 0)
    * (argRow m c k).hid (low (y 1))) e).symm
  exact (w_out m c t hl j d).trans (w_last m c t (by have := lt16 t; have : cfg0.N = 16 := N_0; omega) j d)

end Cert.Kernel4Ideal.In

end
-- ==== Proof.InRef.lean ====
/- The reference of the input projection's backward call, row by row: every buffer of it read at row `i` is the row's
   mathematics of InMath. -/
module

public import proofs.«01_k».proof.Proof.InMath
public import proofs.«01_k».proof.Proof.MlpRef
public import proofs.«01_k».proof.Proof.Gen.Reference4Ideal.Read
public import Idealize.ShloMosaic.Lib.Pointwise

@[expose] public section

set_option maxRecDepth 16384

noncomputable section

namespace Cert.Reference4Ideal.In

open Idealize.ShloMosaic
open Cert.Reference4Ideal.Read Cert.Ffn
open Cert.ReferenceIdeal.Rows (div1024)

variable (x0 x1 : Vec Ideal S8192x1024 .f32) (x2 : Vec Ideal S8192x512 .bf16) (x3 : Vec Ideal S8192x256 .bf16)
  (x4 : Vec Ideal S8192x512 .bf16) (x5 : Vec Ideal S8192x1024 .bf16) (x6 : Vec Ideal S8192x128 .bf16)
  (x7 x8 x9 : Vec Ideal S1x1024 .f32) (x10 : Vec Ideal S1024x2312 .f32) (i : Fin 8192)

/-- Row `i` of the reference's arguments. -/
def row : InRow where
  x d := x0 (ix2 i d)
  dx d := x1 (ix2 i d)
  n d := x7 (ix2 (0 : Fin 1) d)
  sc d := x8 (ix2 (0 : Fin 1) d)
  sh d := x9 (ix2 (0 : Fin 1) d)
  dp := join (fun j => x2 (ix2 i j)) (fun j => x3 (ix2 i j)) (fun j => x4 (ix2 i j)) (fun j => x5 (ix2 i j))
    fun j => x6 (ix2 i j)
  W := widened fun d j => x10 (ix2 d j)

include x0 x1 x2 x3 x4 x5 x6 x7 x8 x9 x10

theorem r_v0 (d : Fin 1024) (j : Fin 2432) :
    val_main_v0 (F := Ideal) x10 (ix2 d j) = widened (fun d j => x10 (ix2 d j)) j d := by
  pointwise [val_main_v0, val_main_call0_v0, val_main_c]
  unfold widened
  split_ifs with h
  · rfl
  · show (((0#32 : BitVec 32).toInt : ℝ) : EReal) = 0
    simp

theorem r_v6 (j : Fin 2432) :
    val_main_v6 (F := Ideal) x2 x3 x4 x5 x6 (ix2 i j) = (row x0 x1 x2 x3 x4 x5 x6 x7 x8 x9 x10 i).dp j := by
  pointwise [val_main_v6, val_main_v1, val_main_v2, val_main_v3, val_main_v4, val_main_v5]
  rfl

theorem r_v13 :
    val_main_v13 (F := Ideal) x0 (ix2 i (0 : Fin 1)) = msq (row x0 x1 x2 x3 x4 x5 x6 x7 x8 x9 x10 i).x := by
  pointwise [val_main_v13, val_main_v11, val_main_v10, val_main_v9, val_main_v8, val_main_v7, val_main_v12, val_main_cst, val_main_cst_0, val_main_cst_1]
  rw [div1024]; rfl

theorem r_v14 :
    val_main_v14 (F := Ideal) x0 (ix2 i (0 : Fin 1)) = root (row x0 x1 x2 x3 x4 x5 x6 x7 x8 x9 x10 i).x := by
  pointwise [val_main_v14]
  rw [r_v13 x0 x1 x2 x3 x4 x5 x6 x7 x8 x9 x10]; rfl

theorem r_v17 :
    val_main_v17 (F := Ideal) x0 (ix2 i (0 : Fin 1)) = slope (row x0 x1 x2 x3 x4 x5 x6 x7 x8 x9 x10 i).x := by
  pointwise [val_main_v17, val_main_v15, val_main_v16, val_main_cst_2]
  rw [r_v13 x0 x1 x2 x3 x4 x5 x6 x7 x8 x9 x10, r_v14 x0 x1 x2 x3 x4 x5 x6 x7 x8 x9 x10]; rfl

theorem r_v19 (d : Fin 1024) :
    val_main_v19 (F := Ideal) x0 (ix2 i d) = (row x0 x1 x2 x3 x4 x5 x6 x7 x8 x9 x10 i).normed d := by
  pointwise [val_main_v19, val_main_v18]
  rw [r_v14 x0 x1 x2 x3 x4 x5 x6 x7 x8 x9 x10]; rfl

theorem r_v21 (d : Fin 1024) :
    val_main_v21 (F := Ideal) x0 x7 (ix2 i d) = (row x0 x1 x2 x3 x4 x5 x6 x7 x8 x9 x10 i).weighted d := by
  pointwise [val_main_v21, val_main_v20]
  rw [r_v19 x0 x1 x2 x3 x4 x5 x6 x7 x8 x9 x10]; rfl

theorem r_v23 (d : Fin 1024) :
    val_main_v23 (F := Ideal) x8 (ix2 (0 : Fin 1) d) = (row x0 x1 x2 x3 x4 x5 x6 x7 x8 x9 x10 i).scale d := by
  pointwise [val_main_v23, val_main_v22, val_main_cst_3]
  rfl

theorem r_v27 (d : Fin 1024) :
    val_main_v27 (F := Ideal) x0 x7 x8 x9 (ix2 i d) = (row x0 x1 x2 x3 x4 x5 x6 x7 x8 x9 x10 i).hid d := by
  pointwise [val_main_v27, val_main_v25, val_main_v24, val_main_v26]
  rw [r_v21 x0 x1 x2 x3 x4 x5 x6 x7 x8 x9 x10, r_v23 x0 x1 x2 x3 x4 x5 x6 x7 x8 x9 x10]; rfl

theorem r_v31 (d : Fin 1024) :
    val_main_v31 (F := Ideal) x2 x3 x4 x5 x6 x10 (ix2 i d) = (row x0 x1 x2 x3 x4 x5 x6 x7 x8 x9 x10 i).dhid d := by
  pointwise [val_main_v31]
  simp only [r_v0 x0 x1 x2 x3 x4 x5 x6 x7 x8 x9 x10, r_v6 x0 x1 x2 x3 x4 x5 x6 x7 x8 x9 x10]; rfl

theorem r_v38 (d : Fin 1024) :
    val_main_v38 (F := Ideal) x2 x3 x4 x5 x6 x8 x10 (ix2 i d) = (row x0 x1 x2 x3 x4 x5 x6 x7 x8 x9 x10 i).dscaled d := by
  pointwise [val_main_v38, val_main_v37]
  rw [r_v23 x0 x1 x2 x3 x4 x5 x6 x7 x8 x9 x10, r_v31 x0 x1 x2 x3 x4 x5 x6 x7 x8 x9 x10]; rfl

theorem r_v43 (d : Fin 1024) :
    val_main_v43 (F := Ideal) x2 x3 x4 x5 x6 x7 x8 x10 (ix2 i d) = (row x0 x1 x2 x3 x4 x5 x6 x7 x8 x9 x10 i).dnormed d := by
  pointwise [val_main_v43, val_main_v42]
  rw [r_v38 x0 x1 x2 x3 x4 x5 x6 x7 x8 x9 x10]; rfl

theorem r_v57 (d : Fin 1024) :
    val_main_v57 (F := Ideal) x0 x2 x3 x4 x5 x6 x7 x8 x10 (ix2 i d) = back (row x0 x1 x2 x3 x4 x5 x6 x7 x8 x9 x10 i).x (row x0 x1 x2 x3 x4 x5 x6 x7 x8 x9 x10 i).dnormed d := by
  pointwise [val_main_v57, val_main_v55, val_main_v48, val_main_v47, val_main_v54, val_main_v53, val_main_v52, val_main_v51, val_main_v49, val_main_v46, val_main_v45, val_main_v44, val_main_v50, val_main_v56, val_main_cst_7, val_main_cst_8, val_main_cst_9]
  simp only [r_v14 x0 x1 x2 x3 x4 x5 x6 x7 x8 x9 x10, r_v17 x0 x1 x2 x3 x4 x5 x6 x7 x8 x9 x10, r_v43 x0 x1 x2 x3 x4 x5 x6 x7 x8 x9 x10]
  rw [Fin.sum_univ_one]; simp only [r_v17 x0 x1 x2 x3 x4 x5 x6 x7 x8 x9 x10]; rw [div1024]; rfl

theorem r_v33 (d : Fin 1024) :
    val_main_v33 (F := Ideal) x2 x3 x4 x5 x6 x10 (ix2 (0 : Fin 1) d) = ∑ i, (row x0 x1 x2 x3 x4 x5 x6 x7 x8 x9 x10 i).dhid d := by
  pointwise [val_main_v33, val_main_v32, val_main_cst_4]
  simp only [r_v31 x0 x1 x2 x3 x4 x5 x6 x7 x8 x9 x10]

theorem r_v36 (d : Fin 1024) :
    val_main_v36 (F := Ideal) x0 x2 x3 x4 x5 x6 x7 x10 (ix2 (0 : Fin 1) d) = ∑ i, (row x0 x1 x2 x3 x4 x5 x6 x7 x8 x9 x10 i).weighted d * (row x0 x1 x2 x3 x4 x5 x6 x7 x8 x9 x10 i).dhid d := by
  pointwise [val_main_v36, val_main_v35, val_main_v34, val_main_cst_5]
  simp only [r_v21 x0 x1 x2 x3 x4 x5 x6 x7 x8 x9 x10, r_v31 x0 x1 x2 x3 x4 x5 x6 x7 x8 x9 x10]

theorem r_v41 (d : Fin 1024) :
    val_main_v41 (F := Ideal) x0 x2 x3 x4 x5 x6 x8 x10 (ix2 (0 : Fin 1) d) = ∑ i, (row x0 x1 x2 x3 x4 x5 x6 x7 x8 x9 x10 i).normed d * (row x0 x1 x2 x3 x4 x5 x6 x7 x8 x9 x10 i).dscaled d := by
  pointwise [val_main_v41, val_main_v40, val_main_v39, val_main_cst_6]
  simp only [r_v19 x0 x1 x2 x3 x4 x5 x6 x7 x8 x9 x10, r_v38 x0 x1 x2 x3 x4 x5 x6 x7 x8 x9 x10]

theorem r_v59 (q : Fin 8) (d : Fin 1024) :
    val_main_v59 (F := Ideal) x0 x2 x3 x4 x5 x6 x7 x8 x10 (ix2 q d) = ∑ i, (row x0 x1 x2 x3 x4 x5 x6 x7 x8 x9 x10 i).part q d := by
  pointwise [val_main_v59, val_main_v58, val_main_cst_10]
  obtain ⟨q, hq⟩ := q
  interval_cases q
  · exact r_v41 x0 x1 x2 x3 x4 x5 x6 x7 x8 x9 x10 d
  · exact r_v36 x0 x1 x2 x3 x4 x5 x6 x7 x8 x9 x10 d
  · exact r_v33 x0 x1 x2 x3 x4 x5 x6 x7 x8 x9 x10 d
  all_goals exact Finset.sum_const_zero.symm

theorem r_v60 (d : Fin 1024) :
    val_main_v60 (F := Ideal) x0 x1 x2 x3 x4 x5 x6 x7 x8 x10 (ix2 i d) = (row x0 x1 x2 x3 x4 x5 x6 x7 x8 x9 x10 i).grad d := by
  pointwise [val_main_v60]
  rw [r_v57 x0 x1 x2 x3 x4 x5 x6 x7 x8 x9 x10]; rfl

theorem r_v64 (j : Fin 2432) (d : Fin 512) :
    val_main_v64 (F := Ideal) x0 x2 x3 x4 x5 x6 x7 x8 x9 (ix2 j d) = ∑ i, (row x0 x1 x2 x3 x4 x5 x6 x7 x8 x9 x10 i).dp j * (row x0 x1 x2 x3 x4 x5 x6 x7 x8 x9 x10 i).hid ⟨d.val, by omega⟩ := by
  pointwise [val_main_v64, val_main_v63, val_main_v62, val_main_v30, val_main_v29]
  simp only [r_v6 x0 x1 x2 x3 x4 x5 x6 x7 x8 x9 x10, r_v27 x0 x1 x2 x3 x4 x5 x6 x7 x8 x9 x10]

end Cert.Reference4Ideal.In

end
-- ==== Proof.InRead.lean ====
/- The two runs of the input projection's backward call — kernel and reference — with their results read as the rows'
   mathematics, and what the precondition says of the rows. -/
module

public import proofs.«01_k».proof.Proof.InValue
public import proofs.«01_k».proof.Proof.InRef
public import proofs.«01_k».proof.Proof.MlpFinite
public import proofs.«01_k».proof.Pre_finite4
public import proofs.«01_k».proof.Proof.Gen.Reference4Ideal.Run

@[expose] public section

noncomputable section

open Idealize.ShloMosaic Idealize.ShloMosaic.TcCoe Idealize.SL.Sem

namespace Cert.Ffn

section

open Cert.Pre_finite4 Cert.Pre_finite4.Facts

variable [Cert.Pre_finite4.Facts]

/-- The precondition, argument by argument, for those the sums run over. -/
theorem reals4 {a0 a1 : FVec Ideal S8192x1024 .f32} {a2 : FVec Ideal S8192x512 .bf16} {a3 : FVec Ideal S8192x256 .bf16}
    {a4 : FVec Ideal S8192x512 .bf16} {a5 : FVec Ideal S8192x1024 .bf16} {a6 : FVec Ideal S8192x128 .bf16}
    {a7 a8 a9 : FVec Ideal S1x1024 .f32} {a10 : FVec Ideal S1024x2312 .f32}
    (h : Cert.Pre_finite4.fn (F := Ideal) a0 a1 a2 a3 a4 a5 a6 a7 a8 a9 a10 = fun _ => 1#1) :
    (∀ i, IsReal (a0 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a10 i)) := by
  have e := congrFun h (Shape.Idx.first h_S_)
  obtain ⟨e, e10⟩ := IntOp.andi_eq_one.1 e
  obtain ⟨e, -⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, -⟩ := IntOp.andi_eq_one.1 e
  exact ⟨IsReal.of_all a0 _ _ _ _ e0, IsReal.of_all _ _ _ _ _ e2, IsReal.of_all _ _ _ _ _ e3, IsReal.of_all _ _ _ _ _ e4,
    IsReal.of_all _ _ _ _ _ e5, IsReal.of_all _ _ _ _ _ e6, IsReal.of_all a7 _ _ _ _ e7, IsReal.of_all a8 _ _ _ _ e8,
    IsReal.of_all a10 _ _ _ _ e10⟩

end

/-- Five real pieces side by side are real. -/
theorem IsReal.join {a : Fin 512 → EReal} {b : Fin 256 → EReal} {c : Fin 512 → EReal} {d : Fin 1024 → EReal}
    {e : Fin 128 → EReal} (ha : ∀ j, IsReal (a j)) (hb : ∀ j, IsReal (b j)) (hc : ∀ j, IsReal (c j)) (hd : ∀ j, IsReal (d j))
    (he : ∀ j, IsReal (e j)) (j : Fin 2432) : IsReal (Cert.Ffn.join a b c d e j) := by
  unfold Cert.Ffn.join
  split_ifs
  · exact ha _
  · exact hb _
  · exact hc _
  · exact hd _
  · exact he _

/-- A real matrix widened by zeros is real. -/
theorem IsReal.widened {w : Fin 1024 → Fin 2312 → EReal} (h : ∀ d j, IsReal (w d j)) (j : Fin 2432) (d : Fin 1024) :
    IsReal (Cert.Ffn.widened w j d) := by
  unfold Cert.Ffn.widened
  split_ifs
  · exact h _ _
  · exact ⟨0, rfl⟩

end Cert.Ffn

namespace Cert.Kernel4Ideal.In

open Idealize.ShloMosaic.Pipeline (Dat)
open Cert.Kernel4Ideal.Gen Cert.Ffn

variable (m : (ℓ : Loc nD τ sig) → Buf (Elt Ideal) ℓ) (ρ : Dev nD → PrngReg)

/-- The kernel's run: every result is what the rows' mathematics says. -/
theorem read (hr : ∀ c i, (argRow m c i).Real) :
    θ_run defs (onTc (τ := τ) (main (F := Ideal))) ⟨m, fun _ => 0, ρ⟩ fun r => ∀ c : Dev nD,
      r.2.mem ((c : Thread nD τ).loc main_v3_0) = (fun y => (argRow m c (y 0)).grad (y 1))
      ∧ r.2.mem ((c : Thread nD τ).loc main_v3_1) = (fun y => (argRow m c (y 0)).hid (y 1))
      ∧ r.2.mem ((c : Thread nD τ).loc main_v3_2) = (fun y => ∑ k, (argRow m c k).part (y 0) (y 1))
      ∧ r.2.mem ((c : Thread nD τ).loc main_v3_3)
          = (fun y => ∑ k, (argRow m c k).dp (y 0) * (argRow m c k).hid (low (y 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final_grad m c (hr c)), (h c).2.1.trans (final_hid m c),
      (h c).2.2.1.trans (final_acc m c (hr c)), (h c).2.2.2.1.trans (final_w m c), (h c).2.2.2.2⟩)
    (Cert.Kernel4Ideal.Value.run_blocks m ρ)

end Cert.Kernel4Ideal.In

namespace Cert.Reference4Ideal.In

open Cert.Reference4Ideal.Read Cert.Ffn

section Arrays

variable (x0 x1 : Vec Ideal S8192x1024 .f32) (x2 : Vec Ideal S8192x512 .bf16) (x3 : Vec Ideal S8192x256 .bf16)
  (x4 : Vec Ideal S8192x512 .bf16) (x5 : Vec Ideal S8192x1024 .bf16) (x6 : Vec Ideal S8192x128 .bf16)
  (x7 x8 x9 : Vec Ideal S1x1024 .f32) (x10 : Vec Ideal S1024x2312 .f32)

theorem out_grad : val_main_v60 (F := Ideal) x0 x1 x2 x3 x4 x5 x6 x7 x8 x10
    = fun y => (row x0 x1 x2 x3 x4 x5 x6 x7 x8 x9 x10 (y 0)).grad (y 1) :=
  funext fun y => by rw [eq_ix2 y]; exact r_v60 x0 x1 x2 x3 x4 x5 x6 x7 x8 x9 x10 (y 0) (y 1)

theorem out_hid : val_main_v61 (F := Ideal) x0 x7 x8 x9 = fun y => (row x0 x1 x2 x3 x4 x5 x6 x7 x8 x9 x10 (y 0)).hid (y 1) :=
  funext fun y => by rw [eq_ix2 y]; exact r_v27 x0 x1 x2 x3 x4 x5 x6 x7 x8 x9 x10 (y 0) (y 1)

theorem out_acc : val_main_v59 (F := Ideal) x0 x2 x3 x4 x5 x6 x7 x8 x10
    = fun y => ∑ k, (row x0 x1 x2 x3 x4 x5 x6 x7 x8 x9 x10 k).part (y 0) (y 1) :=
  funext fun y => by rw [eq_ix2 y]; exact r_v59 x0 x1 x2 x3 x4 x5 x6 x7 x8 x9 x10 (y 0) (y 1)

theorem out_w : val_main_v64 (F := Ideal) x0 x2 x3 x4 x5 x6 x7 x8 x9
    = fun y => ∑ k, (row x0 x1 x2 x3 x4 x5 x6 x7 x8 x9 x10 k).dp (y 0) * (row x0 x1 x2 x3 x4 x5 x6 x7 x8 x9 x10 k).hid (Cert.Kernel4Ideal.In.low (y 1)) :=
  funext fun y => by rw [eq_ix2 y]; exact r_v64 x0 x1 x2 x3 x4 x5 x6 x7 x8 x9 x10 (y 0) (y 1)

end Arrays

variable (m : (ℓ : Loc nD τ sig) → Buf (Elt Ideal) ℓ) (ρ : Dev nD → PrngReg)

/-- Row `i` of the arguments on device `c`. -/
abbrev argRow (c : Dev nD) (i : Fin 8192) : InRow := row
    (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) i

/-- The reference's run: every result is what the rows' mathematics says. -/
theorem read :
    θ_run defs (onTc (τ := τ) (main (F := Ideal))) ⟨m, fun _ => 0, ρ⟩ fun r => ∀ c : Dev nD,
      r.2.mem ((c : Thread nD τ).loc main_v60) = (fun y => (argRow m c (y 0)).grad (y 1))
      ∧ r.2.mem ((c : Thread nD τ).loc main_v61) = (fun y => (argRow m c (y 0)).hid (y 1))
      ∧ r.2.mem ((c : Thread nD τ).loc main_v59) = (fun y => ∑ k, (argRow m c k).part (y 0) (y 1))
      ∧ r.2.mem ((c : Thread nD τ).loc main_v64)
          = (fun y => ∑ k, (argRow m c k).dp (y 0) * (argRow m c k).hid (Cert.Kernel4Ideal.In.low (y 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨
      (h c).1.trans ((val_main_v60_eq _ _).trans (out_grad
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)))),
      (h c).2.1.trans ((val_main_v61_eq _ _ _ _).trans (out_hid
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)))),
      (h c).2.2.1.trans ((val_main_v59_eq _ _).trans (out_acc
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)))),
      (h c).2.2.2.1.trans ((val_main_v64_eq _ _ _ _ _ _ _ _ _).trans (out_w
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)))), (h c).2.2.2.2⟩)
    (Cert.Reference4Ideal.Value.run (F := Ideal) m ρ)

end Cert.Reference4Ideal.In

end
-- ==== Proof.AdamMath.lean ====
/- One step of AdamW at one entry, over the extended reals: from the weight `w`, its gradient `g` and the two running averages `m` and `v`
   the new averages and the change of the weight. The constants are the words the programs carry. -/
module

public import Idealize.ShloMosaic.Lib.Pointwise

@[expose] public section

noncomputable section

namespace Cert.Adam

open Idealize.ShloMosaic

/-- The new running average of the gradient, and that of its square. -/
def avg (g m : EReal) : EReal := Ideal.ofBits FTy.f32 0x3F666666#32 * m + Ideal.ofBits FTy.f32 0x3DCCCCCD#32 * g
def avgSq (g v : EReal) : EReal := Ideal.ofBits FTy.f32 0x3F7FBE77#32 * v + Ideal.ofBits FTy.f32 0x3A83126F#32 * (g * g)

/-- The change of the weight: the corrected average over the root of the corrected average of squares, and the weight's decay. -/
def change (w g m v : EReal) : EReal :=
  Ideal.ofBits FTy.f32 0xBA83126F#32 * (Ideal.div (Ideal.div (avg g m) (Ideal.ofBits FTy.f32 0x3F26BD02#32))
    (Ideal.sqrt (Ideal.div (avgSq g v) (Ideal.ofBits FTy.f32 0x3C231ACC#32)) + Ideal.ofBits FTy.f32 0x322BCC77#32)
    + Ideal.ofBits FTy.f32 0x3C23D70A#32 * w)

end Cert.Adam

end
-- ==== Proof.AdamBig.lean ====
/- The value of the call that adds the devices' parts of the gradients of `w_gate_up`, `w_down` and `w_o` and applies AdamW to the three:
   it walks the four blocks of 256 columns. -/
module

public import proofs.«01_k».proof.Proof.AdamMath
public import proofs.«01_k».proof.Proof.Gen.Kernel5Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.Adam

open Cert.Kernel5Ideal Cert.Kernel5Ideal.Gen Cert.Adam

/-- The gradient of a row of `w_gate_up`: the first 304 rows' parts come in one array, the other 400 rows' in another. -/
def joined {n : ℕ} (A : Vec Ideal ⟨3, ![8, 304, n]⟩ .bf16) (B : Vec Ideal ⟨3, ![8, 400, n]⟩ .bf16) (r : Fin 704) (d : Fin n) : EReal :=
  if h : r.val < 304 then ∑ k : Fin 8, A (ix3 k ⟨r.val, h⟩ d) else ∑ k : Fin 8, B (ix3 k ⟨r.val - 304, by omega⟩ d)

/-- The sum of the eight parts. -/
def total {s n : ℕ} (A : Vec Ideal ⟨3, ![8, s, n]⟩ .bf16) (r : Fin s) (d : Fin n) : EReal := ∑ k : Fin 8, A (ix3 k r d)

section
variable (x0 : Vec Ideal S8x304x256 .bf16) (x1 : Vec Ideal S8x400x256 .bf16) (x2 : Vec Ideal S8x352x256 .bf16)
  (x3 : Vec Ideal S8x128x256 .bf16) (x4 x5 x6 : Vec Ideal S704x256 .f32) (x7 x8 x9 : Vec Ideal S352x256 .f32)
  (x10 x11 x12 : Vec Ideal S128x256 .f32)

theorem sum_g (r : Fin 704) (d : Fin 256) : k0_pay20 (F := Ideal) x0 x1 x2 x3 x4 x5 x6 x7 x8 x9 x10 x11 x12 (ix2 r d) = joined x0 x1 r d := by
  unfold joined
  simp only [Fin.sum_univ_eight]
  pointwise [k0_pay20, k0_pay3, k0_pay4]

theorem sum_d (r : Fin 352) (d : Fin 256) : k0_pay22 (F := Ideal) x0 x1 x2 x3 x4 x5 x6 x7 x8 x9 x10 x11 x12 (ix2 r d) = total x2 r d := by
  unfold total
  simp only [Fin.sum_univ_eight]
  pointwise [k0_pay22, k0_pay10, k0_pay11]

theorem sum_o (r : Fin 128) (d : Fin 256) : k0_pay25 (F := Ideal) x0 x1 x2 x3 x4 x5 x6 x7 x8 x9 x10 x11 x12 (ix2 r d) = total x3 r d := by
  unfold total
  simp only [Fin.sum_univ_eight]
  pointwise [k0_pay25, k0_pay24, k0_pay16, k0_pay17]

theorem out_g_g (r : Fin 704) (d : Fin 256) : out0_13 x0 x1 x2 x3 x4 x5 x6 x7 x8 x9 x10 x11 x12 (ix2 r d)
    = joined x0 x1 r d := by
  unfold out0_13
  frame_out
  exact sum_g ..

theorem out_g_change (r : Fin 704) (d : Fin 256) : out0_14 x0 x1 x2 x3 x4 x5 x6 x7 x8 x9 x10 x11 x12 (ix2 r d)
    = change (x4 (ix2 r d)) (joined x0 x1 r d) (x5 (ix2 r d)) (x6 (ix2 r d)) := by
  rw [← sum_g x0 x1 x2 x3 x4 x5 x6 x7 x8 x9 x10 x11 x12]
  unfold out0_14 change avg avgSq
  frame_out
  pointwise [k0_pay9, k0_pay5, k0_pay21, k0_pay6, k0_pay7, k0_pay8]

theorem out_g_avg (r : Fin 704) (d : Fin 256) : out0_15 x0 x1 x2 x3 x4 x5 x6 x7 x8 x9 x10 x11 x12 (ix2 r d)
    = avg (joined x0 x1 r d) (x5 (ix2 r d)) := by
  rw [← sum_g x0 x1 x2 x3 x4 x5 x6 x7 x8 x9 x10 x11 x12]
  unfold out0_15 avg
  frame_out
  pointwise [k0_pay7, k0_pay21, k0_pay6]

theorem out_g_avgSq (r : Fin 704) (d : Fin 256) : out0_16 x0 x1 x2 x3 x4 x5 x6 x7 x8 x9 x10 x11 x12 (ix2 r d)
    = avgSq (joined x0 x1 r d) (x6 (ix2 r d)) := by
  rw [← sum_g x0 x1 x2 x3 x4 x5 x6 x7 x8 x9 x10 x11 x12]
  unfold out0_16 avgSq
  frame_out
  pointwise [k0_pay8]

theorem out_d_g (r : Fin 352) (d : Fin 256) : out0_17 x0 x1 x2 x3 x4 x5 x6 x7 x8 x9 x10 x11 x12 (ix2 r d)
    = total x2 r d := by
  unfold out0_17
  frame_out
  exact sum_d ..

theorem out_d_change (r : Fin 352) (d : Fin 256) : out0_18 x0 x1 x2 x3 x4 x5 x6 x7 x8 x9 x10 x11 x12 (ix2 r d)
    = change (x7 (ix2 r d)) (total x2 r d) (x8 (ix2 r d)) (x9 (ix2 r d)) := by
  rw [← sum_d x0 x1 x2 x3 x4 x5 x6 x7 x8 x9 x10 x11 x12]
  unfold out0_18 change avg avgSq
  frame_out
  pointwise [k0_pay15, k0_pay13, k0_pay23, k0_pay12, k0_pay14]

theorem out_d_avg (r : Fin 352) (d : Fin 256) : out0_19 x0 x1 x2 x3 x4 x5 x6 x7 x8 x9 x10 x11 x12 (ix2 r d)
    = avg (total x2 r d) (x8 (ix2 r d)) := by
  rw [← sum_d x0 x1 x2 x3 x4 x5 x6 x7 x8 x9 x10 x11 x12]
  unfold out0_19 avg
  frame_out
  pointwise [k0_pay13, k0_pay23, k0_pay12]

theorem out_d_avgSq (r : Fin 352) (d : Fin 256) : out0_20 x0 x1 x2 x3 x4 x5 x6 x7 x8 x9 x10 x11 x12 (ix2 r d)
    = avgSq (total x2 r d) (x9 (ix2 r d)) := by
  rw [← sum_d x0 x1 x2 x3 x4 x5 x6 x7 x8 x9 x10 x11 x12]
  unfold out0_20 avgSq
  frame_out
  pointwise [k0_pay14]

theorem out_o_g (r : Fin 128) (d : Fin 256) : out0_21 x0 x1 x2 x3 x4 x5 x6 x7 x8 x9 x10 x11 x12 (ix2 r d)
    = total x3 r d := by
  unfold out0_21
  frame_out
  exact sum_o ..

theorem out_o_change (r : Fin 128) (d : Fin 256) : out0_22 x0 x1 x2 x3 x4 x5 x6 x7 x8 x9 x10 x11 x12 (ix2 r d)
    = change (x10 (ix2 r d)) (total x3 r d) (x11 (ix2 r d)) (x12 (ix2 r d)) := by
  rw [← sum_o x0 x1 x2 x3 x4 x5 x6 x7 x8 x9 x10 x11 x12]
  unfold out0_22 change avg avgSq
  frame_out
  pointwise [k0_pay2, k0_pay26, k0_pay18, k0_pay27, k0_pay19, k0_pay1, k0_pay25]

theorem out_o_avg (r : Fin 128) (d : Fin 256) : out0_23 x0 x1 x2 x3 x4 x5 x6 x7 x8 x9 x10 x11 x12 (ix2 r d)
    = avg (total x3 r d) (x11 (ix2 r d)) := by
  rw [← sum_o x0 x1 x2 x3 x4 x5 x6 x7 x8 x9 x10 x11 x12]
  unfold out0_23 avg
  frame_out
  pointwise [k0_pay26, k0_pay18, k0_pay25]

theorem out_o_avgSq (r : Fin 128) (d : Fin 256) : out0_24 x0 x1 x2 x3 x4 x5 x6 x7 x8 x9 x10 x11 x12 (ix2 r d)
    = avgSq (total x3 r d) (x12 (ix2 r d)) := by
  rw [← sum_o x0 x1 x2 x3 x4 x5 x6 x7 x8 x9 x10 x11 x12]
  unfold out0_24 avgSq
  frame_out
  pointwise [k0_pay1, k0_pay27, k0_pay19]

end

variable (m : (ℓ : Loc nD τ sig) → Buf (Elt Ideal) ℓ) (c : Dev nD)

/-- Every window's block at a point is that of the point's 256 columns. -/
theorem idx : ∀ t : Fin cfg0.N, win0_0.index t = ![0, 0, t.val] ∧ win0_1.index t = ![0, 0, t.val] ∧ win0_2.index t = ![0, 0, t.val] ∧ win0_3.index t = ![0, 0, t.val]
    ∧ win0_4.index t = ![0, t.val] ∧ win0_5.index t = ![0, t.val] ∧ win0_6.index t = ![0, t.val] ∧ win0_7.index t = ![0, t.val]
    ∧ win0_8.index t = ![0, t.val] ∧ win0_9.index t = ![0, t.val] ∧ win0_10.index t = ![0, t.val] ∧ win0_11.index t = ![0, t.val]
    ∧ win0_12.index t = ![0, t.val] ∧ win0_13.index t = ![0, t.val] ∧ win0_14.index t = ![0, t.val] ∧ win0_15.index t = ![0, t.val]
    ∧ win0_16.index t = ![0, t.val] ∧ win0_17.index t = ![0, t.val] ∧ win0_18.index t = ![0, t.val] ∧ win0_19.index t = ![0, t.val]
    ∧ win0_20.index t = ![0, t.val] ∧ win0_21.index t = ![0, t.val] ∧ win0_22.index t = ![0, t.val] ∧ win0_23.index t = ![0, t.val]
    ∧ win0_24.index t = ![0, t.val] ∧ t.val < 4 :=
  (by decide +kernel : ∀ t : Fin grid0.N, _)

theorem lt4 (t : Fin cfg0.N) : t.val < 4 := by have := idx t; tauto

/-- The column of the arrays that column `d` of point `t`'s block is. -/
def at_ (t : Fin cfg0.N) (d : Fin 256) : Fin 1024 := ⟨256 * t.val + d.val, by have := lt4 t; omega⟩

theorem joined_eq (t : Fin cfg0.N) (r : Fin 704) (d : Fin 256) :
    joined (iblk m c 0 t) (iblk m c 1 t) r d = joined (m ((c : Thread nD τ).loc main_arg0)) (m ((c : Thread nD τ).loc main_arg1)) r (at_ t d) := by
  have ht := idx t
  have ea : ∀ (k : Fin 8) (r : Fin 304), (show Vec Ideal S8x304x256 .bf16 from iblk m c 0 t) (ix3 k r d) = (m ((c : Thread nD τ).loc main_arg0)) (ix3 k r (at_ t d)) := fun k r => by
    blk_ext [iblk, V, ht, at_]
  have eb : ∀ (k : Fin 8) (r : Fin 400), (show Vec Ideal S8x400x256 .bf16 from iblk m c 1 t) (ix3 k r d) = (m ((c : Thread nD τ).loc main_arg1)) (ix3 k r (at_ t d)) := fun k r => by
    blk_ext [iblk, V, ht, at_]
  unfold joined
  split_ifs
  · exact Finset.sum_congr rfl fun k _ => ea k _
  · exact Finset.sum_congr rfl fun k _ => eb k _

theorem total_d_eq (t : Fin cfg0.N) (r : Fin 352) (d : Fin 256) :
    total (s := 352) (n := 256) (iblk m c 2 t) r d = total (s := 352) (n := 1024) (m ((c : Thread nD τ).loc main_arg2)) r (at_ t d) := by
  have ht := idx t
  refine Finset.sum_congr rfl fun k _ => ?_
  show (show Vec Ideal S8x352x256 .bf16 from iblk m c 2 t) (ix3 k r d) = (m ((c : Thread nD τ).loc main_arg2)) (ix3 k r (at_ t d))
  blk_ext [iblk, V, ht, at_]

theorem total_o_eq (t : Fin cfg0.N) (r : Fin 128) (d : Fin 256) :
    total (s := 128) (n := 256) (iblk m c 3 t) r d = total (s := 128) (n := 1024) (m ((c : Thread nD τ).loc main_arg3)) r (at_ t d) := by
  have ht := idx t
  refine Finset.sum_congr rfl fun k _ => ?_
  show (show Vec Ideal S8x128x256 .bf16 from iblk m c 3 t) (ix3 k r d) = (m ((c : Thread nD τ).loc main_arg3)) (ix3 k r (at_ t d))
  blk_ext [iblk, V, ht, at_]

theorem host_4 (r : Fin 704) (d : Fin 1024) : (show Vec Ideal S704x1024 .f32 from V m c main_v0) (ix2 r d) = (m ((c : Thread nD τ).loc main_arg4)) (ix2 d r) := by
  entry_read; pointwise

theorem host_5 (r : Fin 704) (d : Fin 1024) : (show Vec Ideal S704x1024 .f32 from V m c main_v1) (ix2 r d) = (m ((c : Thread nD τ).loc main_arg5)) (ix2 d r) := by
  entry_read; pointwise

theorem host_6 (r : Fin 704) (d : Fin 1024) : (show Vec Ideal S704x1024 .f32 from V m c main_v2) (ix2 r d) = (m ((c : Thread nD τ).loc main_arg6)) (ix2 d r) := by
  entry_read; pointwise

theorem in_4 (t : Fin cfg0.N) (r : Fin 704) (d : Fin 256) : (show Vec Ideal S704x256 .f32 from iblk m c 4 t) (ix2 r d) = (m ((c : Thread nD τ).loc main_arg4)) (ix2 (at_ t d) r) := by
  rw [← host_4 m c]
  have ht := idx t
  blk_ext [iblk, ht, at_]

theorem in_5 (t : Fin cfg0.N) (r : Fin 704) (d : Fin 256) : (show Vec Ideal S704x256 .f32 from iblk m c 5 t) (ix2 r d) = (m ((c : Thread nD τ).loc main_arg5)) (ix2 (at_ t d) r) := by
  rw [← host_5 m c]
  have ht := idx t
  blk_ext [iblk, ht, at_]

theorem in_6 (t : Fin cfg0.N) (r : Fin 704) (d : Fin 256) : (show Vec Ideal S704x256 .f32 from iblk m c 6 t) (ix2 r d) = (m ((c : Thread nD τ).loc main_arg6)) (ix2 (at_ t d) r) := by
  rw [← host_6 m c]
  have ht := idx t
  blk_ext [iblk, ht, at_]

theorem in_7 (t : Fin cfg0.N) (r : Fin 352) (d : Fin 256) : (show Vec Ideal S352x256 .f32 from iblk m c 7 t) (ix2 r d) = (m ((c : Thread nD τ).loc main_arg7)) (ix2 r (at_ t d)) := by
  have ht := idx t
  blk_ext [iblk, V, ht, at_]

theorem in_8 (t : Fin cfg0.N) (r : Fin 352) (d : Fin 256) : (show Vec Ideal S352x256 .f32 from iblk m c 8 t) (ix2 r d) = (m ((c : Thread nD τ).loc main_arg8)) (ix2 r (at_ t d)) := by
  have ht := idx t
  blk_ext [iblk, V, ht, at_]

theorem in_9 (t : Fin cfg0.N) (r : Fin 352) (d : Fin 256) : (show Vec Ideal S352x256 .f32 from iblk m c 9 t) (ix2 r d) = (m ((c : Thread nD τ).loc main_arg9)) (ix2 r (at_ t d)) := by
  have ht := idx t
  blk_ext [iblk, V, ht, at_]

theorem in_10 (t : Fin cfg0.N) (r : Fin 128) (d : Fin 256) : (show Vec Ideal S128x256 .f32 from iblk m c 10 t) (ix2 r d) = (m ((c : Thread nD τ).loc main_arg10)) (ix2 r (at_ t d)) := by
  have ht := idx t
  blk_ext [iblk, V, ht, at_]

theorem in_11 (t : Fin cfg0.N) (r : Fin 128) (d : Fin 256) : (show Vec Ideal S128x256 .f32 from iblk m c 11 t) (ix2 r d) = (m ((c : Thread nD τ).loc main_arg11)) (ix2 r (at_ t d)) := by
  have ht := idx t
  blk_ext [iblk, V, ht, at_]

theorem in_12 (t : Fin cfg0.N) (r : Fin 128) (d : Fin 256) : (show Vec Ideal S128x256 .f32 from iblk m c 12 t) (ix2 r d) = (m ((c : Thread nD τ).loc main_arg12)) (ix2 r (at_ t d)) := by
  have ht := idx t
  blk_ext [iblk, V, ht, at_]

/-- The gradients, the weights and their averages, of the arguments, in the layouts of the results. -/
abbrev Gg (y : S704x1024.Idx) : EReal := joined (m ((c : Thread nD τ).loc main_arg0)) (m ((c : Thread nD τ).loc main_arg1)) (y 0) (y 1)
abbrev Wg (y : S704x1024.Idx) : EReal := (m ((c : Thread nD τ).loc main_arg4)) (ix2 (y 1) (y 0))
abbrev Mg (y : S704x1024.Idx) : EReal := (m ((c : Thread nD τ).loc main_arg5)) (ix2 (y 1) (y 0))
abbrev Sg (y : S704x1024.Idx) : EReal := (m ((c : Thread nD τ).loc main_arg6)) (ix2 (y 1) (y 0))
abbrev Gd (y : S352x1024.Idx) : EReal := total (s := 352) (n := 1024) (m ((c : Thread nD τ).loc main_arg2)) (y 0) (y 1)
abbrev Wd (y : S352x1024.Idx) : EReal := (m ((c : Thread nD τ).loc main_arg7)) (ix2 (y 0) (y 1))
abbrev Md (y : S352x1024.Idx) : EReal := (m ((c : Thread nD τ).loc main_arg8)) (ix2 (y 0) (y 1))
abbrev Sd (y : S352x1024.Idx) : EReal := (m ((c : Thread nD τ).loc main_arg9)) (ix2 (y 0) (y 1))
abbrev Go (y : S128x1024.Idx) : EReal := total (s := 128) (n := 1024) (m ((c : Thread nD τ).loc main_arg3)) (y 0) (y 1)
abbrev Wo (y : S128x1024.Idx) : EReal := (m ((c : Thread nD τ).loc main_arg10)) (ix2 (y 0) (y 1))
abbrev Mo (y : S128x1024.Idx) : EReal := (m ((c : Thread nD τ).loc main_arg11)) (ix2 (y 0) (y 1))
abbrev So (y : S128x1024.Idx) : EReal := (m ((c : Thread nD τ).loc main_arg12)) (ix2 (y 0) (y 1))

theorem final_g_g : (dats m 0 c).arrAt 13 (cfgs 0).N = fun y : S704x1024.Idx => Gg m c y := by
  refine (dats m 0 c).arrAt_eq_of_covers 13 _ (by decide +kernel) fun t hf y => ?_
  have ht := idx t
  blk_simp
  rw [after0_13]
  obtain ⟨r, d, rfl⟩ : ∃ (r : Fin 704) (d : Fin 256), ix2 r d = y := ⟨y 0, y 1, by funext i; match i with | 0 => rfl | 1 => rfl⟩
  have e : (win0_13.blk t).view.emb (ix2 r d) = ix2 r (at_ t d) := by blk_point [ht, at_]
  refine Eq.trans ?_ (congrArg (fun y : S704x1024.Idx => Gg m c y) e).symm
  refine (out_g_g ..).trans ?_
  exact joined_eq m c t r d

theorem final_g_change : (dats m 0 c).arrAt 14 (cfgs 0).N = fun y : S704x1024.Idx => change (Wg m c y) (Gg m c y) (Mg m c y) (Sg m c y) := by
  refine (dats m 0 c).arrAt_eq_of_covers 14 _ (by decide +kernel) fun t hf y => ?_
  have ht := idx t
  blk_simp
  rw [after0_14]
  obtain ⟨r, d, rfl⟩ : ∃ (r : Fin 704) (d : Fin 256), ix2 r d = y := ⟨y 0, y 1, by funext i; match i with | 0 => rfl | 1 => rfl⟩
  have e : (win0_14.blk t).view.emb (ix2 r d) = ix2 r (at_ t d) := by blk_point [ht, at_]
  refine Eq.trans ?_ (congrArg (fun y : S704x1024.Idx => change (Wg m c y) (Gg m c y) (Mg m c y) (Sg m c y)) e).symm
  refine (out_g_change ..).trans ?_
  rw [joined_eq m c t r d]
  exact congr (congrArg₂ (fun a b => change a _ b) (in_4 m c t r d) (in_5 m c t r d)) (in_6 m c t r d)

theorem final_g_avg : (dats m 0 c).arrAt 15 (cfgs 0).N = fun y : S704x1024.Idx => avg (Gg m c y) (Mg m c y) := by
  refine (dats m 0 c).arrAt_eq_of_covers 15 _ (by decide +kernel) fun t hf y => ?_
  have ht := idx t
  blk_simp
  rw [after0_15]
  obtain ⟨r, d, rfl⟩ : ∃ (r : Fin 704) (d : Fin 256), ix2 r d = y := ⟨y 0, y 1, by funext i; match i with | 0 => rfl | 1 => rfl⟩
  have e : (win0_15.blk t).view.emb (ix2 r d) = ix2 r (at_ t d) := by blk_point [ht, at_]
  refine Eq.trans ?_ (congrArg (fun y : S704x1024.Idx => avg (Gg m c y) (Mg m c y)) e).symm
  refine (out_g_avg ..).trans ?_
  rw [joined_eq m c t r d]
  exact congrArg (avg _) (in_5 m c t r d)

theorem final_g_avgSq : (dats m 0 c).arrAt 16 (cfgs 0).N = fun y : S704x1024.Idx => avgSq (Gg m c y) (Sg m c y) := by
  refine (dats m 0 c).arrAt_eq_of_covers 16 _ (by decide +kernel) fun t hf y => ?_
  have ht := idx t
  blk_simp
  rw [after0_16]
  obtain ⟨r, d, rfl⟩ : ∃ (r : Fin 704) (d : Fin 256), ix2 r d = y := ⟨y 0, y 1, by funext i; match i with | 0 => rfl | 1 => rfl⟩
  have e : (win0_16.blk t).view.emb (ix2 r d) = ix2 r (at_ t d) := by blk_point [ht, at_]
  refine Eq.trans ?_ (congrArg (fun y : S704x1024.Idx => avgSq (Gg m c y) (Sg m c y)) e).symm
  refine (out_g_avgSq ..).trans ?_
  rw [joined_eq m c t r d]
  exact congrArg (avgSq _) (in_6 m c t r d)

theorem final_d_g : (dats m 0 c).arrAt 17 (cfgs 0).N = fun y : S352x1024.Idx => Gd m c y := by
  refine (dats m 0 c).arrAt_eq_of_covers 17 _ (by decide +kernel) fun t hf y => ?_
  have ht := idx t
  blk_simp
  rw [after0_17]
  obtain ⟨r, d, rfl⟩ : ∃ (r : Fin 352) (d : Fin 256), ix2 r d = y := ⟨y 0, y 1, by funext i; match i with | 0 => rfl | 1 => rfl⟩
  have e : (win0_17.blk t).view.emb (ix2 r d) = ix2 r (at_ t d) := by blk_point [ht, at_]
  refine Eq.trans ?_ (congrArg (fun y : S352x1024.Idx => Gd m c y) e).symm
  refine (out_d_g ..).trans ?_
  exact total_d_eq m c t r d

theorem final_d_change : (dats m 0 c).arrAt 18 (cfgs 0).N = fun y : S352x1024.Idx => change (Wd m c y) (Gd m c y) (Md m c y) (Sd m c y) := by
  refine (dats m 0 c).arrAt_eq_of_covers 18 _ (by decide +kernel) fun t hf y => ?_
  have ht := idx t
  blk_simp
  rw [after0_18]
  obtain ⟨r, d, rfl⟩ : ∃ (r : Fin 352) (d : Fin 256), ix2 r d = y := ⟨y 0, y 1, by funext i; match i with | 0 => rfl | 1 => rfl⟩
  have e : (win0_18.blk t).view.emb (ix2 r d) = ix2 r (at_ t d) := by blk_point [ht, at_]
  refine Eq.trans ?_ (congrArg (fun y : S352x1024.Idx => change (Wd m c y) (Gd m c y) (Md m c y) (Sd m c y)) e).symm
  refine (out_d_change ..).trans ?_
  rw [total_d_eq m c t r d]
  exact congr (congrArg₂ (fun a b => change a _ b) (in_7 m c t r d) (in_8 m c t r d)) (in_9 m c t r d)

theorem final_d_avg : (dats m 0 c).arrAt 19 (cfgs 0).N = fun y : S352x1024.Idx => avg (Gd m c y) (Md m c y) := by
  refine (dats m 0 c).arrAt_eq_of_covers 19 _ (by decide +kernel) fun t hf y => ?_
  have ht := idx t
  blk_simp
  rw [after0_19]
  obtain ⟨r, d, rfl⟩ : ∃ (r : Fin 352) (d : Fin 256), ix2 r d = y := ⟨y 0, y 1, by funext i; match i with | 0 => rfl | 1 => rfl⟩
  have e : (win0_19.blk t).view.emb (ix2 r d) = ix2 r (at_ t d) := by blk_point [ht, at_]
  refine Eq.trans ?_ (congrArg (fun y : S352x1024.Idx => avg (Gd m c y) (Md m c y)) e).symm
  refine (out_d_avg ..).trans ?_
  rw [total_d_eq m c t r d]
  exact congrArg (avg _) (in_8 m c t r d)

theorem final_d_avgSq : (dats m 0 c).arrAt 20 (cfgs 0).N = fun y : S352x1024.Idx => avgSq (Gd m c y) (Sd m c y) := by
  refine (dats m 0 c).arrAt_eq_of_covers 20 _ (by decide +kernel) fun t hf y => ?_
  have ht := idx t
  blk_simp
  rw [after0_20]
  obtain ⟨r, d, rfl⟩ : ∃ (r : Fin 352) (d : Fin 256), ix2 r d = y := ⟨y 0, y 1, by funext i; match i with | 0 => rfl | 1 => rfl⟩
  have e : (win0_20.blk t).view.emb (ix2 r d) = ix2 r (at_ t d) := by blk_point [ht, at_]
  refine Eq.trans ?_ (congrArg (fun y : S352x1024.Idx => avgSq (Gd m c y) (Sd m c y)) e).symm
  refine (out_d_avgSq ..).trans ?_
  rw [total_d_eq m c t r d]
  exact congrArg (avgSq _) (in_9 m c t r d)

theorem final_o_g : (dats m 0 c).arrAt 21 (cfgs 0).N = fun y : S128x1024.Idx => Go m c y := by
  refine (dats m 0 c).arrAt_eq_of_covers 21 _ (by decide +kernel) fun t hf y => ?_
  have ht := idx t
  blk_simp
  rw [after0_21]
  obtain ⟨r, d, rfl⟩ : ∃ (r : Fin 128) (d : Fin 256), ix2 r d = y := ⟨y 0, y 1, by funext i; match i with | 0 => rfl | 1 => rfl⟩
  have e : (win0_21.blk t).view.emb (ix2 r d) = ix2 r (at_ t d) := by blk_point [ht, at_]
  refine Eq.trans ?_ (congrArg (fun y : S128x1024.Idx => Go m c y) e).symm
  refine (out_o_g ..).trans ?_
  exact total_o_eq m c t r d

theorem final_o_change : (dats m 0 c).arrAt 22 (cfgs 0).N = fun y : S128x1024.Idx => change (Wo m c y) (Go m c y) (Mo m c y) (So m c y) := by
  refine (dats m 0 c).arrAt_eq_of_covers 22 _ (by decide +kernel) fun t hf y => ?_
  have ht := idx t
  blk_simp
  rw [after0_22]
  obtain ⟨r, d, rfl⟩ : ∃ (r : Fin 128) (d : Fin 256), ix2 r d = y := ⟨y 0, y 1, by funext i; match i with | 0 => rfl | 1 => rfl⟩
  have e : (win0_22.blk t).view.emb (ix2 r d) = ix2 r (at_ t d) := by blk_point [ht, at_]
  refine Eq.trans ?_ (congrArg (fun y : S128x1024.Idx => change (Wo m c y) (Go m c y) (Mo m c y) (So m c y)) e).symm
  refine (out_o_change ..).trans ?_
  rw [total_o_eq m c t r d]
  exact congr (congrArg₂ (fun a b => change a _ b) (in_10 m c t r d) (in_11 m c t r d)) (in_12 m c t r d)

theorem final_o_avg : (dats m 0 c).arrAt 23 (cfgs 0).N = fun y : S128x1024.Idx => avg (Go m c y) (Mo m c y) := by
  refine (dats m 0 c).arrAt_eq_of_covers 23 _ (by decide +kernel) fun t hf y => ?_
  have ht := idx t
  blk_simp
  rw [after0_23]
  obtain ⟨r, d, rfl⟩ : ∃ (r : Fin 128) (d : Fin 256), ix2 r d = y := ⟨y 0, y 1, by funext i; match i with | 0 => rfl | 1 => rfl⟩
  have e : (win0_23.blk t).view.emb (ix2 r d) = ix2 r (at_ t d) := by blk_point [ht, at_]
  refine Eq.trans ?_ (congrArg (fun y : S128x1024.Idx => avg (Go m c y) (Mo m c y)) e).symm
  refine (out_o_avg ..).trans ?_
  rw [total_o_eq m c t r d]
  exact congrArg (avg _) (in_11 m c t r d)

theorem final_o_avgSq : (dats m 0 c).arrAt 24 (cfgs 0).N = fun y : S128x1024.Idx => avgSq (Go m c y) (So m c y) := by
  refine (dats m 0 c).arrAt_eq_of_covers 24 _ (by decide +kernel) fun t hf y => ?_
  have ht := idx t
  blk_simp
  rw [after0_24]
  obtain ⟨r, d, rfl⟩ : ∃ (r : Fin 128) (d : Fin 256), ix2 r d = y := ⟨y 0, y 1, by funext i; match i with | 0 => rfl | 1 => rfl⟩
  have e : (win0_24.blk t).view.emb (ix2 r d) = ix2 r (at_ t d) := by blk_point [ht, at_]
  refine Eq.trans ?_ (congrArg (fun y : S128x1024.Idx => avgSq (Go m c y) (So m c y)) e).symm
  refine (out_o_avgSq ..).trans ?_
  rw [total_o_eq m c t r d]
  exact congrArg (avgSq _) (in_12 m c t r d)

end Cert.Kernel5Ideal.Adam

end
-- ==== Proof.AdamBigRef.lean ====
/- The reference's lines for `w_gate_up`, `w_down` and `w_o` — the sums of the parts, then AdamW — read entry by entry. -/
module

public import proofs.«01_k».proof.Proof.AdamBig
public import proofs.«01_k».proof.Proof.Gen.Reference5Ideal.Read

@[expose] public section

set_option maxRecDepth 16384

noncomputable section

open Idealize.ShloMosaic Idealize.ShloMosaic.TcCoe Idealize.SL.Sem

namespace Cert.Reference5Ideal.Adam

open Cert.Reference5Ideal.Read Cert.Adam
open Cert.Kernel5Ideal.Adam (joined total)

variable (x0 : Vec Ideal S8x304x1024 .bf16) (x1 : Vec Ideal S8x400x1024 .bf16) (x2 : Vec Ideal S8x352x1024 .bf16)
  (x3 : Vec Ideal S8x128x1024 .bf16) (x4 x5 x6 : Vec Ideal S1024x704 .f32) (x7 x8 x9 : Vec Ideal S352x1024 .f32)
  (x10 x11 x12 : Vec Ideal S128x1024 .f32)

theorem g_g_apply (r : Fin 704) (d : Fin 1024) : val_main_v2 (F := Ideal) x0 x1 (ix2 r d) = joined x0 x1 r d := by
  unfold joined
  pointwise [val_main_v2, val_main_cst, val_main_v1, val_main_v0]
  split_ifs <;> rfl

theorem g_avg_apply (r : Fin 704) (d : Fin 1024) : val_main_v14 (F := Ideal) x0 x1 x5 (ix2 r d) = avg (joined x0 x1 r d) (x5 (ix2 d r)) := by
  rw [← g_g_apply]; unfold avg
  pointwise [val_main_v14, val_main_v11, val_main_v10, val_main_cst_2, val_main_v4, val_main_v13, val_main_v12, val_main_cst_3]

theorem g_avgSq_apply (r : Fin 704) (d : Fin 1024) : val_main_v20 (F := Ideal) x0 x1 x6 (ix2 r d) = avgSq (joined x0 x1 r d) (x6 (ix2 d r)) := by
  rw [← g_g_apply]; unfold avgSq
  pointwise [val_main_v20, val_main_v16, val_main_v15, val_main_cst_4, val_main_v5, val_main_v19, val_main_v17, val_main_v18, val_main_cst_5]

theorem g_change_apply (r : Fin 704) (d : Fin 1024) : val_main_v33 (F := Ideal) x0 x1 x4 x5 x6 (ix2 r d) = change (x4 (ix2 d r)) (joined x0 x1 r d) (x5 (ix2 d r)) (x6 (ix2 d r)) := by
  unfold change
  rw [← g_avg_apply, ← g_avgSq_apply]
  pointwise [val_main_v33, val_main_v31, val_main_v28, val_main_v22, val_main_v21, val_main_cst_6, val_main_v27, val_main_v25, val_main_v24, val_main_v23, val_main_cst_7, val_main_v26, val_main_cst_8, val_main_v30, val_main_v29, val_main_cst_9, val_main_v3, val_main_v32, val_main_cst_10]

theorem g_g_eq : val_main_v2 (F := Ideal) x0 x1 = fun y : S704x1024.Idx => joined x0 x1 (y 0) (y 1) :=
  funext fun y => by rw [eq_ix2 y]; exact g_g_apply ..

theorem g_change_eq : val_main_v33 (F := Ideal) x0 x1 x4 x5 x6 = fun y : S704x1024.Idx => change (x4 (ix2 (y 1) (y 0))) (joined x0 x1 (y 0) (y 1)) (x5 (ix2 (y 1) (y 0))) (x6 (ix2 (y 1) (y 0))) :=
  funext fun y => by rw [eq_ix2 y]; exact g_change_apply ..

theorem g_avg_eq : val_main_v14 (F := Ideal) x0 x1 x5 = fun y : S704x1024.Idx => avg (joined x0 x1 (y 0) (y 1)) (x5 (ix2 (y 1) (y 0))) :=
  funext fun y => by rw [eq_ix2 y]; exact g_avg_apply ..

theorem g_avgSq_eq : val_main_v20 (F := Ideal) x0 x1 x6 = fun y : S704x1024.Idx => avgSq (joined x0 x1 (y 0) (y 1)) (x6 (ix2 (y 1) (y 0))) :=
  funext fun y => by rw [eq_ix2 y]; exact g_avgSq_apply ..

theorem d_g_apply (r : Fin 352) (d : Fin 1024) : val_main_v7 (F := Ideal) x2 (ix2 r d) = total (s := 352) (n := 1024) x2 r d := by
  unfold total
  pointwise [val_main_v7, val_main_cst_0, val_main_v6]

theorem d_avg_apply (r : Fin 352) (d : Fin 1024) : val_main_v38 (F := Ideal) x2 x8 (ix2 r d) = avg (total (s := 352) (n := 1024) x2 r d) (x8 (ix2 r d)) := by
  rw [← d_g_apply]; unfold avg
  pointwise [val_main_v38, val_main_v35, val_main_v34, val_main_cst_11, val_main_v37, val_main_v36, val_main_cst_12]

theorem d_avgSq_apply (r : Fin 352) (d : Fin 1024) : val_main_v44 (F := Ideal) x2 x9 (ix2 r d) = avgSq (total (s := 352) (n := 1024) x2 r d) (x9 (ix2 r d)) := by
  rw [← d_g_apply]; unfold avgSq
  pointwise [val_main_v44, val_main_v40, val_main_v39, val_main_cst_13, val_main_v43, val_main_v41, val_main_v42, val_main_cst_14]

theorem d_change_apply (r : Fin 352) (d : Fin 1024) : val_main_v57 (F := Ideal) x2 x7 x8 x9 (ix2 r d) = change (x7 (ix2 r d)) (total (s := 352) (n := 1024) x2 r d) (x8 (ix2 r d)) (x9 (ix2 r d)) := by
  unfold change
  rw [← d_avg_apply, ← d_avgSq_apply]
  pointwise [val_main_v57, val_main_v55, val_main_v52, val_main_v46, val_main_v45, val_main_cst_15, val_main_v51, val_main_v49, val_main_v48, val_main_v47, val_main_cst_16, val_main_v50, val_main_cst_17, val_main_v54, val_main_v53, val_main_cst_18, val_main_v56, val_main_cst_19]

theorem d_g_eq : val_main_v7 (F := Ideal) x2 = fun y : S352x1024.Idx => total (s := 352) (n := 1024) x2 (y 0) (y 1) :=
  funext fun y => by rw [eq_ix2 y]; exact d_g_apply ..

theorem d_change_eq : val_main_v57 (F := Ideal) x2 x7 x8 x9 = fun y : S352x1024.Idx => change (x7 (ix2 (y 0) (y 1))) (total (s := 352) (n := 1024) x2 (y 0) (y 1)) (x8 (ix2 (y 0) (y 1))) (x9 (ix2 (y 0) (y 1))) :=
  funext fun y => by rw [eq_ix2 y]; exact d_change_apply ..

theorem d_avg_eq : val_main_v38 (F := Ideal) x2 x8 = fun y : S352x1024.Idx => avg (total (s := 352) (n := 1024) x2 (y 0) (y 1)) (x8 (ix2 (y 0) (y 1))) :=
  funext fun y => by rw [eq_ix2 y]; exact d_avg_apply ..

theorem d_avgSq_eq : val_main_v44 (F := Ideal) x2 x9 = fun y : S352x1024.Idx => avgSq (total (s := 352) (n := 1024) x2 (y 0) (y 1)) (x9 (ix2 (y 0) (y 1))) :=
  funext fun y => by rw [eq_ix2 y]; exact d_avgSq_apply ..

theorem o_g_apply (r : Fin 128) (d : Fin 1024) : val_main_v9 (F := Ideal) x3 (ix2 r d) = total (s := 128) (n := 1024) x3 r d := by
  unfold total
  pointwise [val_main_v9, val_main_cst_1, val_main_v8]

theorem o_avg_apply (r : Fin 128) (d : Fin 1024) : val_main_v62 (F := Ideal) x3 x11 (ix2 r d) = avg (total (s := 128) (n := 1024) x3 r d) (x11 (ix2 r d)) := by
  rw [← o_g_apply]; unfold avg
  pointwise [val_main_v62, val_main_v59, val_main_v58, val_main_cst_20, val_main_v61, val_main_v60, val_main_cst_21]

theorem o_avgSq_apply (r : Fin 128) (d : Fin 1024) : val_main_v68 (F := Ideal) x3 x12 (ix2 r d) = avgSq (total (s := 128) (n := 1024) x3 r d) (x12 (ix2 r d)) := by
  rw [← o_g_apply]; unfold avgSq
  pointwise [val_main_v68, val_main_v64, val_main_v63, val_main_cst_22, val_main_v67, val_main_v65, val_main_v66, val_main_cst_23]

theorem o_change_apply (r : Fin 128) (d : Fin 1024) : val_main_v81 (F := Ideal) x3 x10 x11 x12 (ix2 r d) = change (x10 (ix2 r d)) (total (s := 128) (n := 1024) x3 r d) (x11 (ix2 r d)) (x12 (ix2 r d)) := by
  unfold change
  rw [← o_avg_apply, ← o_avgSq_apply]
  pointwise [val_main_v81, val_main_v79, val_main_v76, val_main_v70, val_main_v69, val_main_cst_24, val_main_v75, val_main_v73, val_main_v72, val_main_v71, val_main_cst_25, val_main_v74, val_main_cst_26, val_main_v78, val_main_v77, val_main_cst_27, val_main_v80, val_main_cst_28]

theorem o_g_eq : val_main_v9 (F := Ideal) x3 = fun y : S128x1024.Idx => total (s := 128) (n := 1024) x3 (y 0) (y 1) :=
  funext fun y => by rw [eq_ix2 y]; exact o_g_apply ..

theorem o_change_eq : val_main_v81 (F := Ideal) x3 x10 x11 x12 = fun y : S128x1024.Idx => change (x10 (ix2 (y 0) (y 1))) (total (s := 128) (n := 1024) x3 (y 0) (y 1)) (x11 (ix2 (y 0) (y 1))) (x12 (ix2 (y 0) (y 1))) :=
  funext fun y => by rw [eq_ix2 y]; exact o_change_apply ..

theorem o_avg_eq : val_main_v62 (F := Ideal) x3 x11 = fun y : S128x1024.Idx => avg (total (s := 128) (n := 1024) x3 (y 0) (y 1)) (x11 (ix2 (y 0) (y 1))) :=
  funext fun y => by rw [eq_ix2 y]; exact o_avg_apply ..

theorem o_avgSq_eq : val_main_v68 (F := Ideal) x3 x12 = fun y : S128x1024.Idx => avgSq (total (s := 128) (n := 1024) x3 (y 0) (y 1)) (x12 (ix2 (y 0) (y 1))) :=
  funext fun y => by rw [eq_ix2 y]; exact o_avgSq_apply ..

end Cert.Reference5Ideal.Adam

end
-- ==== Proof.AdamIn.lean ====
/- The value of the call that adds the parts of the gradient of `w_in` and applies AdamW to it: it walks the four blocks of 256 columns;
   the first two read the parts of one half of the columns, the last two those of the other half. -/
module

public import proofs.«01_k».proof.Proof.AdamMath
public import proofs.«01_k».proof.Proof.Gen.Kernel6Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel6Ideal.Adam

open Cert.Kernel6Ideal Cert.Kernel6Ideal.Gen Cert.Adam

variable (m : (ℓ : Loc nD τ sig) → Buf (Elt Ideal) ℓ) (c : Dev nD)

/-- The gradient: of the first 512 columns the sum of the first parts, of the others that of the second. -/
def grad (A B : Vec Ideal S5x289x512 .bf16) (r : Fin 289) (d : Fin 1024) : EReal :=
  if h : d.val < 512 then ∑ k : Fin 5, A (ix3 k r ⟨d.val, h⟩) else ∑ k : Fin 5, B (ix3 k r ⟨d.val - 512, by omega⟩)

/-- What the body adds up at a point of the grid: both halves' parts, each times one or times zero. -/
def both (i : grid0.Coords) (x0 x1 : Vec Ideal S5x289x256 .bf16) (r : Fin 289) (d : Fin 256) : EReal :=
  Scalar.select (Scalar.cmpi CmpIPredicate.slt (BitVec.ofNat 32 (i 0).val) 2#32)
    (x0 (ix3 0 r d) + x0 (ix3 1 r d) + x0 (ix3 2 r d) + x0 (ix3 3 r d) + x0 (ix3 4 r d)) (0 : EReal)
  + (x1 (ix3 0 r d) + x1 (ix3 1 r d) + x1 (ix3 2 r d) + x1 (ix3 3 r d) + x1 (ix3 4 r d))
    * (1 - Scalar.select (Scalar.cmpi CmpIPredicate.slt (BitVec.ofNat 32 (i 0).val) 2#32) (1 : EReal) 0)

section
variable (i : grid0.Coords) (x0 x1 : Vec Ideal S5x289x256 .bf16) (x2 x3 x4 : Vec Ideal S289x256 .f32) (r : Fin 289) (d : Fin 256)

theorem out_g : out0_5 i x0 x1 x2 x3 x4 (ix2 r d) = both i x0 x1 r d := by
  unfold out0_5 both
  frame_out
  pointwise [k0_pay5, k0_pay10, k0_pay11, k0_pay12, k0_pay2, k0_pay3, k0_pay4]

theorem out_change : out0_6 i x0 x1 x2 x3 x4 (ix2 r d)
    = change (x2 (ix2 r d)) (both i x0 x1 r d) (x3 (ix2 r d)) (x4 (ix2 r d)) := by
  unfold out0_6 change avg avgSq both
  frame_out
  pointwise [k0_pay1, k0_pay6, k0_pay9, k0_pay7, k0_pay8, k0_pay5, k0_pay10, k0_pay11, k0_pay12, k0_pay2, k0_pay3, k0_pay4]

theorem out_avg : out0_7 i x0 x1 x2 x3 x4 (ix2 r d) = avg (both i x0 x1 r d) (x3 (ix2 r d)) := by
  unfold out0_7 avg both
  frame_out
  pointwise [k0_pay7, k0_pay5, k0_pay10, k0_pay11, k0_pay12, k0_pay2, k0_pay3, k0_pay4]

theorem out_avgSq : out0_8 i x0 x1 x2 x3 x4 (ix2 r d) = avgSq (both i x0 x1 r d) (x4 (ix2 r d)) := by
  unfold out0_8 avgSq both
  frame_out
  pointwise [k0_pay8, k0_pay5, k0_pay10, k0_pay11, k0_pay12, k0_pay2, k0_pay3, k0_pay4]

end

/-- The windows' block indices at every point, and which half the point belongs to. -/
theorem idx : ∀ t : Fin cfg0.N, win0_0.index t = ![0, 0, min t.val 1] ∧ win0_1.index t = ![0, 0, t.val - 2]
    ∧ win0_2.index t = ![0, t.val] ∧ win0_3.index t = ![0, t.val] ∧ win0_4.index t = ![0, t.val]
    ∧ win0_5.index t = ![0, t.val] ∧ win0_6.index t = ![0, t.val] ∧ win0_7.index t = ![0, t.val]
    ∧ win0_8.index t = ![0, t.val] ∧ t.val < 4
    ∧ Scalar.cmpi CmpIPredicate.slt (BitVec.ofNat 32 (grid0.coords t 0).val) 2#32 = (if t.val < 2 then 1#1 else 0#1) :=
  (by decide +kernel : ∀ t : Fin grid0.N, _)

theorem lt4 (t : Fin cfg0.N) : t.val < 4 := (idx t).2.2.2.2.2.2.2.2.2.1

/-- The column of the arrays that column `d` of point `t`'s block is. -/
def at_ (t : Fin cfg0.N) (d : Fin 256) : Fin 1024 := ⟨256 * t.val + d.val, by have := lt4 t; omega⟩

/-- At every point the body's sum is the gradient. -/
theorem both_eq (t : Fin cfg0.N) (r : Fin 289) (d : Fin 256) :
    both (grid0.coords t) (iblk m c 0 t) (iblk m c 1 t) r d
      = grad (m ((c : Thread nD τ).loc main_arg0)) (m ((c : Thread nD τ).loc main_arg1)) r (at_ t d) := by
  have ht := idx t
  have h4 := lt4 t
  unfold both grad
  rw [ht.2.2.2.2.2.2.2.2.2.2]
  by_cases h : t.val < 2
  · have hd : (at_ t d).val < 512 := by show 256 * t.val + d.val < 512; omega
    have e : ∀ k : Fin 5, (show Vec Ideal S5x289x256 .bf16 from iblk m c 0 t) (ix3 k r d)
        = m ((c : Thread nD τ).loc main_arg0) (ix3 k r ⟨(at_ t d).val, hd⟩) := fun k => by
      have hm : min t.val 1 = t.val := by omega
      rw [hm] at ht
      blk_ext [iblk, V, ht, at_]
    rw [dif_pos hd, if_pos h, Fin.sum_univ_five]
    simp only [← e]
    show _ + _ * ((1 : EReal) - 1) = _
    have z : (1 : EReal) - 1 = 0 := EReal.sub_self (EReal.coe_ne_top 1) (EReal.coe_ne_bot 1)
    rw [z, mul_zero, add_zero]
    rfl
  · have hd : ¬ (at_ t d).val < 512 := by show ¬ 256 * t.val + d.val < 512; omega
    have e : ∀ k : Fin 5, (show Vec Ideal S5x289x256 .bf16 from iblk m c 1 t) (ix3 k r d)
        = m ((c : Thread nD τ).loc main_arg1) (ix3 k r ⟨(at_ t d).val - 512, by omega⟩) := fun k => by
      blk_ext [iblk, V, ht, at_]
    rw [dif_neg hd, if_neg h, Fin.sum_univ_five]
    simp only [← e]
    show (0 : EReal) + _ * ((1 : EReal) - 0) = _
    rw [sub_zero, mul_one, zero_add]

/-- The host turns the weight and its averages. -/
theorem host_w (r : Fin 289) (d : Fin 1024) : (show Vec Ideal S289x1024 .f32 from V m c main_v0) (ix2 r d)
    = m ((c : Thread nD τ).loc main_arg2) (ix2 d r) := by
  entry_read; pointwise
theorem host_m (r : Fin 289) (d : Fin 1024) : (show Vec Ideal S289x1024 .f32 from V m c main_v1) (ix2 r d)
    = m ((c : Thread nD τ).loc main_arg3) (ix2 d r) := by
  entry_read; pointwise
theorem host_v (r : Fin 289) (d : Fin 1024) : (show Vec Ideal S289x1024 .f32 from V m c main_v2) (ix2 r d)
    = m ((c : Thread nD τ).loc main_arg4) (ix2 d r) := by
  entry_read; pointwise

theorem w_apply (t : Fin cfg0.N) (r : Fin 289) (d : Fin 256) : (show Vec Ideal S289x256 .f32 from iblk m c 2 t) (ix2 r d)
    = m ((c : Thread nD τ).loc main_arg2) (ix2 (at_ t d) r) := by
  rw [← host_w m c]
  have ht := idx t
  blk_ext [iblk, ht, at_]
theorem m_apply (t : Fin cfg0.N) (r : Fin 289) (d : Fin 256) : (show Vec Ideal S289x256 .f32 from iblk m c 3 t) (ix2 r d)
    = m ((c : Thread nD τ).loc main_arg3) (ix2 (at_ t d) r) := by
  rw [← host_m m c]
  have ht := idx t
  blk_ext [iblk, ht, at_]
theorem v_apply (t : Fin cfg0.N) (r : Fin 289) (d : Fin 256) : (show Vec Ideal S289x256 .f32 from iblk m c 4 t) (ix2 r d)
    = m ((c : Thread nD τ).loc main_arg4) (ix2 (at_ t d) r) := by
  rw [← host_v m c]
  have ht := idx t
  blk_ext [iblk, ht, at_]

/-- The gradient, the weight and the averages of the arguments, in the layout of the results. -/
abbrev G (y : S289x1024.Idx) : EReal := grad (m ((c : Thread nD τ).loc main_arg0)) (m ((c : Thread nD τ).loc main_arg1)) (y 0) (y 1)
abbrev W (y : S289x1024.Idx) : EReal := m ((c : Thread nD τ).loc main_arg2) (ix2 (y 1) (y 0))
abbrev M (y : S289x1024.Idx) : EReal := m ((c : Thread nD τ).loc main_arg3) (ix2 (y 1) (y 0))
abbrev S (y : S289x1024.Idx) : EReal := m ((c : Thread nD τ).loc main_arg4) (ix2 (y 1) (y 0))

theorem final_g : (dats m 0 c).arrAt 5 (cfgs 0).N = fun y : S289x1024.Idx => G m c y := by
  refine (dats m 0 c).arrAt_eq_of_covers 5 _ (by decide +kernel) fun t hf y => ?_
  have ht := idx t
  blk_simp
  rw [after0_5]
  obtain ⟨r, d, rfl⟩ : ∃ (r : Fin 289) (d : Fin 256), ix2 r d = y := ⟨y 0, y 1, by funext i; match i with | 0 => rfl | 1 => rfl⟩
  have e : (win0_5.blk t).view.emb (ix2 r d) = ix2 r (at_ t d) := by blk_point [ht, at_]
  refine Eq.trans ?_ (congrArg (fun y : S289x1024.Idx => G m c y) e).symm
  exact (out_g ..).trans (both_eq m c t r d)

theorem final_change : (dats m 0 c).arrAt 6 (cfgs 0).N = fun y : S289x1024.Idx => change (W m c y) (G m c y) (M m c y) (S m c y) := by
  refine (dats m 0 c).arrAt_eq_of_covers 6 _ (by decide +kernel) fun t hf y => ?_
  have ht := idx t
  blk_simp
  rw [after0_6]
  obtain ⟨r, d, rfl⟩ : ∃ (r : Fin 289) (d : Fin 256), ix2 r d = y := ⟨y 0, y 1, by funext i; match i with | 0 => rfl | 1 => rfl⟩
  have e : (win0_6.blk t).view.emb (ix2 r d) = ix2 r (at_ t d) := by blk_point [ht, at_]
  refine Eq.trans ?_ (congrArg (fun y : S289x1024.Idx => change (W m c y) (G m c y) (M m c y) (S m c y)) e).symm
  refine (out_change ..).trans ?_
  rw [both_eq m c t r d]
  exact congr (congrArg₂ (fun a b => change a _ b) (w_apply m c t r d) (m_apply m c t r d)) (v_apply m c t r d)

theorem final_avg : (dats m 0 c).arrAt 7 (cfgs 0).N = fun y : S289x1024.Idx => avg (G m c y) (M m c y) := by
  refine (dats m 0 c).arrAt_eq_of_covers 7 _ (by decide +kernel) fun t hf y => ?_
  have ht := idx t
  blk_simp
  rw [after0_7]
  obtain ⟨r, d, rfl⟩ : ∃ (r : Fin 289) (d : Fin 256), ix2 r d = y := ⟨y 0, y 1, by funext i; match i with | 0 => rfl | 1 => rfl⟩
  have e : (win0_7.blk t).view.emb (ix2 r d) = ix2 r (at_ t d) := by blk_point [ht, at_]
  refine Eq.trans ?_ (congrArg (fun y : S289x1024.Idx => avg (G m c y) (M m c y)) e).symm
  refine (out_avg ..).trans ?_
  rw [both_eq m c t r d]
  exact congrArg (avg _) (m_apply m c t r d)

theorem final_avgSq : (dats m 0 c).arrAt 8 (cfgs 0).N = fun y : S289x1024.Idx => avgSq (G m c y) (S m c y) := by
  refine (dats m 0 c).arrAt_eq_of_covers 8 _ (by decide +kernel) fun t hf y => ?_
  have ht := idx t
  blk_simp
  rw [after0_8]
  obtain ⟨r, d, rfl⟩ : ∃ (r : Fin 289) (d : Fin 256), ix2 r d = y := ⟨y 0, y 1, by funext i; match i with | 0 => rfl | 1 => rfl⟩
  have e : (win0_8.blk t).view.emb (ix2 r d) = ix2 r (at_ t d) := by blk_point [ht, at_]
  refine Eq.trans ?_ (congrArg (fun y : S289x1024.Idx => avgSq (G m c y) (S m c y)) e).symm
  refine (out_avgSq ..).trans ?_
  rw [both_eq m c t r d]
  exact congrArg (avgSq _) (v_apply m c t r d)

end Cert.Kernel6Ideal.Adam

end
-- ==== Proof.AdamInRef.lean ====
/- The reference's lines for `w_in` — the sum of the parts, then AdamW — read entry by entry. -/
module

public import proofs.«01_k».proof.Proof.AdamIn
public import proofs.«01_k».proof.Proof.Gen.Reference6Ideal.Read

@[expose] public section

set_option maxRecDepth 16384

noncomputable section

open Idealize.ShloMosaic Idealize.ShloMosaic.TcCoe Idealize.SL.Sem

namespace Cert.Reference6Ideal.Adam

open Cert.Reference6Ideal.Read Cert.Adam
open Cert.Kernel6Ideal.Adam (grad)

variable (x0 x1 : Vec Ideal S5x289x512 .bf16) (x2 x3 x4 : Vec Ideal S1024x289 .f32)

theorem grad_apply (r : Fin 289) (d : Fin 1024) : val_main_v4 (F := Ideal) x0 x1 (ix2 r d) = grad x0 x1 r d := by
  unfold grad
  pointwise [val_main_v4, val_main_v1, val_main_cst, val_main_v0, val_main_v3, val_main_cst_0, val_main_v2]

theorem avg_apply (r : Fin 289) (d : Fin 1024) :
    val_main_v12 (F := Ideal) x0 x1 x3 (ix2 r d) = avg (grad x0 x1 r d) (x3 (ix2 d r)) := by
  rw [← grad_apply]; unfold avg
  pointwise [val_main_v12, val_main_v11, val_main_v10, val_main_cst_2, val_main_v9, val_main_v6, val_main_v8, val_main_cst_1]

theorem avgSq_apply (r : Fin 289) (d : Fin 1024) :
    val_main_v18 (F := Ideal) x0 x1 x4 (ix2 r d) = avgSq (grad x0 x1 r d) (x4 (ix2 d r)) := by
  rw [← grad_apply]; unfold avgSq
  pointwise [val_main_v18, val_main_v14, val_main_v13, val_main_cst_3, val_main_v7, val_main_v17, val_main_v15, val_main_v16, val_main_cst_4]

theorem change_apply (r : Fin 289) (d : Fin 1024) : val_main_v31 (F := Ideal) x0 x1 x2 x3 x4 (ix2 r d)
    = change (x2 (ix2 d r)) (grad x0 x1 r d) (x3 (ix2 d r)) (x4 (ix2 d r)) := by
  unfold change
  rw [← avg_apply, ← avgSq_apply]
  pointwise [val_main_v31, val_main_v29, val_main_v26, val_main_v20, val_main_v19, val_main_cst_5, val_main_v25, val_main_v23, val_main_v22, val_main_v21, val_main_cst_6, val_main_v24, val_main_cst_7, val_main_v28, val_main_v27, val_main_cst_8, val_main_v5, val_main_v30, val_main_cst_9]

theorem g_eq : val_main_v4 (F := Ideal) x0 x1 = fun y : S289x1024.Idx => grad x0 x1 (y 0) (y 1) :=
  funext fun y => by rw [eq_ix2 y]; exact grad_apply ..
theorem change_eq : val_main_v31 (F := Ideal) x0 x1 x2 x3 x4 = fun y : S289x1024.Idx =>
    change (x2 (ix2 (y 1) (y 0))) (grad x0 x1 (y 0) (y 1)) (x3 (ix2 (y 1) (y 0))) (x4 (ix2 (y 1) (y 0))) :=
  funext fun y => by rw [eq_ix2 y]; exact change_apply ..
theorem avg_eq : val_main_v12 (F := Ideal) x0 x1 x3 = fun y : S289x1024.Idx => avg (grad x0 x1 (y 0) (y 1)) (x3 (ix2 (y 1) (y 0))) :=
  funext fun y => by rw [eq_ix2 y]; exact avg_apply ..
theorem avgSq_eq : val_main_v18 (F := Ideal) x0 x1 x4 = fun y : S289x1024.Idx => avgSq (grad x0 x1 (y 0) (y 1)) (x4 (ix2 (y 1) (y 0))) :=
  funext fun y => by rw [eq_ix2 y]; exact avgSq_apply ..

end Cert.Reference6Ideal.Adam

end
-- ==== Proof.AdaValue.lean ====
/- The value of the call that forms the gradient of a device's columns of `ada_w` and applies AdamW to them, on each of the eight devices:
   a device picks its 768 columns of the gathered gradients by adding the eight slices, each times one where the slice is the device's own
   and times zero elsewhere; then it walks four blocks of 256 rows. -/
module

public import proofs.«01_k».proof.Proof.AdamMath
public import proofs.«01_k».proof.Proof.Gen.Kernel7Ideal.Value
public import Idealize.ShloMosaic.Lib.WordCmp
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel7Ideal.Ada

open Cert.Kernel7Ideal Cert.Kernel7Ideal.Gen Cert.Adam

/-- The condition's entry: `c` gated by its logistic function. -/
def gated (x : EReal) : EReal := x * Ideal.logistic x

/-- The gradient of an entry of `ada_w`: the sum over the batch. -/
def grad {n q : ℕ} (C : Vec Ideal ⟨2, ![8, n]⟩ .f32) (D : Vec Ideal ⟨2, ![8, q]⟩ .f32) (r : Fin n) (d : Fin q) : EReal :=
  ∑ k : Fin 8, gated (C (ix2 k r)) * D (ix2 k d)

/-- The device's number as the kernel's body computes it from the three mesh axes. -/
def me (c : Dev nD) : BitVec 32 :=
  Scalar.addi (Scalar.addi (Scalar.muli 4#32 (Scalar.remsi (Scalar.divsi (Dev.word c) 4#32) 2#32))
    (Scalar.muli 2#32 (Scalar.remsi (Scalar.divsi (Dev.word c) 2#32) 2#32))) (Scalar.remsi (Scalar.divsi (Dev.word c) 1#32) 2#32)

/-- The column of the whole arrays that is the device's column `d`. -/
def own (c : Dev nD) (d : Fin 768) : Fin 6144 := ⟨c.val * 768 + d.val, by have := c.isLt; unfold nD at this; omega⟩

/-- It is the device's place in the row-major order of the mesh. -/
theorem me_eq : ∀ c : Dev nD, me c = BitVec.ofNat 32 c.val := by decide

/-- What a slice times its indicator is. -/
theorem pick (c : Dev nD) (j : BitVec 32) (h : j.toNat < 8) (x : EReal) :
    Scalar.select (Scalar.cmpi .eq (me c) j) x (0 : EReal) = if c.val = j.toNat then x else 0 := by
  have hc : c.val < 8 := c.isLt
  rw [me_eq, WordCmp.scalar_cmpi_eq, WordCmp.cmpi_eq_eq_toNat, WordCmp.select_ofBool, BitVec.toNat_ofNat, Nat.mod_eq_of_lt (by omega)]
  simp only [decide_eq_true_eq]

section
variable (c : Dev nD) (i : grid0.Coords) (arg1 : Memref sig .tc .vmem S8x256 .f32) (harg1 : arg1.IsWhole) (arg2 : Memref sig .tc .vmem S8x6144 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x768 .f32) (harg8 : arg8.IsWhole) (arg9 : Memref sig .tc .vmem S256x768 .f32) (harg9 : arg9.IsWhole)
    (x0 : Vec Ideal S8x256 .f32) (x1 : Vec Ideal S8x6144 .f32) (x2 x3 x4 : Vec Ideal S256x768 .f32)

theorem out_g (r : Fin 256) (d : Fin 768) : out0_A_5 c i arg1 harg1 arg2 harg2 arg3 harg3 arg4 harg4 arg5 harg5 arg6 harg6 arg7 harg7 arg8 harg8 arg9 harg9 x0 x1 x2 x3 x4 (ix2 r d)
    = grad x0 x1 r (own c d) := by
  frame_out
  pointwise [k0_pay5, k0_pay3, k0_pay4, k0_pay1, k0_pay2]
  refine Finset.sum_congr rfl fun k _ => congrArg (gated (x0 (ix2 k r)) * ·) ?_
  have p := pick c
  have w : BitVec.ofNat 32 c.val = Dev.word c := rfl
  unfold me at p
  simp only [w, p, BitVec.toNat_ofNat, Nat.reducePow, Nat.reduceMod, Nat.reduceLT, own]
  fin_cases c <;> simp

theorem out_change (r : Fin 256) (d : Fin 768) : out0_A_6 c i arg1 harg1 arg2 harg2 arg3 harg3 arg4 harg4 arg5 harg5 arg6 harg6 arg7 harg7 arg8 harg8 arg9 harg9 x0 x1 x2 x3 x4 (ix2 r d)
    = change (x2 (ix2 r d)) (grad x0 x1 r (own c d)) (x3 (ix2 r d)) (x4 (ix2 r d)) := by
  rw [← out_g c i arg1 harg1 arg2 harg2 arg3 harg3 arg4 harg4 arg5 harg5 arg6 harg6 arg7 harg7 arg8 harg8 arg9 harg9 x0 x1 x2 x3 x4]
  unfold change avg avgSq
  frame_out
  pointwise [k0_pay8, k0_pay6, k0_pay7]

theorem out_avg (r : Fin 256) (d : Fin 768) : out0_A_7 c i arg1 harg1 arg2 harg2 arg3 harg3 arg4 harg4 arg5 harg5 arg6 harg6 arg7 harg7 arg8 harg8 arg9 harg9 x0 x1 x2 x3 x4 (ix2 r d)
    = avg (grad x0 x1 r (own c d)) (x3 (ix2 r d)) := by
  rw [← out_g c i arg1 harg1 arg2 harg2 arg3 harg3 arg4 harg4 arg5 harg5 arg6 harg6 arg7 harg7 arg8 harg8 arg9 harg9 x0 x1 x2 x3 x4]
  unfold avg
  frame_out
  pointwise [k0_pay6]

theorem out_avgSq (r : Fin 256) (d : Fin 768) : out0_A_8 c i arg1 harg1 arg2 harg2 arg3 harg3 arg4 harg4 arg5 harg5 arg6 harg6 arg7 harg7 arg8 harg8 arg9 harg9 x0 x1 x2 x3 x4 (ix2 r d)
    = avgSq (grad x0 x1 r (own c d)) (x4 (ix2 r d)) := by
  rw [← out_g c i arg1 harg1 arg2 harg2 arg3 harg3 arg4 harg4 arg5 harg5 arg6 harg6 arg7 harg7 arg8 harg8 arg9 harg9 x0 x1 x2 x3 x4]
  unfold avgSq
  frame_out
  pointwise [k0_pay7]

end

variable (m : (ℓ : Loc nD τ sig) → Buf (Elt Ideal) ℓ) (c : Dev nD)

/-- The windows' blocks at a point: the point's 256 rows, and the gathered gradients whole. -/
theorem idx : ∀ t : Fin cfg0.N, win0_0.index t = ![0, t.val] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ t.val < 4 :=
  (by decide +kernel : ∀ t : Fin grid0.N, _)

theorem lt4 (t : Fin cfg0.N) : t.val < 4 := by have := idx t; tauto

/-- The row of the arrays that row `r` of point `t`'s block is. -/
def at_ (t : Fin cfg0.N) (r : Fin 256) : Fin 1024 := ⟨256 * t.val + r.val, by have := lt4 t; omega⟩

theorem grad_eq (t : Fin cfg0.N) (r : Fin 256) (d : Fin 6144) :
    grad (n := 256) (q := 6144) (iblk m c 0 t) (iblk m c 1 t) r d
      = grad (n := 1024) (q := 6144) (m ((c : Thread nD τ).loc main_arg0)) (m ((c : Thread nD τ).loc main_arg1)) (at_ t r) d := by
  have ht := idx t
  have ea : ∀ k : Fin 8, (show Vec Ideal S8x256 .f32 from iblk m c 0 t) (ix2 k r) = (m ((c : Thread nD τ).loc main_arg0)) (ix2 k (at_ t r)) := fun k => by
    blk_ext [iblk, V, ht, at_]
  have eb : ∀ k : Fin 8, (show Vec Ideal S8x6144 .f32 from iblk m c 1 t) (ix2 k d) = (m ((c : Thread nD τ).loc main_arg1)) (ix2 k d) := fun k => by
    blk_ext [iblk, V, ht, at_]
  exact Finset.sum_congr rfl fun k _ => congrArg₂ (fun a b => gated a * b) (ea k) (eb k)

theorem in_2 (t : Fin cfg0.N) (r : Fin 256) (d : Fin 768) :
    (show Vec Ideal S256x768 .f32 from iblk m c 2 t) (ix2 r d) = (m ((c : Thread nD τ).loc main_arg2)) (ix2 (at_ t r) d) := by
  have ht := idx t
  blk_ext [iblk, V, ht, at_]

theorem in_3 (t : Fin cfg0.N) (r : Fin 256) (d : Fin 768) :
    (show Vec Ideal S256x768 .f32 from iblk m c 3 t) (ix2 r d) = (m ((c : Thread nD τ).loc main_arg3)) (ix2 (at_ t r) d) := by
  have ht := idx t
  blk_ext [iblk, V, ht, at_]

theorem in_4 (t : Fin cfg0.N) (r : Fin 256) (d : Fin 768) :
    (show Vec Ideal S256x768 .f32 from iblk m c 4 t) (ix2 r d) = (m ((c : Thread nD τ).loc main_arg4)) (ix2 (at_ t r) d) := by
  have ht := idx t
  blk_ext [iblk, V, ht, at_]

/-- The gradient, the weight and its averages at an entry of the device's part. -/
abbrev Gr (y : S1024x768.Idx) : EReal :=
  grad (n := 1024) (q := 6144) (m ((c : Thread nD τ).loc main_arg0)) (m ((c : Thread nD τ).loc main_arg1)) (y 0) (own c (y 1))
abbrev Wt (y : S1024x768.Idx) : EReal := (m ((c : Thread nD τ).loc main_arg2)) (ix2 (y 0) (y 1))
abbrev Av (y : S1024x768.Idx) : EReal := (m ((c : Thread nD τ).loc main_arg3)) (ix2 (y 0) (y 1))
abbrev Sq (y : S1024x768.Idx) : EReal := (m ((c : Thread nD τ).loc main_arg4)) (ix2 (y 0) (y 1))

theorem final_g : (dats m 0 c).arrAt 5 (cfgs 0).N = fun y : S1024x768.Idx => Gr m c y := by
  refine (dats m 0 c).arrAt_eq_of_covers 5 _ (by decide +kernel) fun t hf y => ?_
  have ht := idx t
  blk_simp
  rw [after0_5]
  obtain ⟨r, d, rfl⟩ : ∃ (r : Fin 256) (d : Fin 768), ix2 r d = y := ⟨y 0, y 1, by funext i; match i with | 0 => rfl | 1 => rfl⟩
  have e : (win0_5.blk t).view.emb (ix2 r d) = ix2 (at_ t r) d := by blk_point [ht, at_]
  refine Eq.trans ?_ (congrArg (fun y : S1024x768.Idx => Gr m c y) e).symm
  simp only [outsAt0]
  refine (out_g ..).trans ?_
  exact grad_eq m c t r _

theorem final_change : (dats m 0 c).arrAt 6 (cfgs 0).N = fun y : S1024x768.Idx => change (Wt m c y) (Gr m c y) (Av m c y) (Sq m c y) := by
  refine (dats m 0 c).arrAt_eq_of_covers 6 _ (by decide +kernel) fun t hf y => ?_
  have ht := idx t
  blk_simp
  rw [after0_6]
  obtain ⟨r, d, rfl⟩ : ∃ (r : Fin 256) (d : Fin 768), ix2 r d = y := ⟨y 0, y 1, by funext i; match i with | 0 => rfl | 1 => rfl⟩
  have e : (win0_6.blk t).view.emb (ix2 r d) = ix2 (at_ t r) d := by blk_point [ht, at_]
  refine Eq.trans ?_ (congrArg (fun y : S1024x768.Idx => change (Wt m c y) (Gr m c y) (Av m c y) (Sq m c y)) e).symm
  simp only [outsAt0]
  refine (out_change ..).trans ?_
  rw [grad_eq m c t r _]
  exact congr (congrArg₂ (fun a b => change a _ b) (in_2 m c t r d) (in_3 m c t r d)) (in_4 m c t r d)

theorem final_avg : (dats m 0 c).arrAt 7 (cfgs 0).N = fun y : S1024x768.Idx => avg (Gr m c y) (Av m c y) := by
  refine (dats m 0 c).arrAt_eq_of_covers 7 _ (by decide +kernel) fun t hf y => ?_
  have ht := idx t
  blk_simp
  rw [after0_7]
  obtain ⟨r, d, rfl⟩ : ∃ (r : Fin 256) (d : Fin 768), ix2 r d = y := ⟨y 0, y 1, by funext i; match i with | 0 => rfl | 1 => rfl⟩
  have e : (win0_7.blk t).view.emb (ix2 r d) = ix2 (at_ t r) d := by blk_point [ht, at_]
  refine Eq.trans ?_ (congrArg (fun y : S1024x768.Idx => avg (Gr m c y) (Av m c y)) e).symm
  simp only [outsAt0]
  refine (out_avg ..).trans ?_
  rw [grad_eq m c t r _]
  exact congrArg (avg _) (in_3 m c t r d)

theorem final_avgSq : (dats m 0 c).arrAt 8 (cfgs 0).N = fun y : S1024x768.Idx => avgSq (Gr m c y) (Sq m c y) := by
  refine (dats m 0 c).arrAt_eq_of_covers 8 _ (by decide +kernel) fun t hf y => ?_
  have ht := idx t
  blk_simp
  rw [after0_8]
  obtain ⟨r, d, rfl⟩ : ∃ (r : Fin 256) (d : Fin 768), ix2 r d = y := ⟨y 0, y 1, by funext i; match i with | 0 => rfl | 1 => rfl⟩
  have e : (win0_8.blk t).view.emb (ix2 r d) = ix2 (at_ t r) d := by blk_point [ht, at_]
  refine Eq.trans ?_ (congrArg (fun y : S1024x768.Idx => avgSq (Gr m c y) (Sq m c y)) e).symm
  simp only [outsAt0]
  refine (out_avgSq ..).trans ?_
  rw [grad_eq m c t r _]
  exact congrArg (avgSq _) (in_4 m c t r d)

end Cert.Kernel7Ideal.Ada

end
-- ==== Proof.AdaRef.lean ====
/- The reference's lines for `ada_w` — the gradient by the derivative of the modulation's product, then AdamW — read entry by entry. -/
module

public import proofs.«01_k».proof.Proof.AdaValue
public import proofs.«01_k».proof.Proof.Gen.Reference7Ideal.Read
public import Idealize.ShloMosaic.Lib.LayoutAt

@[expose] public section

set_option maxRecDepth 16384

noncomputable section

open Idealize.ShloMosaic Idealize.ShloMosaic.TcCoe Idealize.SL.Sem

namespace Cert.Reference7Ideal.Ada

open Cert.Reference7Ideal.Read Cert.Adam
open Cert.Kernel7Ideal.Ada (grad gated own)

variable (x0 : Vec Ideal S8x1024 .f32) (x1 : Vec Ideal S8x6144 .f32) (x2 x3 x4 : Vec Ideal S1024x6144 .f32)

theorem gated_apply (k : Fin 8) (r : Fin 1024) : val_main_v0 (F := Ideal) x0 (ix2 k r) = gated (x0 (ix2 k r)) := by
  unfold gated
  pointwise [val_main_v0, val_main_call0_v5, val_main_call0_v3, val_main_call0_v1, val_main_call0_v0, val_main_call0_v2, val_main_call0_cst, val_main_call0_v4, val_main_call0_cst_0]
  rfl

theorem grad_apply (r : Fin 1024) (d : Fin 6144) : val_main_v3 (F := Ideal) x0 x1 (ix2 r d) = grad x0 x1 r d := by
  unfold grad
  simp only [← gated_apply]
  pointwise [val_main_v3, val_main_v2]
  exact Finset.sum_congr rfl fun _ _ => mul_comm (_ : EReal) _

theorem avg_apply (r : Fin 1024) (d : Fin 6144) :
    val_main_v8 (F := Ideal) x0 x1 x3 (ix2 r d) = avg (grad x0 x1 r d) (x3 (ix2 r d)) := by
  rw [← grad_apply]; unfold avg
  pointwise [val_main_v8, val_main_v5, val_main_v4, val_main_cst, val_main_v7, val_main_v6, val_main_cst_0]

theorem avgSq_apply (r : Fin 1024) (d : Fin 6144) :
    val_main_v14 (F := Ideal) x0 x1 x4 (ix2 r d) = avgSq (grad x0 x1 r d) (x4 (ix2 r d)) := by
  rw [← grad_apply]; unfold avgSq
  pointwise [val_main_v14, val_main_v10, val_main_v9, val_main_cst_1, val_main_v13, val_main_v11, val_main_v12, val_main_cst_2]

theorem change_apply (r : Fin 1024) (d : Fin 6144) : val_main_v27 (F := Ideal) x0 x1 x2 x3 x4 (ix2 r d)
    = change (x2 (ix2 r d)) (grad x0 x1 r d) (x3 (ix2 r d)) (x4 (ix2 r d)) := by
  unfold change
  rw [← avg_apply, ← avgSq_apply]
  pointwise [val_main_v27, val_main_v25, val_main_v22, val_main_v16, val_main_v15, val_main_cst_3, val_main_v21, val_main_v19, val_main_v18, val_main_v17, val_main_cst_4, val_main_v20, val_main_cst_5, val_main_v24, val_main_v23, val_main_cst_6, val_main_v26, val_main_cst_7]

/-- A device's part of an array of the whole width: its 768 columns. -/
theorem part_apply (c : Dev Cert.Kernel7Ideal.nD) (v : Vec Ideal S1024x6144 .f32) (h) (r : Fin 1024) (d : Fin 768) :
    Layout.block ⟨2, ![1024, 768]⟩ ⟨2, ![1024, 6144]⟩ 1 8 c v h (ix2 r d) = v (ix2 r (own c d)) := by
  exact congrArg v (funext fun b => match b with | 0 => rfl | 1 => rfl)

/-- The device's part of an array of the whole width. -/
abbrev part (c : Dev Cert.Kernel7Ideal.nD) (v : Vec Ideal S1024x6144 .f32) : Vec Ideal ⟨2, ![1024, 768]⟩ .f32 :=
  Layout.block ⟨2, ![1024, 768]⟩ ⟨2, ![1024, 6144]⟩ 1 8 c v

variable (c : Dev Cert.Kernel7Ideal.nD)

theorem g_part : part c (val_main_v3 (F := Ideal) x0 x1) = fun y => grad x0 x1 (y 0) (own c (y 1)) :=
  funext fun y => by
    obtain ⟨r, d, rfl⟩ : ∃ (r : Fin 1024) (d : Fin 768), ix2 r d = y := ⟨y 0, y 1, by funext i; match i with | 0 => rfl | 1 => rfl⟩
    exact (part_apply c _ _ r d).trans (grad_apply ..)
theorem change_part : part c (val_main_v27 (F := Ideal) x0 x1 x2 x3 x4) = fun y =>
    change (part c x2 (ix2 (y 0) (y 1))) (grad x0 x1 (y 0) (own c (y 1))) (part c x3 (ix2 (y 0) (y 1))) (part c x4 (ix2 (y 0) (y 1))) :=
  funext fun y => by
    obtain ⟨r, d, rfl⟩ : ∃ (r : Fin 1024) (d : Fin 768), ix2 r d = y := ⟨y 0, y 1, by funext i; match i with | 0 => rfl | 1 => rfl⟩
    exact (part_apply c _ _ r d).trans ((change_apply ..).trans (congr (congrArg₂ (fun a b => change a _ b) (part_apply c x2 _ r d).symm (part_apply c x3 _ r d).symm) (part_apply c x4 _ r d).symm))
theorem avg_part : part c (val_main_v8 (F := Ideal) x0 x1 x3) = fun y =>
    avg (grad x0 x1 (y 0) (own c (y 1))) (part c x3 (ix2 (y 0) (y 1))) :=
  funext fun y => by
    obtain ⟨r, d, rfl⟩ : ∃ (r : Fin 1024) (d : Fin 768), ix2 r d = y := ⟨y 0, y 1, by funext i; match i with | 0 => rfl | 1 => rfl⟩
    exact (part_apply c _ _ r d).trans ((avg_apply ..).trans (congrArg (avg _) (part_apply c x3 _ r d).symm))
theorem avgSq_part : part c (val_main_v14 (F := Ideal) x0 x1 x4) = fun y =>
    avgSq (grad x0 x1 (y 0) (own c (y 1))) (part c x4 (ix2 (y 0) (y 1))) :=
  funext fun y => by
    obtain ⟨r, d, rfl⟩ : ∃ (r : Fin 1024) (d : Fin 768), ix2 r d = y := ⟨y 0, y 1, by funext i; match i with | 0 => rfl | 1 => rfl⟩
    exact (part_apply c _ _ r d).trans ((avgSq_apply ..).trans (congrArg (avgSq _) (part_apply c x4 _ r d).symm))

end Cert.Reference7Ideal.Ada

end
-- ==== Proof.lean ====
/- The certificate put together.  The frame of a kernel whose run is generated is that run weakened; the feed-forward
   kernel's is the run of MlpFrame (and of its twin at machine words, MlpFrameBits).  A reference's frame is its run with
   its results left out.  A kernel and its reference agree because both are read as one function of the arguments:
   MlpRead and MlpRefRead for the feed-forward half, WgradGateUp and WgradDown for the gradients of its weights, InRead
   for the input projection carried backwards, AdamBig with AdamBigRef and AdamIn with AdamInRef for the optimiser, AdaValue with AdaRef
   for the update of `ada_w` on the mesh. -/
module

public import proofs.«01_k».proof.Defs
public import proofs.«01_k».proof.Proof.Gen.Pre_finite
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Pre_finite4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import Idealize.ShloMosaic.Adequacy
public import Idealize.ShloMosaic.Init
public import Idealize.ShloMosaic.Lib.Quiescent
public import proofs.«01_k».proof.Proof.MlpRead
public import proofs.«01_k».proof.Proof.MlpFrameBits
public import proofs.«01_k».proof.Proof.MlpRefRead
public import proofs.«01_k».proof.Proof.WgradGateUp
public import proofs.«01_k».proof.Proof.WgradDown
public import proofs.«01_k».proof.Proof.InRead
public import proofs.«01_k».proof.Proof.AdamBigRef
public import proofs.«01_k».proof.Proof.AdamInRef
public import proofs.«01_k».proof.Proof.AdaRef

@[expose] public section

noncomputable section

namespace Cert.Proof

open Idealize.ShloMosaic Idealize.SL.Sem

/-- The rows the precondition speaks of are real, on the kernel's side -/
theorem kernel_real (m : (ℓ : Loc Cert.KernelIdeal.nD Cert.KernelIdeal.τ Cert.KernelIdeal.sig) → Buf (Elt Ideal) ℓ)
    (h : Pre_KernelIdeal_finite m) (c i) : (Cert.KernelIdeal.Mlp.argRow m c i).Real := by
  obtain ⟨h0, h1, h2, h3, h4, h5, h6, h7, h8⟩ := Cert.Ffn.reals (h c)
  exact ⟨fun d => h0 _, fun d => h1 _, fun d => h2 _, fun d => h3 _, fun d => h4 _, fun d => h5 _, fun d => h6 _,
    fun j d => h7 _, fun j d => h8 _⟩

theorem quiescent_ReferenceIdeal : quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

theorem algebraic_KernelIdeal_ReferenceIdeal_pre_finite : algebraic_KernelIdeal_ReferenceIdeal_pre_finite := by
  intro m ρ m' ρ' hpre hagree
  have hk := kernel_real m hpre
  have hrow : ∀ c i, Cert.ReferenceIdeal.Rows.argRow m' c i = Cert.KernelIdeal.Mlp.argRow m c i := by
    intro c i
    obtain ⟨e0, e1, e2, e3, e4, e5, e6, e7, e8⟩ := hagree c
    unfold Cert.ReferenceIdeal.Rows.argRow Cert.ReferenceIdeal.Rows.row Cert.KernelIdeal.Mlp.argRow
    rw [e0, e1, e2, e3, e4, e5, e6, e7, e8]
  have hr : ∀ c i, (Cert.ReferenceIdeal.Rows.argRow m' c i).Real := fun c i => by rw [hrow]; exact hk c i
  refine ⟨_, _, _, _, _, _, Cert.KernelIdeal.Mlp.read m ρ hk, ?_⟩
  refine (θ_run Cert.ReferenceIdeal.defs _ _).mono (fun _ h c => ?_) (Cert.ReferenceIdeal.Rows.read m' ρ' hr)
  have := h c
  rw [show Cert.ReferenceIdeal.Rows.argRow m' c = Cert.KernelIdeal.Mlp.argRow m c from funext (hrow c)] at this
  exact this

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1]
  simp only [hagree c]
  exact (Cert.Kernel2Ideal.Value.final m c).symm

theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  simp only [hagree c]
  exact (Cert.Kernel3Ideal.Value.final m c).symm

theorem quiescent_Reference4Ideal : quiescent_Reference4Ideal := fun m ρ _ =>
  (θ_run Cert.Reference4Ideal.defs _ _).mono
    (fun r h => ⟨fun c => (h c).2.2.2.2, sem_eq_zero_of_no_sems (by decide) r.2⟩)
    (Cert.Reference4Ideal.Value.run (F := Ideal) m ρ)

/-- The rows the fourth precondition speaks of are real, on the kernel's side -/
theorem kernel4_real (m : (ℓ : Loc Cert.Kernel4Ideal.nD Cert.Kernel4Ideal.τ Cert.Kernel4Ideal.sig) → Buf (Elt Ideal) ℓ)
    (h : Pre_Kernel4Ideal_finite4 m) (c i) : (Cert.Kernel4Ideal.In.argRow m c i).Real := by
  obtain ⟨h0, h2, h3, h4, h5, h6, h7, h8, h10⟩ := Cert.Ffn.reals4 (h c)
  exact ⟨fun d => h0 (ix2 i d), fun d => h7 (ix2 (0 : Fin 1) d), fun d => h8 (ix2 (0 : Fin 1) d),
    fun j => Cert.Ffn.IsReal.join (fun k => h2 (ix2 i k)) (fun k => h3 (ix2 i k)) (fun k => h4 (ix2 i k))
      (fun k => h5 (ix2 i k)) (fun k => h6 (ix2 i k)) j,
    fun j d => Cert.Ffn.IsReal.widened (fun k l => h10 (ix2 k l)) j d⟩

theorem algebraic_Kernel4Ideal_Reference4Ideal_pre_finite4 : algebraic_Kernel4Ideal_Reference4Ideal_pre_finite4 := by
  intro m ρ m' ρ' hpre hagree
  have hrow : ∀ c i, Cert.Reference4Ideal.In.argRow m' c i = Cert.Kernel4Ideal.In.argRow m c i := by
    intro c i
    obtain ⟨e0, e1, e2, e3, e4, e5, e6, e7, e8, e9, e10⟩ := hagree c
    unfold Cert.Reference4Ideal.In.argRow Cert.Reference4Ideal.In.row Cert.Kernel4Ideal.In.argRow
    rw [e0, e1, e2, e3, e4, e5, e6, e7, e8, e9, e10]
  refine ⟨_, _, _, _, Cert.Kernel4Ideal.In.read m ρ (kernel4_real m hpre), ?_⟩
  refine (θ_run Cert.Reference4Ideal.defs _ _).mono (fun _ h c => ?_) (Cert.Reference4Ideal.In.read m' ρ')
  have := h c
  rw [show Cert.Reference4Ideal.In.argRow m' c = Cert.Kernel4Ideal.In.argRow m c from funext (hrow c)] at this
  exact this

theorem quiescent_Reference5Ideal : quiescent_Reference5Ideal := fun m ρ _ =>
  (θ_run Cert.Reference5Ideal.defs _ _).mono
    (fun r h => ⟨fun c => (h c).2.2.2.2.2.2.2.2.2.2.2.2, sem_eq_zero_of_no_sems (by decide) r.2⟩)
    (Cert.Reference5Ideal.Value.run (F := Ideal) m ρ)

set_option maxHeartbeats 1000000 in
theorem algebraic_Kernel5Ideal_Reference5Ideal : algebraic_Kernel5Ideal_Reference5Ideal := by
  intro m ρ m' ρ' _ hagree
  refine ⟨_, _, _, _, _, _, _, _, _, _, _, _, Cert.Kernel5Ideal.Value.run_blocks (F := Ideal) m ρ, ?_⟩
  refine (θ_run Cert.Reference5Ideal.defs _ _).mono (fun _ h c => ⟨?_, ?_, ?_, ?_, ?_, ?_, ?_, ?_, ?_, ?_, ?_, ?_, (h c).2.2.2.2.2.2.2.2.2.2.2.2⟩)
    (Cert.Reference5Ideal.Value.run (F := Ideal) m' ρ')
  · rw [(h c).1]
    refine (Cert.Reference5Ideal.Read.val_main_v2_eq _ _).trans ((Cert.Reference5Ideal.Adam.g_g_eq _ _).trans ?_)
    simp only [hagree c]
    exact (Cert.Kernel5Ideal.Adam.final_g_g m c).symm
  · rw [(h c).2.1]
    refine (Cert.Reference5Ideal.Read.val_main_v33_eq _ _ _ _ _).trans ((Cert.Reference5Ideal.Adam.g_change_eq _ _ _ _ _).trans ?_)
    simp only [hagree c]
    exact (Cert.Kernel5Ideal.Adam.final_g_change m c).symm
  · rw [(h c).2.2.1]
    refine (Cert.Reference5Ideal.Read.val_main_v14_eq _ _ _).trans ((Cert.Reference5Ideal.Adam.g_avg_eq _ _ _).trans ?_)
    simp only [hagree c]
    exact (Cert.Kernel5Ideal.Adam.final_g_avg m c).symm
  · rw [(h c).2.2.2.1]
    refine (Cert.Reference5Ideal.Read.val_main_v20_eq _ _ _).trans ((Cert.Reference5Ideal.Adam.g_avgSq_eq _ _ _).trans ?_)
    simp only [hagree c]
    exact (Cert.Kernel5Ideal.Adam.final_g_avgSq m c).symm
  · rw [(h c).2.2.2.2.1]
    refine (Cert.Reference5Ideal.Read.val_main_v7_eq _).trans ((Cert.Reference5Ideal.Adam.d_g_eq _).trans ?_)
    simp only [hagree c]
    exact (Cert.Kernel5Ideal.Adam.final_d_g m c).symm
  · rw [(h c).2.2.2.2.2.1]
    refine (Cert.Reference5Ideal.Read.val_main_v57_eq _ _ _ _).trans ((Cert.Reference5Ideal.Adam.d_change_eq _ _ _ _).trans ?_)
    simp only [hagree c]
    exact (Cert.Kernel5Ideal.Adam.final_d_change m c).symm
  · rw [(h c).2.2.2.2.2.2.1]
    refine (Cert.Reference5Ideal.Read.val_main_v38_eq _ _).trans ((Cert.Reference5Ideal.Adam.d_avg_eq _ _).trans ?_)
    simp only [hagree c]
    exact (Cert.Kernel5Ideal.Adam.final_d_avg m c).symm
  · rw [(h c).2.2.2.2.2.2.2.1]
    refine (Cert.Reference5Ideal.Read.val_main_v44_eq _ _).trans ((Cert.Reference5Ideal.Adam.d_avgSq_eq _ _).trans ?_)
    simp only [hagree c]
    exact (Cert.Kernel5Ideal.Adam.final_d_avgSq m c).symm
  · rw [(h c).2.2.2.2.2.2.2.2.1]
    refine (Cert.Reference5Ideal.Read.val_main_v9_eq _).trans ((Cert.Reference5Ideal.Adam.o_g_eq _).trans ?_)
    simp only [hagree c]
    exact (Cert.Kernel5Ideal.Adam.final_o_g m c).symm
  · rw [(h c).2.2.2.2.2.2.2.2.2.1]
    refine (Cert.Reference5Ideal.Read.val_main_v81_eq _ _ _ _).trans ((Cert.Reference5Ideal.Adam.o_change_eq _ _ _ _).trans ?_)
    simp only [hagree c]
    exact (Cert.Kernel5Ideal.Adam.final_o_change m c).symm
  · rw [(h c).2.2.2.2.2.2.2.2.2.2.1]
    refine (Cert.Reference5Ideal.Read.val_main_v62_eq _ _).trans ((Cert.Reference5Ideal.Adam.o_avg_eq _ _).trans ?_)
    simp only [hagree c]
    exact (Cert.Kernel5Ideal.Adam.final_o_avg m c).symm
  · rw [(h c).2.2.2.2.2.2.2.2.2.2.2.1]
    refine (Cert.Reference5Ideal.Read.val_main_v68_eq _ _).trans ((Cert.Reference5Ideal.Adam.o_avgSq_eq _ _).trans ?_)
    simp only [hagree c]
    exact (Cert.Kernel5Ideal.Adam.final_o_avgSq m c).symm

theorem quiescent_Reference6Ideal : quiescent_Reference6Ideal := fun m ρ _ =>
  (θ_run Cert.Reference6Ideal.defs _ _).mono
    (fun r h => ⟨fun c => (h c).2.2.2.2, sem_eq_zero_of_no_sems (by decide) r.2⟩)
    (Cert.Reference6Ideal.Value.run (F := Ideal) m ρ)

theorem algebraic_Kernel6Ideal_Reference6Ideal : algebraic_Kernel6Ideal_Reference6Ideal := by
  intro m ρ m' ρ' _ hagree
  refine ⟨_, _, _, _, Cert.Kernel6Ideal.Value.run_blocks (F := Ideal) m ρ, ?_⟩
  refine (θ_run Cert.Reference6Ideal.defs _ _).mono (fun _ h c => ⟨?_, ?_, ?_, ?_, (h c).2.2.2.2⟩)
    (Cert.Reference6Ideal.Value.run (F := Ideal) m' ρ')
  · rw [(h c).1]
    refine (Cert.Reference6Ideal.Read.val_main_v4_eq _ _).trans ((Cert.Reference6Ideal.Adam.g_eq _ _).trans ?_)
    simp only [hagree c]
    exact (Cert.Kernel6Ideal.Adam.final_g m c).symm
  · rw [(h c).2.1]
    refine (Cert.Reference6Ideal.Read.val_main_v31_eq _ _ _ _ _).trans ((Cert.Reference6Ideal.Adam.change_eq _ _ _ _ _).trans ?_)
    simp only [hagree c]
    exact (Cert.Kernel6Ideal.Adam.final_change m c).symm
  · rw [(h c).2.2.1]
    refine (Cert.Reference6Ideal.Read.val_main_v12_eq _ _ _).trans ((Cert.Reference6Ideal.Adam.avg_eq _ _ _).trans ?_)
    simp only [hagree c]
    exact (Cert.Kernel6Ideal.Adam.final_avg m c).symm
  · rw [(h c).2.2.2.1]
    refine (Cert.Reference6Ideal.Read.val_main_v18_eq _ _ _).trans ((Cert.Reference6Ideal.Adam.avgSq_eq _ _ _).trans ?_)
    simp only [hagree c]
    exact (Cert.Kernel6Ideal.Adam.final_avgSq m c).symm

/-- An argument of the one-device reference. -/
abbrev given (m' : (ℓ : Loc Cert.Reference7Ideal.nD Cert.Reference7Ideal.τ Cert.Reference7Ideal.sig) → Buf (Elt Ideal) ℓ) (a : Ref Cert.Reference7Ideal.sig .tc) :
    Buf (Elt Ideal) (((0 : Dev Cert.Reference7Ideal.nD).tc : Thread Cert.Reference7Ideal.nD Cert.Reference7Ideal.τ).loc a) := m' _

theorem quiescent_Reference7Ideal : quiescent_Reference7Ideal := fun m ρ _ =>
  (θ_run Cert.Reference7Ideal.defs _ _).mono
    (fun r h => ⟨fun c => (h c).2.2.2.2, sem_eq_zero_of_no_sems (by decide) r.2⟩)
    (Cert.Reference7Ideal.Value.run (F := Ideal) m ρ)

open Cert.Kernel7Ideal.Ada (Gr Wt Av Sq) in
theorem algebraic_Kernel7Ideal_Reference7Ideal : algebraic_Kernel7Ideal_Reference7Ideal := by
  intro m ρ m' ρ' _ hagree
  refine ⟨Cert.Reference7Ideal.Read.val_main_v3 (given m' Cert.Reference7Ideal.main_arg0) (given m' Cert.Reference7Ideal.main_arg1),
    Cert.Reference7Ideal.Read.val_main_v27 (given m' Cert.Reference7Ideal.main_arg0) (given m' Cert.Reference7Ideal.main_arg1) (given m' Cert.Reference7Ideal.main_arg2) (given m' Cert.Reference7Ideal.main_arg3) (given m' Cert.Reference7Ideal.main_arg4),
    Cert.Reference7Ideal.Read.val_main_v8 (given m' Cert.Reference7Ideal.main_arg0) (given m' Cert.Reference7Ideal.main_arg1) (given m' Cert.Reference7Ideal.main_arg3),
    Cert.Reference7Ideal.Read.val_main_v14 (given m' Cert.Reference7Ideal.main_arg0) (given m' Cert.Reference7Ideal.main_arg1) (given m' Cert.Reference7Ideal.main_arg4), ?_, ?_⟩
  · refine (θ_run Cert.Kernel7Ideal.defs _ _).mono (fun _ h c => ⟨?_, ?_, ?_, ?_, (h c).2.2.2.2⟩)
      (Cert.Kernel7Ideal.Value.run_blocks (F := Ideal) m ρ)
    · rw [(h c).1]
      refine (Cert.Kernel7Ideal.Ada.final_g m c).trans (Eq.trans ?_ (Cert.Reference7Ideal.Ada.g_part _ _ c).symm)
      simp only [Gr, hagree c]
    · rw [(h c).2.1]
      refine (Cert.Kernel7Ideal.Ada.final_change m c).trans (Eq.trans ?_ (Cert.Reference7Ideal.Ada.change_part _ _ _ _ _ c).symm)
      simp only [Gr, Wt, Av, Sq, hagree c]
    · rw [(h c).2.2.1]
      refine (Cert.Kernel7Ideal.Ada.final_avg m c).trans (Eq.trans ?_ (Cert.Reference7Ideal.Ada.avg_part _ _ _ c).symm)
      simp only [Gr, Av, hagree c]
    · rw [(h c).2.2.2.1]
      refine (Cert.Kernel7Ideal.Ada.final_avgSq m c).trans (Eq.trans ?_ (Cert.Reference7Ideal.Ada.avgSq_part _ _ _ c).symm)
      simp only [Gr, Sq, hagree c]
  · refine (θ_run Cert.Reference7Ideal.defs _ _).mono (fun _ h => ⟨?_, ?_, ?_, ?_, (h 0).2.2.2.2⟩)
      (Cert.Reference7Ideal.Value.run (F := Ideal) m' ρ')
    · rw [(h 0).1]; exact Cert.Reference7Ideal.Read.val_main_v3_eq _ _
    · rw [(h 0).2.1]; exact Cert.Reference7Ideal.Read.val_main_v27_eq _ _ _ _ _
    · rw [(h 0).2.2.1]; exact Cert.Reference7Ideal.Read.val_main_v8_eq _ _ _
    · rw [(h 0).2.2.2.1]; exact Cert.Reference7Ideal.Read.val_main_v14_eq _ _ _

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.Pre_finite4.Gen.facts,
  fun m ρ _ => Cert.Kernel.Mlp.framed m ρ, fun m ρ _ => Cert.KernelIdeal.Mlp.framed m ρ,
  fun m ρ _ => Cert.KernelIdeal.Mlp.framed m ρ, quiescent_ReferenceIdeal,
  fun m ρ h => quiescent_ReferenceIdeal m ρ trivial, fun m ρ _ => Cert.Kernel2.Gen.frame m ρ, fun m ρ _ => Cert.Kernel2Ideal.Gen.frame m ρ, quiescent_Reference2Ideal, fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, fun m ρ _ => Cert.Kernel4Ideal.Gen.frame m ρ,
  quiescent_Reference4Ideal, fun m ρ _ => quiescent_Reference4Ideal m ρ trivial,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  (trivial : preserves_Kernel_KernelIdeal), algebraic_KernelIdeal_ReferenceIdeal_pre_finite, (trivial : preserves_Kernel2_Kernel2Ideal), algebraic_Kernel2Ideal_Reference2Ideal, (trivial : preserves_Kernel3_Kernel3Ideal), algebraic_Kernel3Ideal_Reference3Ideal,
  (trivial : preserves_Kernel4_Kernel4Ideal), algebraic_Kernel4Ideal_Reference4Ideal_pre_finite4,
  (trivial : preserves_Kernel5_Kernel5Ideal), algebraic_Kernel5Ideal_Reference5Ideal,
  (trivial : preserves_Kernel6_Kernel6Ideal), algebraic_Kernel6Ideal_Reference6Ideal,
  (trivial : preserves_Kernel7_Kernel7Ideal), algebraic_Kernel7Ideal_Reference7Ideal⟩

end Cert.Proof

end
